-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)) (v5 : (c : Dev Cert.KernelIdeal.nD) → Buf (Elt Ideal) ((c.tc : Thread Cert.KernelIdeal.nD Cert.KernelIdeal.τ).loc Cert.KernelIdeal.main_v44_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_v44_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_v110) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v20) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v9_0)) (v1 : (c : Dev Cert.Kernel10Ideal.nD) → Buf (Elt Ideal) ((c.tc : Thread Cert.Kernel10Ideal.nD Cert.Kernel10Ideal.τ).loc Cert.Kernel10Ideal.main_v9_1)) (v2 : (c : Dev Cert.Kernel10Ideal.nD) → Buf (Elt Ideal) ((c.tc : Thread Cert.Kernel10Ideal.nD Cert.Kernel10Ideal.τ).loc Cert.Kernel10Ideal.main_v9_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v9_0) = v0 c
          ∧ r.2.mem ((c.tc : Thread Cert.Kernel10Ideal.nD Cert.Kernel10Ideal.τ).loc Cert.Kernel10Ideal.main_v9_1) = v1 c
          ∧ r.2.mem ((c.tc : Thread Cert.Kernel10Ideal.nD Cert.Kernel10Ideal.τ).loc Cert.Kernel10Ideal.main_v9_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v7) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)) (v2 : (c : Dev Cert.Kernel11Ideal.nD) → Buf (Elt Ideal) ((c.tc : Thread Cert.Kernel11Ideal.nD Cert.Kernel11Ideal.τ).loc Cert.Kernel11Ideal.main_v9_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_v9_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v58) = v0 c
          ∧ r.2.mem ((c.tc : Thread Cert.Reference11Ideal.nD Cert.Reference11Ideal.τ).loc Cert.Reference11Ideal.main_v71) = v1 c
          ∧ r.2.mem ((c.tc : Thread Cert.Reference11Ideal.nD Cert.Reference11Ideal.τ).loc Cert.Reference11Ideal.main_v72) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v18_0)) (v1 : (c : Dev Cert.Kernel12Ideal.nD) → Buf (Elt Ideal) ((c.tc : Thread Cert.Kernel12Ideal.nD Cert.Kernel12Ideal.τ).loc Cert.Kernel12Ideal.main_v18_1)) (v2 : (c : Dev Cert.Kernel12Ideal.nD) → Buf (Elt Ideal) ((c.tc : Thread Cert.Kernel12Ideal.nD Cert.Kernel12Ideal.τ).loc Cert.Kernel12Ideal.main_v18_2)) (v3 : (c : Dev Cert.Kernel12Ideal.nD) → Buf (Elt Ideal) ((c.tc : Thread Cert.Kernel12Ideal.nD Cert.Kernel12Ideal.τ).loc Cert.Kernel12Ideal.main_v18_3)) (v4 : (c : Dev Cert.Kernel12Ideal.nD) → Buf (Elt Ideal) ((c.tc : Thread Cert.Kernel12Ideal.nD Cert.Kernel12Ideal.τ).loc Cert.Kernel12Ideal.main_v18_4)) (v5 : (c : Dev Cert.Kernel12Ideal.nD) → Buf (Elt Ideal) ((c.tc : Thread Cert.Kernel12Ideal.nD Cert.Kernel12Ideal.τ).loc Cert.Kernel12Ideal.main_v18_5)) (v6 : (c : Dev Cert.Kernel12Ideal.nD) → Buf (Elt Ideal) ((c.tc : Thread Cert.Kernel12Ideal.nD Cert.Kernel12Ideal.τ).loc Cert.Kernel12Ideal.main_v18_6)) (v7 : (c : Dev Cert.Kernel12Ideal.nD) → Buf (Elt Ideal) ((c.tc : Thread Cert.Kernel12Ideal.nD Cert.Kernel12Ideal.τ).loc Cert.Kernel12Ideal.main_v18_7)) (v8 : (c : Dev Cert.Kernel12Ideal.nD) → Buf (Elt Ideal) ((c.tc : Thread Cert.Kernel12Ideal.nD Cert.Kernel12Ideal.τ).loc Cert.Kernel12Ideal.main_v18_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v18_0) = v0 c
          ∧ r.2.mem ((c.tc : Thread Cert.Kernel12Ideal.nD Cert.Kernel12Ideal.τ).loc Cert.Kernel12Ideal.main_v18_1) = v1 c
          ∧ r.2.mem ((c.tc : Thread Cert.Kernel12Ideal.nD Cert.Kernel12Ideal.τ).loc Cert.Kernel12Ideal.main_v18_2) = v2 c
          ∧ r.2.mem ((c.tc : Thread Cert.Kernel12Ideal.nD Cert.Kernel12Ideal.τ).loc Cert.Kernel12Ideal.main_v18_3) = v3 c
          ∧ r.2.mem ((c.tc : Thread Cert.Kernel12Ideal.nD Cert.Kernel12Ideal.τ).loc Cert.Kernel12Ideal.main_v18_4) = v4 c
          ∧ r.2.mem ((c.tc : Thread Cert.Kernel12Ideal.nD Cert.Kernel12Ideal.τ).loc Cert.Kernel12Ideal.main_v18_5) = v5 c
          ∧ r.2.mem ((c.tc : Thread Cert.Kernel12Ideal.nD Cert.Kernel12Ideal.τ).loc Cert.Kernel12Ideal.main_v18_6) = v6 c
          ∧ r.2.mem ((c.tc : Thread Cert.Kernel12Ideal.nD Cert.Kernel12Ideal.τ).loc Cert.Kernel12Ideal.main_v18_7) = v7 c
          ∧ r.2.mem ((c.tc : Thread Cert.Kernel12Ideal.nD Cert.Kernel12Ideal.τ).loc Cert.Kernel12Ideal.main_v18_8) = v8 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v71) = v1 c
          ∧ r.2.mem ((c.tc : Thread Cert.Reference12Ideal.nD Cert.Reference12Ideal.τ).loc Cert.Reference12Ideal.main_v72) = v2 c
          ∧ r.2.mem ((c.tc : Thread Cert.Reference12Ideal.nD Cert.Reference12Ideal.τ).loc Cert.Reference12Ideal.main_v73) = v3 c
          ∧ r.2.mem ((c.tc : Thread Cert.Reference12Ideal.nD Cert.Reference12Ideal.τ).loc Cert.Reference12Ideal.main_v74) = v4 c
          ∧ r.2.mem ((c.tc : Thread Cert.Reference12Ideal.nD Cert.Reference12Ideal.τ).loc Cert.Reference12Ideal.main_v75) = v5 c
          ∧ r.2.mem ((c.tc : Thread Cert.Reference12Ideal.nD Cert.Reference12Ideal.τ).loc Cert.Reference12Ideal.main_v76) = v6 c
          ∧ r.2.mem ((c.tc : Thread Cert.Reference12Ideal.nD Cert.Reference12Ideal.τ).loc Cert.Reference12Ideal.main_v77) = v7 c
          ∧ r.2.mem ((c.tc : Thread Cert.Reference12Ideal.nD Cert.Reference12Ideal.τ).loc Cert.Reference12Ideal.main_v79) = v8 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v76) = v0 c
          ∧ r.2.mem ((c.tc : Thread Cert.Reference13Ideal.nD Cert.Reference13Ideal.τ).loc Cert.Reference13Ideal.main_v78) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v28) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v33) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v27) = v1 c
          ∧ r.2.mem ((c.tc : Thread Cert.Reference18Ideal.nD Cert.Reference18Ideal.τ).loc Cert.Reference18Ideal.main_v8) = v2 c
          ∧ r.2.mem ((c.tc : Thread Cert.Reference18Ideal.nD Cert.Reference18Ideal.τ).loc Cert.Reference18Ideal.main_v14) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_ffn_finite : Cert.Pre_ffn_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_ffn_finite.lean ====
abbrev S8192x1024 : Shape := ⟨2, ![8192, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024x2816 .f32) (main_arg3 : FVec F S1024x2816 .f32) (main_arg4 : FVec F S2816x1024 .f32) : IVec S8192x1024 1 × IVec S8192x1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S8192x1024 : Shape := ⟨2, ![8192, 1024]⟩
abbrev S8192x512 : Shape := ⟨2, ![8192, 512]⟩
abbrev S8192x5120 : Shape := ⟨2, ![8192, 5120]⟩
abbrev S3x1024 : Shape := ⟨2, ![3, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8x1024 : Shape := ⟨2, ![8, 1024]⟩
abbrev S1 : Shape := ⟨1, ![1]⟩
abbrev S2x1024 : Shape := ⟨2, ![2, 1024]⟩
abbrev S8194x1024 : Shape := ⟨2, ![8194, 1024]⟩
abbrev S1024 : Shape := ⟨1, ![1024]⟩
abbrev S512x512 : Shape := ⟨2, ![512, 512]⟩
abbrev S512x5120 : Shape := ⟨2, ![512, 5120]⟩

abbrev nBuf : Space → Nat
  | .hbm => 65
  | .vmem => 35
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x5120, .f32⟩
  | .hbm, ⟨3, _⟩ => ⟨S3x1024, .f32⟩
  | .hbm, ⟨4, _⟩ => ⟨S1x1024, .f32⟩
  | .hbm, ⟨5, _⟩ => ⟨S3x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S8x1024, .f32⟩
  | .hbm, ⟨11, _⟩ => ⟨S_, .i32⟩
  | .hbm, ⟨12, _⟩ => ⟨S1, .i32⟩
  | .hbm, ⟨13, _⟩ => ⟨S8x1024, .f32⟩
  | .hbm, ⟨14, _⟩ => ⟨S_, .i32⟩
  | .hbm, ⟨15, _⟩ => ⟨S1, .i32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S_, .i32⟩
  | .hbm, ⟨20, _⟩ => ⟨S1, .i32⟩
  | .hbm, ⟨21, _⟩ => ⟨S8x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S2x1024, .f32⟩
  | .hbm, ⟨28, _⟩ => ⟨S8194x1024, .f32⟩
  | .hbm, ⟨29, _⟩ => ⟨S8192x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x5120, .bf16⟩
  | .hbm, ⟨56, _⟩ => ⟨S512x1024, .bf16⟩
  | .hbm, ⟨57, _⟩ => ⟨S1024x1024, .bf16⟩
  | .hbm, ⟨58, _⟩ => ⟨S1024x1024, .bf16⟩
  | .hbm, ⟨59, _⟩ => ⟨S8192x512, .f32⟩
  | .hbm, ⟨60, _⟩ => ⟨S8192x5120, .bf16⟩
  | .hbm, ⟨61, _⟩ => ⟨S8192x1024, .bf16⟩
  | .hbm, ⟨62, _⟩ => ⟨S8192x1024, .bf16⟩
  | .hbm, ⟨63, _⟩ => ⟨S8192x1024, .bf16⟩
  | .hbm, ⟨64, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S8x1024, .f32⟩
  | .local _ .vmem, ⟨19, _⟩ => ⟨S8x1024, .f32⟩
  | .local _ .vmem, ⟨20, _⟩ => ⟨S512x1024, .bf16⟩
  | .local _ .vmem, ⟨21, _⟩ => ⟨S1024x1024, .bf16⟩
  | .local _ .vmem, ⟨22, _⟩ => ⟨S1024x1024, .bf16⟩
  | .local _ .vmem, ⟨23, _⟩ => ⟨S512x512, .f32⟩
  | .local _ .vmem, ⟨24, _⟩ => ⟨S512x512, .f32⟩
  | .local _ .vmem, ⟨25, _⟩ => ⟨S512x5120, .bf16⟩
  | .local _ .vmem, ⟨26, _⟩ => ⟨S512x5120, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S8x1024, .f32⟩
  | .local _ .vmem, ⟨34, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v44_3 : Ref sig .tc := ⟨.hbm, 62, rfl⟩
abbrev main_v44_4 : Ref sig .tc := ⟨.hbm, 63, rfl⟩
abbrev main_v44_5 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x5120 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1024 : Shape := ⟨2, ![8192, 1024]⟩
abbrev S8192x512 : Shape := ⟨2, ![8192, 512]⟩
abbrev S8192x5120 : Shape := ⟨2, ![8192, 5120]⟩
abbrev S3x1024 : Shape := ⟨2, ![3, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S2x1024 : Shape := ⟨2, ![2, 1024]⟩
abbrev S8194x1024 : Shape := ⟨2, ![8194, 1024]⟩
abbrev S1024 : Shape := ⟨1, ![1024]⟩
abbrev S8x1024 : Shape := ⟨2, ![8, 1024]⟩

abbrev nBuf : Space → Nat
  | .hbm => 142
  | .vmem => 0
  | .smem => 0
  | _ => 0

abbrev hbmTy0_0 (i : Nat) : BufTy := match i % 128 with
  | 0 => ⟨S8192x1024, .f32⟩
  | 1 => ⟨S8192x512, .f32⟩
  | 2 => ⟨S8192x5120, .f32⟩
  | 3 => ⟨S3x1024, .f32⟩
  | 4 => ⟨S1x1024, .f32⟩
  | 5 => ⟨S3x1024, .f32⟩
  | 6 => ⟨S512x1024, .f32⟩
  | 7 => ⟨S1024x1024, .f32⟩
  | 8 => ⟨S1024x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S1x1024, .f32⟩
  | 15 => ⟨S8192x1024, .f32⟩
  | 16 => ⟨S8192x1024, .f32⟩
  | 17 => ⟨S_, .f32⟩
  | 18 => ⟨S2x1024, .f32⟩
  | 19 => ⟨S8194x1024, .f32⟩
  | 20 => ⟨S_, .f32⟩
  | 21 => ⟨S2x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S1x1024, .f32⟩
  | 30 => ⟨S1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x512, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S_, .f32⟩
  | 94 => ⟨S1024, .f32⟩
  | 95 => ⟨S1x1024, .f32⟩
  | 96 => ⟨S_, .f32⟩
  | 97 => ⟨S3x1024, .f32⟩
  | 98 => ⟨S_, .f32⟩
  | 99 => ⟨S8194x1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S1x1024, .f32⟩
  | 109 => ⟨S_, .f32⟩
  | 110 => ⟨S3x1024, .f32⟩
  | 111 => ⟨S3x1024, .f32⟩
  | 112 => ⟨S_, .f32⟩
  | 113 => ⟨S8194x1024, .f32⟩
  | 114 => ⟨S8194x1024, .f32⟩
  | 115 => ⟨S8192x1024, .f32⟩
  | 116 => ⟨S_, .f32⟩
  | 117 => ⟨S1024, .f32⟩
  | 118 => ⟨S1x1024, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S_, .f32⟩
  | 125 => ⟨S3x1024, .f32⟩
  | 126 => ⟨S3x1024, .f32⟩
  | 127 => ⟨S_, .f32⟩
  | _ => ⟨S8192x1024, .f32⟩

abbrev hbmTy0_1 (i : Nat) : BufTy := match i % 128 with
  | 0 => ⟨S8194x1024, .f32⟩
  | 1 => ⟨S8194x1024, .f32⟩
  | 2 => ⟨S2x1024, .f32⟩
  | 3 => ⟨S8192x1024, .f32⟩
  | 4 => ⟨S8192x1024, .f32⟩
  | 5 => ⟨S8192x1024, .f32⟩
  | 6 => ⟨S8192x5120, .f32⟩
  | 7 => ⟨S8192x5120, .bf16⟩
  | 8 => ⟨S8192x1024, .bf16⟩
  | 9 => ⟨S8192x1024, .bf16⟩
  | 10 => ⟨S8192x1024, .bf16⟩
  | 11 => ⟨S_, .i32⟩
  | 12 => ⟨S_, .f32⟩
  | 13 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_8 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_12 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_16 : Ref sig .tc := ⟨.hbm, 121, rfl⟩
abbrev main_v95 : Ref sig .tc := ⟨.hbm, 122, rfl⟩
abbrev main_v96 : Ref sig .tc := ⟨.hbm, 123, rfl⟩
abbrev main_cst_17 : Ref sig .tc := ⟨.hbm, 124, rfl⟩
abbrev main_v97 : Ref sig .tc := ⟨.hbm, 125, rfl⟩
abbrev main_v98 : Ref sig .tc := ⟨.hbm, 126, rfl⟩
abbrev main_cst_18 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_c : Ref sig .tc := ⟨.hbm, 139, rfl⟩
abbrev main_call0_v0 : Ref sig .tc := ⟨.hbm, 140, rfl⟩
abbrev main_v110 : Ref sig .tc := ⟨.hbm, 141, rfl⟩

abbrev nD : Nat := 1
abbrev τ : Topo := Topo.v7x

variable {F : FTy → Type} [FloatOps F]
-- ==== Kernel2.lean ====
abbrev S8192x1024 : Shape := ⟨2, ![8192, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S1024x1024 : Shape := ⟨2, ![1024, 1024]⟩
abbrev S1x1024x704 : Shape := ⟨3, ![1, 1024, 704]⟩
abbrev S1x704x1024 : Shape := ⟨3, ![1, 704, 1024]⟩
abbrev S1x256x1024 : Shape := ⟨3, ![1, 256, 1024]⟩
abbrev S256x1024 : Shape := ⟨2, ![256, 1024]⟩
abbrev S1024x256 : Shape := ⟨2, ![1024, 256]⟩
abbrev S1x1024x256 : Shape := ⟨3, ![1, 1024, 256]⟩
abbrev S1x192x1024 : Shape := ⟨3, ![1, 192, 1024]⟩
abbrev S192x1024 : Shape := ⟨2, ![192, 1024]⟩
abbrev S1024x192 : Shape := ⟨2, ![1024, 192]⟩
abbrev S1x1024x192 : Shape := ⟨3, ![1, 1024, 192]⟩

abbrev nBuf : Space → Nat
  | .hbm => 26
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x4x704, .bf16⟩
  | .hbm, ⟨7, _⟩ => ⟨S4x1024x704, .bf16⟩
  | .hbm, ⟨8, _⟩ => ⟨S1024x2816, .bf16⟩
  | .hbm, ⟨9, _⟩ => ⟨S1024x4x704, .bf16⟩
  | .hbm, ⟨10, _⟩ => ⟨S4x1024x704, .bf16⟩
  | .hbm, ⟨11, _⟩ => ⟨S2816x1024, .bf16⟩
  | .hbm, ⟨12, _⟩ => ⟨S4x704x1024, .bf16⟩
  | .hbm, ⟨13, _⟩ => ⟨S8192x1024, .bf16⟩
  | .hbm, ⟨14, _⟩ => ⟨S8192x2816, .f32⟩
  | .hbm, ⟨15, _⟩ => ⟨S8192x2816, .bf16⟩
  | .hbm, ⟨16, _⟩ => ⟨S8192x4x704, .bf16⟩
  | .hbm, ⟨17, _⟩ => ⟨S4x8192x704, .bf16⟩
  | .hbm, ⟨18, _⟩ => ⟨S8192x2816, .f32⟩
  | .hbm, ⟨19, _⟩ => ⟨S8192x2816, .bf16⟩
  | .hbm, ⟨20, _⟩ => ⟨S8192x4x704, .bf16⟩
  | .hbm, ⟨21, _⟩ => ⟨S4x8192x704, .bf16⟩
  | .hbm, ⟨22, _⟩ => ⟨S8192x1024, .f32⟩
  | .hbm, ⟨23, _⟩ => ⟨S4x8192x704, .bf16⟩
  | .hbm, ⟨24, _⟩ => ⟨S4x8192x704, .bf16⟩
  | .hbm, ⟨25, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x704x1024, .bf16⟩
  | .local _ .vmem, ⟨11, _⟩ => ⟨S1x704x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024x704, .bf16⟩
  | .local _ .vmem, ⟨15, _⟩ => ⟨S1x1024x704, .bf16⟩
  | .local _ .vmem, ⟨16, _⟩ => ⟨S1x1024x704, .bf16⟩
  | .local _ .vmem, ⟨17, _⟩ => ⟨S1x1024x704, .bf16⟩
  | .local _ .vmem, ⟨18, _⟩ => ⟨S1x1024x704, .bf16⟩
  | .local _ .vmem, ⟨19, _⟩ => ⟨S1x1024x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v142 : BitVec 1 := Scalar.cmpi .eq arg1 c0_i32
  let v143 : BitVec 32 := Scalar.extui v142
  let c0_i32_94 : BitVec 32 := 0#32
  let v144 : BitVec 1 := Scalar.cmpi .ne v143 c0_i32_94
  v144

def k0_cond2 (i : grid0.Coords) : BitVec 1 :=
  let arg1 : BitVec 32 := BitVec.ofNat 32 (i 1).val
  let c0_i32_95 : BitVec 32 := 0#32
  let v145 : BitVec 1 := Scalar.cmpi .sgt arg1 c0_i32_95
  let v146 : BitVec 32 := Scalar.extui v145
  let c0_i32_96 : BitVec 32 := 0#32
  let v147 : BitVec 1 := Scalar.cmpi .ne v146 c0_i32_96
  v147

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2816, .bf16⟩
  | .hbm, ⟨33, _⟩ => ⟨S8192x4x704, .bf16⟩
  | .hbm, ⟨34, _⟩ => ⟨S4x8192x704, .bf16⟩
  | .hbm, ⟨35, _⟩ => ⟨S8192x2816, .bf16⟩
  | .hbm, ⟨36, _⟩ => ⟨S8192x4x704, .bf16⟩
  | .hbm, ⟨37, _⟩ => ⟨S4x8192x704, .bf16⟩
  | .hbm, ⟨38, _⟩ => ⟨S8192x2816, .bf16⟩
  | .hbm, ⟨39, _⟩ => ⟨S8192x4x704, .bf16⟩
  | .hbm, ⟨40, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel3.lean ====
abbrev S8192x1024 : Shape := ⟨2, ![8192, 1024]⟩
abbrev S8192x2816 : Shape := ⟨2, ![8192, 2816]⟩
abbrev S1024x8192 : Shape := ⟨2, ![1024, 8192]⟩
abbrev S8192x4x704 : Shape := ⟨3, ![8192, 4, 704]⟩
abbrev S4x8192x704 : Shape := ⟨3, ![4, 8192, 704]⟩
abbrev S4x1024x704 : Shape := ⟨3, ![4, 1024, 704]⟩
abbrev S1024x2048 : Shape := ⟨2, ![1024, 2048]⟩
abbrev S1x2048x704 : Shape := ⟨3, ![1, 2048, 704]⟩
abbrev S1x1024x704 : Shape := ⟨3, ![1, 1024, 704]⟩
abbrev S1024x704 : Shape := ⟨2, ![1024, 704]⟩
abbrev S256x2048 : Shape := ⟨2, ![256, 2048]⟩
abbrev S2048x704 : Shape := ⟨2, ![2048, 704]⟩
abbrev S256x704 : Shape := ⟨2, ![256, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S1024x8192, .f32⟩
  | .hbm, ⟨3, _⟩ => ⟨S1024x8192, .bf16⟩
  | .hbm, ⟨4, _⟩ => ⟨S8192x2816, .bf16⟩
  | .hbm, ⟨5, _⟩ => ⟨S8192x4x704, .bf16⟩
  | .hbm, ⟨6, _⟩ => ⟨S4x8192x704, .bf16⟩
  | .hbm, ⟨7, _⟩ => ⟨S4x1024x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_36 : BitVec 32 := 0#32
  let v45 : BitVec 1 := Scalar.cmpi .ne v44 c0_i32_36
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | .hbm, ⟨8, _⟩ => ⟨S1024x4x704, .bf16⟩
  | .hbm, ⟨9, _⟩ => ⟨S4x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩
abbrev S2048x256 : Shape := ⟨2, ![2048, 256]⟩
abbrev S704x256 : Shape := ⟨2, ![704, 256]⟩

abbrev nBuf : Space → Nat
  | .hbm => 7
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S8192x1024, .bf16⟩
  | .hbm, ⟨6, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_36 : BitVec 32 := 0#32
  let v45 : BitVec 1 := Scalar.cmpi .ne v44 c0_i32_36
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1536 : Shape := ⟨2, ![8192, 1536]⟩
abbrev S8192x5120 : Shape := ⟨2, ![8192, 5120]⟩
abbrev S1024x9728 : Shape := ⟨2, ![1024, 9728]⟩
abbrev S8192x1024 : Shape := ⟨2, ![8192, 1024]⟩
abbrev S512x1536 : Shape := ⟨2, ![512, 1536]⟩
abbrev S512x5120 : Shape := ⟨2, ![512, 5120]⟩
abbrev S512x1024 : Shape := ⟨2, ![512, 1024]⟩
abbrev S1024x1536 : Shape := ⟨2, ![1024, 1536]⟩
abbrev S1024x5120 : Shape := ⟨2, ![1024, 5120]⟩

abbrev nBuf : Space → Nat
  | .hbm => 11
  | .vmem => 11
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x5120, .f32⟩
  | .hbm, ⟨4, _⟩ => ⟨S1024x9728, .f32⟩
  | .hbm, ⟨5, _⟩ => ⟨S8192x1536, .bf16⟩
  | .hbm, ⟨6, _⟩ => ⟨S8192x1536, .bf16⟩
  | .hbm, ⟨7, _⟩ => ⟨S8192x1536, .bf16⟩
  | .hbm, ⟨8, _⟩ => ⟨S8192x5120, .bf16⟩
  | .hbm, ⟨9, _⟩ => ⟨S1024x9728, .bf16⟩
  | .hbm, ⟨10, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S512x1536, .bf16⟩
  | .local _ .vmem, ⟨5, _⟩ => ⟨S512x1536, .bf16⟩
  | .local _ .vmem, ⟨6, _⟩ => ⟨S512x5120, .bf16⟩
  | .local _ .vmem, ⟨7, _⟩ => ⟨S512x5120, .bf16⟩
  | .local _ .vmem, ⟨8, _⟩ => ⟨S1024x9728, .bf16⟩
  | .local _ .vmem, ⟨9, _⟩ => ⟨S512x1024, .f32⟩
  | .local _ .vmem, ⟨10, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x9728 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8192x1536 : Shape := ⟨2, ![8192, 1536]⟩
abbrev S8192x5120 : Shape := ⟨2, ![8192, 5120]⟩
abbrev S1024x9728 : Shape := ⟨2, ![1024, 9728]⟩
abbrev S_ : Shape := ⟨0, ![]⟩
abbrev S8192x1024 : Shape := ⟨2, ![8192, 1024]⟩
abbrev S8192x9728 : Shape := ⟨2, ![8192, 9728]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1536, .f32⟩
  | .hbm, ⟨2, _⟩ => ⟨S8192x1536, .f32⟩
  | .hbm, ⟨3, _⟩ => ⟨S8192x5120, .f32⟩
  | .hbm, ⟨4, _⟩ => ⟨S1024x9728, .f32⟩
  | .hbm, ⟨5, _⟩ => ⟨S_, .f32⟩
  | .hbm, ⟨6, _⟩ => ⟨S8192x1024, .f32⟩
  | .hbm, ⟨7, _⟩ => ⟨S8192x9728, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S8192x5120, .f32⟩
  | .hbm, ⟨12, _⟩ => ⟨S8192x9728, .f32⟩
  | .hbm, ⟨13, _⟩ => ⟨S8192x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S8192x1536 : Shape := ⟨2, ![8192, 1536]⟩
abbrev S1024x8192 : Shape := ⟨2, ![1024, 8192]⟩
abbrev S1024x1536 : Shape := ⟨2, ![1024, 1536]⟩
abbrev S1024x2048 : Shape := ⟨2, ![1024, 2048]⟩
abbrev S2048x1536 : Shape := ⟨2, ![2048, 1536]⟩
abbrev S256x2048 : Shape := ⟨2, ![256, 2048]⟩
abbrev S256x1536 : Shape := ⟨2, ![256, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S1024x8192, .f32⟩
  | .hbm, ⟨3, _⟩ => ⟨S1024x8192, .bf16⟩
  | .hbm, ⟨4, _⟩ => ⟨S8192x1536, .bf16⟩
  | .hbm, ⟨5, _⟩ => ⟨S1024x1536, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference6Ideal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1536, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x5120 : Shape := ⟨2, ![8192, 5120]⟩
abbrev S1024x8192 : Shape := ⟨2, ![1024, 8192]⟩
abbrev S1024x5120 : Shape := ⟨2, ![1024, 5120]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S1024x8192, .f32⟩
  | .hbm, ⟨3, _⟩ => ⟨S1024x8192, .bf16⟩
  | .hbm, ⟨4, _⟩ => ⟨S8192x5120, .bf16⟩
  | .hbm, ⟨5, _⟩ => ⟨S1024x5120, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x5120 : Shape := ⟨2, ![8192, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5120, .f32⟩
  | .hbm, ⟨2, _⟩ => ⟨S_, .f32⟩
  | .hbm, ⟨3, _⟩ => ⟨S1024x5120, .f32⟩
  | .hbm, ⟨4, _⟩ => ⟨S8192x5120, .f32⟩
  | .hbm, ⟨5, _⟩ => ⟨S5120x1024, .f32⟩
  | .hbm, ⟨6, _⟩ => ⟨S1024x5120, .f32⟩
  | .hbm, ⟨7, _⟩ => ⟨S1024x5120, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x256 : Shape := ⟨2, ![2048, 256]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S8192x1024, .bf16⟩
  | .hbm, ⟨4, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩
abbrev S256x256 : Shape := ⟨2, ![256, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_32 : BitVec 32 := 0#32
  let v45 : BitVec 1 := Scalar.cmpi .ne v44 c0_i32_32
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S4x256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4x704x1024 : Shape := ⟨3, ![4, 704, 1024]⟩
abbrev S4x8192x704 : Shape := ⟨3, ![4, 8192, 704]⟩
abbrev S1024x1024 : Shape := ⟨2, ![1024, 1024]⟩
abbrev S1x1024x704 : Shape := ⟨3, ![1, 1024, 704]⟩
abbrev S1x704x1024 : Shape := ⟨3, ![1, 704, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024x192 : Shape := ⟨3, ![1, 1024, 192]⟩
abbrev S1024x192 : Shape := ⟨2, ![1024, 192]⟩
abbrev S1x192x1024 : Shape := ⟨3, ![1, 192, 1024]⟩
abbrev S192x1024 : Shape := ⟨2, ![192, 1024]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x1024, .bf16⟩
  | .hbm, ⟨5, _⟩ => ⟨S1024x2816, .bf16⟩
  | .hbm, ⟨6, _⟩ => ⟨S1024x4x704, .bf16⟩
  | .hbm, ⟨7, _⟩ => ⟨S4x1024x704, .bf16⟩
  | .hbm, ⟨8, _⟩ => ⟨S1024x2816, .bf16⟩
  | .hbm, ⟨9, _⟩ => ⟨S1024x4x704, .bf16⟩
  | .hbm, ⟨10, _⟩ => ⟨S4x1024x704, .bf16⟩
  | .hbm, ⟨11, _⟩ => ⟨S2816x1024, .bf16⟩
  | .hbm, ⟨12, _⟩ => ⟨S4x704x1024, .bf16⟩
  | .hbm, ⟨13, _⟩ => ⟨S4x8192x704, .bf16⟩
  | .hbm, ⟨14, _⟩ => ⟨S4x8192x704, .bf16⟩
  | .hbm, ⟨15, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v85 : BitVec 1 := Scalar.cmpi .eq arg1 c0_i32
  let v86 : BitVec 32 := Scalar.extui v85
  let c0_i32_61 : BitVec 32 := 0#32
  let v87 : BitVec 1 := Scalar.cmpi .ne v86 c0_i32_61
  v87

def k0_cond2 (i : grid0.Coords) : BitVec 1 :=
  let arg1 : BitVec 32 := BitVec.ofNat 32 (i 1).val
  let c0_i32_62 : BitVec 32 := 0#32
  let v88 : BitVec 1 := Scalar.cmpi .sgt arg1 c0_i32_62
  let v89 : BitVec 32 := Scalar.extui v88
  let c0_i32_63 : BitVec 32 := 0#32
  let v90 : BitVec 1 := Scalar.cmpi .ne v89 c0_i32_63
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference10Ideal.lean ====
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S8192x4x704 : Shape := ⟨3, ![8192, 4, 704]⟩
abbrev S4x8192x704 : Shape := ⟨3, ![4, 8192, 704]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S8192x2816, .f32⟩
  | .hbm, ⟨5, _⟩ => ⟨S8192x2816, .f32⟩
  | .hbm, ⟨6, _⟩ => ⟨S8192x2816, .bf16⟩
  | .hbm, ⟨7, _⟩ => ⟨S8192x4x704, .bf16⟩
  | .hbm, ⟨8, _⟩ => ⟨S4x8192x704, .bf16⟩
  | .hbm, ⟨9, _⟩ => ⟨S8192x2816, .bf16⟩
  | .hbm, ⟨10, _⟩ => ⟨S8192x4x704, .bf16⟩
  | .hbm, ⟨11, _⟩ => ⟨S4x8192x704, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel11.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S1x1024, .f32⟩
  | .hbm, ⟨6, _⟩ => ⟨S3x1024, .f32⟩
  | .hbm, ⟨7, _⟩ => ⟨S_, .f32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S_, .i32⟩
  | .hbm, ⟨18, _⟩ => ⟨S1, .i32⟩
  | .hbm, ⟨19, _⟩ => ⟨S8x1024, .f32⟩
  | .hbm, ⟨20, _⟩ => ⟨S8192x1024, .bf16⟩
  | .hbm, ⟨21, _⟩ => ⟨S8192x1024, .f32⟩
  | .hbm, ⟨22, _⟩ => ⟨S8x1024, .f32⟩
  | .hbm, ⟨23, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S512x1024, .bf16⟩
  | .local _ .vmem, ⟨14, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S1x1024, .f32⟩
  | .hbm, ⟨6, _⟩ => ⟨S3x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S4x1024, .f32⟩
  | .hbm, ⟨93, _⟩ => ⟨S8x1024, .f32⟩
  | .hbm, ⟨94, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Kernel12.lean ====
abbrev S8192x1024 : Shape := ⟨2, ![8192, 1024]⟩
abbrev S8192x512 : Shape := ⟨2, ![8192, 512]⟩
abbrev S8192x5120 : Shape := ⟨2, ![8192, 5120]⟩
abbrev S3x1024 : Shape := ⟨2, ![3, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8x1024 : Shape := ⟨2, ![8, 1024]⟩
abbrev S1 : Shape := ⟨1, ![1]⟩
abbrev S1024x8192 : Shape := ⟨2, ![1024, 8192]⟩
abbrev S512x512 : Shape := ⟨2, ![512, 512]⟩
abbrev S1024x512 : Shape := ⟨2, ![1024, 512]⟩
abbrev S512 : Shape := ⟨1, ![512]⟩
abbrev S512x1 : Shape := ⟨2, ![512, 1]⟩

abbrev nBuf : Space → Nat
  | .hbm => 46
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x5120, .f32⟩
  | .hbm, ⟨3, _⟩ => ⟨S3x1024, .f32⟩
  | .hbm, ⟨4, _⟩ => ⟨S1x1024, .f32⟩
  | .hbm, ⟨5, _⟩ => ⟨S3x1024, .f32⟩
  | .hbm, ⟨6, _⟩ => ⟨S1x1024, .f32⟩
  | .hbm, ⟨7, _⟩ => ⟨S3x1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S8x1024, .f32⟩
  | .hbm, ⟨13, _⟩ => ⟨S_, .i32⟩
  | .hbm, ⟨14, _⟩ => ⟨S1, .i32⟩
  | .hbm, ⟨15, _⟩ => ⟨S8x1024, .f32⟩
  | .hbm, ⟨16, _⟩ => ⟨S_, .i32⟩
  | .hbm, ⟨17, _⟩ => ⟨S1, .i32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S_, .i32⟩
  | .hbm, ⟨22, _⟩ => ⟨S1, .i32⟩
  | .hbm, ⟨23, _⟩ => ⟨S8x1024, .f32⟩
  | .hbm, ⟨24, _⟩ => ⟨S_, .i32⟩
  | .hbm, ⟨25, _⟩ => ⟨S1, .i32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S_, .i32⟩
  | .hbm, ⟨30, _⟩ => ⟨S1, .i32⟩
  | .hbm, ⟨31, _⟩ => ⟨S8x1024, .f32⟩
  | .hbm, ⟨32, _⟩ => ⟨S8192x512, .bf16⟩
  | .hbm, ⟨33, _⟩ => ⟨S8192x5120, .bf16⟩
  | .hbm, ⟨34, _⟩ => ⟨S512x1024, .bf16⟩
  | .hbm, ⟨35, _⟩ => ⟨S1024x1024, .bf16⟩
  | .hbm, ⟨36, _⟩ => ⟨S1024x1024, .bf16⟩
  | .hbm, ⟨37, _⟩ => ⟨S8192x1024, .f32⟩
  | .hbm, ⟨38, _⟩ => ⟨S8192x1024, .bf16⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S8x1024, .f32⟩
  | .local _ .vmem, ⟨16, _⟩ => ⟨S8x1024, .f32⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S1024x512, .bf16⟩
  | .local _ .vmem, ⟨37, _⟩ => ⟨S1024x512, .bf16⟩
  | .local _ .vmem, ⟨38, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_c_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev main_v18_5 : Ref sig .tc := ⟨.hbm, 42, rfl⟩
abbrev main_v18_6 : Ref sig .tc := ⟨.hbm, 43, rfl⟩
abbrev main_v18_7 : Ref sig .tc := ⟨.hbm, 44, rfl⟩
abbrev main_v18_8 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference12Ideal.lean ====
abbrev S8192x1024 : Shape := ⟨2, ![8192, 1024]⟩
abbrev S8192x512 : Shape := ⟨2, ![8192, 512]⟩
abbrev S8192x5120 : Shape := ⟨2, ![8192, 5120]⟩
abbrev S3x1024 : Shape := ⟨2, ![3, 1024]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S2x1024 : Shape := ⟨2, ![2, 1024]⟩
abbrev S8194x1024 : Shape := ⟨2, ![8194, 1024]⟩
abbrev S1024 : Shape := ⟨1, ![1024]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x5120, .f32⟩
  | .hbm, ⟨3, _⟩ => ⟨S3x1024, .f32⟩
  | .hbm, ⟨4, _⟩ => ⟨S1x1024, .f32⟩
  | .hbm, ⟨5, _⟩ => ⟨S3x1024, .f32⟩
  | .hbm, ⟨6, _⟩ => ⟨S1x1024, .f32⟩
  | .hbm, ⟨7, _⟩ => ⟨S3x1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S2x1024, .f32⟩
  | .hbm, ⟨20, _⟩ => ⟨S8194x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | .hbm, ⟨92, _⟩ => ⟨S8192x1024, .bf16⟩
  | .hbm, ⟨93, _⟩ => ⟨S8192x1024, .bf16⟩
  | .hbm, ⟨94, _⟩ => ⟨S8192x1024, .bf16⟩
  | .hbm, ⟨95, _⟩ => ⟨S8192x1024, .bf16⟩
  | .hbm, ⟨96, _⟩ => ⟨S8192x1024, .bf16⟩
  | .hbm, ⟨97, _⟩ => ⟨S8192x1024, .bf16⟩
  | .hbm, ⟨98, _⟩ => ⟨S1024x8192, .f32⟩
  | .hbm, ⟨99, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_cst_3 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_4 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_cst_6 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩

abbrev nD : Nat := 1
abbrev τ : Topo := Topo.v7x

variable {F : FTy → Type} [FloatOps F]
-- ==== Kernel13.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S1x1024, .f32⟩
  | .hbm, ⟨6, _⟩ => ⟨S_, .f32⟩
  | .hbm, ⟨7, _⟩ => ⟨S8x1024, .f32⟩
  | .hbm, ⟨8, _⟩ => ⟨S_, .i32⟩
  | .hbm, ⟨9, _⟩ => ⟨S1, .i32⟩
  | .hbm, ⟨10, _⟩ => ⟨S8x1024, .f32⟩
  | .hbm, ⟨11, _⟩ => ⟨S_, .i32⟩
  | .hbm, ⟨12, _⟩ => ⟨S1, .i32⟩
  | .hbm, ⟨13, _⟩ => ⟨S8x1024, .f32⟩
  | .hbm, ⟨14, _⟩ => ⟨S8192x1024, .f32⟩
  | .hbm, ⟨15, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S4x1024 : Shape := ⟨2, ![4, 1024]⟩
abbrev S8x1024 : Shape := ⟨2, ![8, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S4x1024, .f32⟩
  | .hbm, ⟨107, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_cst_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_17 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_19 : Ref sig .tc := ⟨.hbm, 95, rfl⟩
abbrev main_v69 : Ref sig .tc := ⟨.hbm, 96, rfl⟩
abbrev main_v70 : Ref sig .tc := ⟨.hbm, 97, rfl⟩
abbrev main_cst_20 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_21 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel14.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8x1024 : Shape := ⟨2, ![8, 1024]⟩
abbrev S1 : Shape := ⟨1, ![1]⟩
abbrev S1024x8192 : Shape := ⟨2, ![1024, 8192]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 21
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3x1024, .f32⟩
  | .hbm, ⟨3, _⟩ => ⟨S3x1024, .f32⟩
  | .hbm, ⟨4, _⟩ => ⟨S1x1024, .f32⟩
  | .hbm, ⟨5, _⟩ => ⟨S_, .f32⟩
  | .hbm, ⟨6, _⟩ => ⟨S8x1024, .f32⟩
  | .hbm, ⟨7, _⟩ => ⟨S_, .i32⟩
  | .hbm, ⟨8, _⟩ => ⟨S1, .i32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S_, .i32⟩
  | .hbm, ⟨16, _⟩ => ⟨S1, .i32⟩
  | .hbm, ⟨17, _⟩ => ⟨S8x1024, .f32⟩
  | .hbm, ⟨18, _⟩ => ⟨S8192x1024, .f32⟩
  | .hbm, ⟨19, _⟩ => ⟨S8192x1024, .bf16⟩
  | .hbm, ⟨20, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S3x1024, .f32⟩
  | .hbm, ⟨3, _⟩ => ⟨S3x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S1024x8192, .f32⟩
  | .hbm, ⟨38, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel15.lean ====
abbrev S8192x1024 : Shape := ⟨2, ![8192, 1024]⟩
abbrev S3x1024 : Shape := ⟨2, ![3, 1024]⟩
abbrev S_ : Shape := ⟨0, ![]⟩
abbrev S8x1024 : Shape := ⟨2, ![8, 1024]⟩
abbrev S1 : Shape := ⟨1, ![1]⟩
abbrev S512x1024 : Shape := ⟨2, ![512, 1024]⟩
abbrev S1x1024 : Shape := ⟨2, ![1, 1024]⟩
abbrev S64x8x1024 : Shape := ⟨3, ![64, 8, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S3x1024, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S8192x1024, .bf16⟩
  | .hbm, ⟨10, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference15Ideal.lean ====
abbrev S8192x1024 : Shape := ⟨2, ![8192, 1024]⟩
abbrev S3x1024 : Shape := ⟨2, ![3, 1024]⟩
abbrev S1x1024 : Shape := ⟨2, ![1, 1024]⟩
abbrev S_ : Shape := ⟨0, ![]⟩
abbrev S8192 : Shape := ⟨1, ![8192]⟩
abbrev S1024x8x1024 : Shape := ⟨3, ![1024, 8, 1024]⟩
abbrev S8x1024 : Shape := ⟨2, ![8, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S3x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x8x1024, .f32⟩
  | .hbm, ⟨47, _⟩ => ⟨S_, .f32⟩
  | .hbm, ⟨48, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Kernel16.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8x1024 : Shape := ⟨2, ![8, 1024]⟩
abbrev S1024x2304 : Shape := ⟨2, ![1024, 2304]⟩
abbrev S1x2304 : Shape := ⟨2, ![1, 2304]⟩
abbrev S8x2304 : Shape := ⟨2, ![8, 2304]⟩
abbrev S1024x128 : Shape := ⟨2, ![1024, 128]⟩
abbrev S1x128 : Shape := ⟨2, ![1, 128]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S1x2304, .f32⟩
  | .hbm, ⟨3, _⟩ => ⟨S8x2304, .f32⟩
  | .local _ .vmem, ⟨0, _⟩ => ⟨S8x1024, .f32⟩
  | .local _ .vmem, ⟨1, _⟩ => ⟨S1024x128, .f32⟩
  | .local _ .vmem, ⟨2, _⟩ => ⟨S1024x128, .f32⟩
  | .local _ .vmem, ⟨3, _⟩ => ⟨S1x128, .f32⟩
  | .local _ .vmem, ⟨4, _⟩ => ⟨S1x128, .f32⟩
  | .local _ .vmem, ⟨5, _⟩ => ⟨S8x128, .f32⟩
  | .local _ .vmem, ⟨6, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S8x1024 : Shape := ⟨2, ![8, 1024]⟩
abbrev S1024x2304 : Shape := ⟨2, ![1024, 2304]⟩
abbrev S1x2304 : Shape := ⟨2, ![1, 2304]⟩
abbrev S_ : Shape := ⟨0, ![]⟩
abbrev S8x2304 : Shape := ⟨2, ![8, 2304]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x2304, .f32⟩
  | .hbm, ⟨2, _⟩ => ⟨S1x2304, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x2304, .f32⟩
  | .hbm, ⟨13, _⟩ => ⟨S8x2304, .f32⟩
  | .hbm, ⟨14, _⟩ => ⟨S8x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel18.lean ====
abbrev S8x1024 : Shape := ⟨2, ![8, 1024]⟩
abbrev S8x2304 : Shape := ⟨2, ![8, 2304]⟩
abbrev S1024x2304 : Shape := ⟨2, ![1024, 2304]⟩
abbrev S8x128 : Shape := ⟨2, ![8, 128]⟩
abbrev S1024x128 : Shape := ⟨2, ![1024, 128]⟩

abbrev nBuf : Space → Nat
  | .hbm => 9
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .local _ .vmem, ⟨0, _⟩ => ⟨S8x1024, .f32⟩
  | .local _ .vmem, ⟨1, _⟩ => ⟨S8x128, .f32⟩
  | .local _ .vmem, ⟨2, _⟩ => ⟨S8x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8x1024 : Shape := ⟨2, ![8, 1024]⟩
abbrev S8x2304 : Shape := ⟨2, ![8, 2304]⟩
abbrev S1024x2304 : Shape := ⟨2, ![1024, 2304]⟩
abbrev S_ : Shape := ⟨0, ![]⟩
abbrev S2304x1024 : Shape := ⟨2, ![2304, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2304, .f32⟩
  | .hbm, ⟨2, _⟩ => ⟨S1024x2304, .f32⟩
  | .hbm, ⟨3, _⟩ => ⟨S1024x2304, .f32⟩
  | .hbm, ⟨4, _⟩ => ⟨S1024x2304, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x2304, .f32⟩
  | .hbm, ⟨15, _⟩ => ⟨S2304x1024, .f32⟩
  | .hbm, ⟨16, _⟩ => ⟨S1024x2304, .f32⟩
  | .hbm, ⟨17, _⟩ => ⟨S_, .f32⟩
  | .hbm, ⟨18, _⟩ => ⟨S1024x2304, .f32⟩
  | .hbm, ⟨19, _⟩ => ⟨S1024x2304, .f32⟩
  | .hbm, ⟨20, _⟩ => ⟨S_, .f32⟩
  | .hbm, ⟨21, _⟩ => ⟨S1024x2304, .f32⟩
  | .hbm, ⟨22, _⟩ => ⟨S1024x2304, .f32⟩
  | .hbm, ⟨23, _⟩ => ⟨S1024x2304, .f32⟩
  | .hbm, ⟨24, _⟩ => ⟨S_, .f32⟩
  | .hbm, ⟨25, _⟩ => ⟨S1024x2304, .f32⟩
  | .hbm, ⟨26, _⟩ => ⟨S1024x2304, .f32⟩
  | .hbm, ⟨27, _⟩ => ⟨S1024x2304, .f32⟩
  | .hbm, ⟨28, _⟩ => ⟨S_, .f32⟩
  | .hbm, ⟨29, _⟩ => ⟨S1024x2304, .f32⟩
  | .hbm, ⟨30, _⟩ => ⟨S1024x2304, .f32⟩
  | .hbm, ⟨31, _⟩ => ⟨S1024x2304, .f32⟩
  | .hbm, ⟨32, _⟩ => ⟨S_, .f32⟩
  | .hbm, ⟨33, _⟩ => ⟨S1024x2304, .f32⟩
  | .hbm, ⟨34, _⟩ => ⟨S1024x2304, .f32⟩
  | .hbm, ⟨35, _⟩ => ⟨S_, .f32⟩
  | .hbm, ⟨36, _⟩ => ⟨S1024x2304, .f32⟩
  | .hbm, ⟨37, _⟩ => ⟨S1024x2304, .f32⟩
  | .hbm, ⟨38, _⟩ => ⟨S1024x2304, .f32⟩
  | .hbm, ⟨39, _⟩ => ⟨S_, .f32⟩
  | .hbm, ⟨40, _⟩ => ⟨S1024x2304, .f32⟩
  | .hbm, ⟨41, _⟩ => ⟨S1024x2304, .f32⟩
  | .hbm, ⟨42, _⟩ => ⟨S1024x2304, .f32⟩
  | .hbm, ⟨43, _⟩ => ⟨S_, .f32⟩
  | .hbm, ⟨44, _⟩ => ⟨S1024x2304, .f32⟩
  | .hbm, ⟨45, _⟩ => ⟨S1024x2304, .f32⟩
  | .hbm, ⟨46, _⟩ => ⟨S1024x2304, .f32⟩
  | .hbm, ⟨47, _⟩ => ⟨S_, .f32⟩
  | .hbm, ⟨48, _⟩ => ⟨S1024x2304, .f32⟩
  | .hbm, ⟨49, _⟩ => ⟨S1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Proof.MixSpec.lean ====
/-
  The backward pass of the mixing block, written over plain matrices of extended reals: what each of the six arrays
  holds at a row and a column. Both programs are read against these definitions; nothing here names a program.
-/
module

public import Idealize.ShloMosaic.PureOps.Ideal.Laws

@[expose] public section

noncomputable section

namespace Cert.Mix

open Idealize.ShloMosaic

/-- What the backward pass is given, row by row and column by column: the gradient arriving from above, the saved
    branch outputs and convolution, the five gates of the projection, the residual gate, the taps of the
    convolution and the three weights. -/
structure In where
  /-- the gradient of the mixer's result -/
  dxo : Fin 8192 → Fin 1024 → EReal
  /-- the attention branch's output -/
  ya : Fin 8192 → Fin 1024 → EReal
  /-- the convolution branch's output -/
  yc : Fin 8192 → Fin 1024 → EReal
  /-- the convolution -/
  cv : Fin 8192 → Fin 1024 → EReal
  /-- the convolution's `u` -/
  u : Fin 8192 → Fin 1024 → EReal
  /-- the gate after the convolution -/
  b : Fin 8192 → Fin 1024 → EReal
  /-- the gate before the convolution -/
  c : Fin 8192 → Fin 1024 → EReal
  /-- the attention branch's gate -/
  ga : Fin 8192 → Fin 1024 → EReal
  /-- the convolution branch's gate -/
  gc : Fin 8192 → Fin 1024 → EReal
  /-- the residual gate -/
  gt : Fin 1024 → EReal
  /-- the taps -/
  cw : Fin 3 → Fin 1024 → EReal
  /-- the attention branch's weight -/
  wa : Fin 512 → Fin 1024 → EReal
  /-- the convolution branch's weight -/
  wc : Fin 1024 → Fin 1024 → EReal
  /-- the output weight -/
  wo : Fin 1024 → Fin 1024 → EReal

variable (I : In)

/-- The gradient of the output projection's result. -/
def dz (r : Fin 8192) (j : Fin 1024) : EReal := I.gt j * I.dxo r j
/-- The gradient of the merged branches: `dz` times the output weight transposed. -/
def dm (r : Fin 8192) (j : Fin 1024) : EReal := ∑ k : Fin 1024, dz I r k * I.wo j k
/-- The gradient of the attention branch. -/
def dya (r : Fin 8192) (j : Fin 1024) : EReal := dm I r j * Ideal.logistic (I.ga r j)
/-- The gradient of the convolution branch. -/
def dyc (r : Fin 8192) (j : Fin 1024) : EReal := dm I r j * Ideal.logistic (I.gc r j)
/-- The gradient of the attention output. -/
def dout (r : Fin 8192) (j : Fin 512) : EReal := ∑ k : Fin 1024, dya I r k * I.wa j k
/-- The gradient of the gated convolution. -/
def dyb (r : Fin 8192) (j : Fin 1024) : EReal := ∑ k : Fin 1024, dyc I r k * I.wc j k
/-- The gradient of the convolution. -/
def dconv (r : Fin 8192) (j : Fin 1024) : EReal := dyb I r j * I.b r j
/-- The convolution's gradient `n` rows further down, zero past the last row. -/
def dnext (n : ℕ) (r : Fin 8192) (j : Fin 1024) : EReal :=
  if h : r.val + n < 8192 then dconv I ⟨r.val + n, h⟩ j else 0
/-- The gradient of the convolution's input: its own row by the last tap, the next two rows by the earlier taps. -/
def dxc (r : Fin 8192) (j : Fin 1024) : EReal :=
  dconv I r j * I.cw 2 j + dnext I 1 r j * I.cw 1 j + dnext I 2 r j * I.cw 0 j
/-- The gradient of the attention gate. -/
def dga (r : Fin 8192) (j : Fin 1024) : EReal :=
  dm I r j * I.ya r j * (Ideal.logistic (I.ga r j) * (1 - Ideal.logistic (I.ga r j)))
/-- The gradient of the convolution gate. -/
def dgc (r : Fin 8192) (j : Fin 1024) : EReal :=
  dm I r j * I.yc r j * (Ideal.logistic (I.gc r j) * (1 - Ideal.logistic (I.gc r j)))
/-- The gradient of tap `2 - n`: the convolution's input against its gradient `n` rows further down. -/
def dtap (n : ℕ) (j : Fin 1024) : EReal := ∑ r : Fin 8192, I.c r j * I.u r j * dnext I n r j

/-- The gradient of the whole projection: the convolution's input, its two gates, and the two branch gates, side by
    side in the order of the projection's columns. -/
def drest (r : Fin 8192) (q : Fin 5120) : EReal :=
  if h : q.val < 1024 then dxc I r ⟨q.val, h⟩ * I.c r ⟨q.val, h⟩
  else if h : q.val < 2048 then dyb I r ⟨q.val - 1024, by omega⟩ * I.cv r ⟨q.val - 1024, by omega⟩
  else if h : q.val < 3072 then dxc I r ⟨q.val - 2048, by omega⟩ * I.u r ⟨q.val - 2048, by omega⟩
  else if h : q.val < 4096 then dga I r ⟨q.val - 3072, by omega⟩
  else dgc I r ⟨q.val - 4096, by omega⟩
/-- The gradient of the taps, padded with zero rows to eight. -/
def dtaps (k : Fin 8) (j : Fin 1024) : EReal := if k.val < 3 then dtap I (2 - k.val) j else 0

/-- `dnext` by no rows is the gradient itself. -/
theorem dnext_zero (r : Fin 8192) (j : Fin 1024) : dnext I 0 r j = dconv I r j := by
  unfold dnext
  rw [dif_pos (by omega)]
  rfl

/-- The word of one half denotes one half. -/
theorem ofBits_half : Ideal.ofBits .f32 0x3F000000#32 = ((1 / 2 : ℝ) : EReal) := by
  simp [Ideal.ofBits, Ideal.ieee]
  norm_num
  rw [← EReal.coe_mul]
  norm_num

/-- Half the hyperbolic tangent of half `x`, plus one half, is the logistic function, at the infinities too. -/
theorem half_tanh (x : EReal) :
    Ideal.ofBits .f32 0x3F000000#32 * Ideal.tanh (Ideal.ofBits .f32 0x3F000000#32 * x) + Ideal.ofBits .f32 0x3F000000#32
      = Ideal.logistic x := by
  rw [ofBits_half]
  induction x using EReal.rec with
  | bot =>
    rw [EReal.coe_mul_bot_of_pos (by norm_num), Ideal.tanh_bot, Ideal.logistic_bot]
    have h : (-1 : EReal) = ((-1 : ℝ) : EReal) := rfl
    rw [h, ← EReal.coe_mul, ← EReal.coe_add]
    norm_num
  | top =>
    rw [EReal.coe_mul_top_of_pos (by norm_num), Ideal.tanh_top, Ideal.logistic_top]
    have h : (1 : EReal) = ((1 : ℝ) : EReal) := rfl
    rw [h, ← EReal.coe_mul, ← EReal.coe_add]
    norm_num
  | coe r =>
    rw [← EReal.coe_mul, Ideal.tanh_coe, Ideal.logistic_coe, ← EReal.coe_mul, ← EReal.coe_add]
    refine congrArg _ ?_
    rw [Real.tanh_eq]
    have h : Real.exp (-r) = Real.exp (-(1 / 2 * r)) / Real.exp (1 / 2 * r) := by
      rw [← Real.exp_sub]
      congr 1
      ring
    have p := Real.exp_pos (1 / 2 * r)
    have q := Real.exp_pos (-(1 / 2 * r))
    rw [h]
    field_simp
    ring

end Cert.Mix

end
-- ==== Proof.MixRef.lean ====
/-
  The reference of the mixing block's backward pass read at a row and a column: each of its six results is the one
  `MixSpec` names, at the inputs `inOf` takes from the reference's arguments.
-/
module

public import proofs.«01_k».proof.Proof.Gen.ReferenceIdeal.Read
public import proofs.«01_k».proof.Proof.MixSpec
public import Idealize.ShloMosaic.Lib.Pointwise

@[expose] public section

set_option maxRecDepth 16384

noncomputable section

namespace Cert.Mix

open Idealize.ShloMosaic Idealize.ShloMosaic.TcCoe
open Cert.ReferenceIdeal Cert.ReferenceIdeal.Read

variable (x0 : FVec Ideal S8192x1024 .f32) (x1 : FVec Ideal S8192x512 .f32) (x2 : FVec Ideal S8192x5120 .f32)
  (x3 : FVec Ideal S3x1024 .f32) (x5 : FVec Ideal S3x1024 .f32) (x6 : FVec Ideal S512x1024 .f32)
  (x7 : FVec Ideal S1024x1024 .f32) (x8 : FVec Ideal S1024x1024 .f32)

/-- The backward pass's inputs at the reference's arguments: the branch outputs and the convolution are the forward
    pass's own, the gates are the five column blocks of the projection. -/
def inOf : In where
  dxo r j := x0 (ix2 r j)
  ya r j := val_main_v6 (F := Ideal) x1 x6 (ix2 r j)
  yc r j := val_main_v32 (F := Ideal) x2 x5 x7 (ix2 r j)
  cv r j := val_main_v30 (F := Ideal) x2 x5 (ix2 r j)
  u r j := x2 (ix2 r ⟨j.val, by omega⟩)
  b r j := x2 (ix2 r ⟨1024 + j.val, by omega⟩)
  c r j := x2 (ix2 r ⟨2048 + j.val, by omega⟩)
  ga r j := x2 (ix2 r ⟨3072 + j.val, by omega⟩)
  gc r j := x2 (ix2 r ⟨4096 + j.val, by omega⟩)
  gt j := x3 (ix2 2 j)
  cw k j := x5 (ix2 k j)
  wa k j := x6 (ix2 k j)
  wc k j := x7 (ix2 k j)
  wo k j := x8 (ix2 k j)

local notation "J" => inOf x0 x1 x2 x3 x5 x6 x7 x8

/-- The projection's first section, the convolution's `u`. -/
theorem ref_u (r : Fin 8192) (j : Fin 1024) : val_main_v0 (F := Ideal) x2 (ix2 r j) = (J).u r j := by
  pointwise [val_main_v0, inOf]
/-- The second section, the gate after the convolution. -/
theorem ref_b (r : Fin 8192) (j : Fin 1024) : val_main_v1 (F := Ideal) x2 (ix2 r j) = (J).b r j := by
  pointwise [val_main_v1, inOf]
/-- The third section, the gate before the convolution. -/
theorem ref_c (r : Fin 8192) (j : Fin 1024) : val_main_v2 (F := Ideal) x2 (ix2 r j) = (J).c r j := by
  pointwise [val_main_v2, inOf]

/-- The gate of the attention branch is the logistic function of its column block. -/
theorem ref_sa (r : Fin 8192) (j : Fin 1024) : val_main_v38 (F := Ideal) x2 (ix2 r j) = Ideal.logistic ((J).ga r j) := by
  pointwise [val_main_v38, val_main_v37, val_main_v36, val_main_v35, val_main_v34, val_main_v33, val_main_v3, val_main_cst_1, val_main_cst_2, inOf, Ideal.logistic]
/-- The gate of the convolution branch is the logistic function of its column block. -/
theorem ref_sc (r : Fin 8192) (j : Fin 1024) : val_main_v48 (F := Ideal) x2 (ix2 r j) = Ideal.logistic ((J).gc r j) := by
  pointwise [val_main_v48, val_main_v47, val_main_v46, val_main_v45, val_main_v44, val_main_v43, val_main_v4, val_main_cst_4, val_main_cst_5, inOf, Ideal.logistic]

/-- The reference's gradient of the output projection's result. -/
theorem ref_dz (r : Fin 8192) (j : Fin 1024) : val_main_v58 (F := Ideal) x0 x3 (ix2 r j) = dz (J) r j := by
  pointwise [val_main_v58, val_main_v57, val_main_v5, dz, inOf]

/-- Its gradient of the merged branches. -/
theorem ref_dm (r : Fin 8192) (j : Fin 1024) : val_main_v59 (F := Ideal) x0 x3 x8 (ix2 r j) = dm (J) r j := by
  pointwise [val_main_v59]
  exact Finset.sum_congr rfl fun k _ => Ideal.mul_congr (ref_dz x0 x1 x2 x3 x5 x6 x7 x8 r k) rfl

/-- Its gradient of the attention branch's output. -/
theorem ref_dya (r : Fin 8192) (j : Fin 1024) : val_main_v63 (F := Ideal) x0 x2 x3 x8 (ix2 r j) = dya (J) r j := by
  pointwise [val_main_v63]
  exact (Ideal.mul_congr (ref_sa x0 x1 x2 x3 x5 x6 x7 x8 r j) (ref_dm x0 x1 x2 x3 x5 x6 x7 x8 r j)).trans (mul_comm _ _)

/-- Its gradient of the convolution branch's output. -/
theorem ref_dyc (r : Fin 8192) (j : Fin 1024) : val_main_v60 (F := Ideal) x0 x2 x3 x8 (ix2 r j) = dyc (J) r j := by
  pointwise [val_main_v60]
  exact (Ideal.mul_congr (ref_sc x0 x1 x2 x3 x5 x6 x7 x8 r j) (ref_dm x0 x1 x2 x3 x5 x6 x7 x8 r j)).trans (mul_comm _ _)

/-- Its gradient of the attention's output. -/
theorem ref_dout (r : Fin 8192) (j : Fin 512) : val_main_v66 (F := Ideal) x0 x2 x3 x6 x8 (ix2 r j) = dout (J) r j := by
  pointwise [val_main_v66]
  exact Finset.sum_congr rfl fun k _ => Ideal.mul_congr (ref_dya x0 x1 x2 x3 x5 x6 x7 x8 r k) rfl

/-- Its gradient of the gated convolution. -/
theorem ref_dyb (r : Fin 8192) (j : Fin 1024) : val_main_v67 (F := Ideal) x0 x2 x3 x7 x8 (ix2 r j) = dyb (J) r j := by
  pointwise [val_main_v67]
  exact Finset.sum_congr rfl fun k _ => Ideal.mul_congr (ref_dyc x0 x1 x2 x3 x5 x6 x7 x8 r k) rfl

/-- Its gradient of the convolution. -/
theorem ref_dconv (r : Fin 8192) (j : Fin 1024) : val_main_v68 (F := Ideal) x0 x2 x3 x7 x8 (ix2 r j) = dconv (J) r j := by
  pointwise [val_main_v68]
  exact (Ideal.mul_congr (ref_b x0 x1 x2 x3 x5 x6 x7 x8 r j) (ref_dyb x0 x1 x2 x3 x5 x6 x7 x8 r j)).trans (mul_comm _ _)

/-- Its gradient of the attention branch's gate. -/
theorem ref_dga (r : Fin 8192) (j : Fin 1024) : val_main_v65 (F := Ideal) x0 x1 x2 x3 x6 x8 (ix2 r j) = dga (J) r j := by
  pointwise [val_main_v65, val_main_v64, val_main_v41, val_main_v40, val_main_v39, val_main_cst_3]
  rw [ref_sa x0 x1 x2 x3 x5 x6 x7 x8 r j, ref_dm x0 x1 x2 x3 x5 x6 x7 x8 r j]
  rfl

/-- Its gradient of the convolution branch's gate. -/
theorem ref_dgc (r : Fin 8192) (j : Fin 1024) : val_main_v62 (F := Ideal) x0 x2 x3 x5 x7 x8 (ix2 r j) = dgc (J) r j := by
  pointwise [val_main_v62, val_main_v61, val_main_v51, val_main_v50, val_main_v49, val_main_cst_6]
  rw [ref_sc x0 x1 x2 x3 x5 x6 x7 x8 r j, ref_dm x0 x1 x2 x3 x5 x6 x7 x8 r j]
  rfl

/-- Its gradient of the gate after the convolution. -/
theorem ref_db (r : Fin 8192) (j : Fin 1024) : val_main_v69 (F := Ideal) x0 x2 x3 x5 x7 x8 (ix2 r j) = dyb (J) r j * (J).cv r j := by
  pointwise [val_main_v69]
  exact Ideal.mul_congr (ref_dyb x0 x1 x2 x3 x5 x6 x7 x8 r j) rfl

/-- Its gradient of the convolution's input. -/
theorem ref_dxc (r : Fin 8192) (j : Fin 1024) : val_main_v102 (F := Ideal) x0 x2 x3 x5 x7 x8 (ix2 r j) = dxc (J) r j := by
  pointwise [val_main_v102, val_main_v100, val_main_v89, val_main_v99, val_main_v78, val_main_v88, val_main_v74, val_main_v83, val_main_v94, val_main_v73, val_main_v82, val_main_v93, val_main_v27, val_main_v26, val_main_v25, val_main_v20, val_main_v19, val_main_v18, val_main_v14, val_main_v13, val_main_v12, val_main_cst_10, val_main_cst_14, val_main_cst_18]
  refine Ideal.add_congr (Ideal.add_congr ?_ ?_) ?_
  · exact Ideal.mul_congr (ref_dconv x0 x1 x2 x3 x5 x6 x7 x8 r j) rfl
  · unfold dnext
    by_cases h : r.val + 1 < 8192
    · rw [dif_pos (by omega), dif_pos h]
      refine Ideal.mul_congr ?_ rfl
      refine Eq.trans (congrArg _ ?_) (ref_dconv x0 x1 x2 x3 x5 x6 x7 x8 ⟨r.val + 1, h⟩ j)
      exact (ix2_inj ..).2 ⟨Fin.ext (by show 2 + r.val - 1 = r.val + 1; omega), rfl⟩
    · rw [dif_neg (by omega), dif_neg h, zero_mul]
  · unfold dnext
    by_cases h : r.val + 2 < 8192
    · rw [dif_pos (by omega), dif_pos h]
      refine Ideal.mul_congr ?_ rfl
      refine Eq.trans (congrArg _ ?_) (ref_dconv x0 x1 x2 x3 x5 x6 x7 x8 ⟨r.val + 2, h⟩ j)
      exact (ix2_inj ..).2 ⟨Fin.ext (by show 2 + r.val = r.val + 2; omega), rfl⟩
    · rw [dif_neg (by omega), dif_neg h, zero_mul]

/-- Its gradient of the projection's five sections, side by side. -/
theorem ref_drest (r : Fin 8192) (q : Fin 5120) : val_main_v106 (F := Ideal) x0 x1 x2 x3 x5 x6 x7 x8 (ix2 r q) = drest (J) r q := by
  pointwise [val_main_v106, val_main_v105, val_main_v103, val_main_v104]
  unfold drest
  have hq := q.isLt
  by_cases h1 : q.val < 1024
  · rw [dif_pos h1, dif_pos h1]
    exact (Ideal.mul_congr (ref_c x0 x1 x2 x3 x5 x6 x7 x8 r _) (ref_dxc x0 x1 x2 x3 x5 x6 x7 x8 r _)).trans (mul_comm _ _)
  rw [dif_neg h1, dif_neg h1]
  by_cases h2 : q.val < 2048
  · rw [dif_pos (by omega), dif_pos h2]
    exact ref_db x0 x1 x2 x3 x5 x6 x7 x8 r _
  rw [dif_neg (by omega), dif_neg h2]
  have e3 : q.val - 1024 - 1024 = q.val - 2048 := by omega
  have e4 : q.val - 2048 - 1024 = q.val - 3072 := by omega
  have e5 : q.val - 3072 - 1024 = q.val - 4096 := by omega
  simp only [e3, e4, e5]
  by_cases h3 : q.val < 3072
  · rw [dif_pos (by omega), dif_pos h3]
    exact Ideal.mul_congr (ref_dxc x0 x1 x2 x3 x5 x6 x7 x8 r _) (ref_u x0 x1 x2 x3 x5 x6 x7 x8 r _)
  rw [dif_neg (by omega), dif_neg h3]
  by_cases h4 : q.val < 4096
  · rw [dif_pos (by omega), dif_pos h4]
    exact ref_dga x0 x1 x2 x3 x5 x6 x7 x8 r _
  rw [dif_neg (by omega), dif_neg h4]
  exact ref_dgc x0 x1 x2 x3 x5 x6 x7 x8 r _

/-- A product against the sequence one place earlier, zero before the first place, summed: the same as the product
    against the sequence one place later, zero past the last. -/
theorem sum_shift_one (n : ℕ) (f g : Fin (n + 1) → EReal) (F : Fin (n + 1) → EReal)
    (hF : ∀ x : Fin (n + 1), F x = if h : 1 + x.val < 2 then 0 else f ⟨1 + x.val - 2, by omega⟩) :
    ∑ x : Fin (n + 1), F x * g x = ∑ r : Fin (n + 1), f r * (if h : r.val + 1 < n + 1 then g ⟨r.val + 1, h⟩ else 0) := by
  rw [Fin.sum_univ_succ, Fin.sum_univ_castSucc, hF 0, dif_pos (by show 1 + 0 < 2; omega), zero_mul, zero_add,
    dif_neg (by show ¬(n + 1 < n + 1); omega), mul_zero, add_zero]
  refine Finset.sum_congr rfl fun x _ => ?_
  rw [hF, dif_neg (by rw [Fin.val_succ]; omega), dif_pos (by rw [Fin.val_castSucc]; omega)]
  refine congrArg₂ (· * ·) (congrArg f (Fin.ext ?_)) (congrArg g (Fin.ext ?_))
  · show 1 + (x.val + 1) - 2 = x.val
    omega
  · rfl

/-- The same at two places, the first two products given apart as zeros. -/
theorem sum_shift_two (n : ℕ) (f g : Fin (n + 2) → EReal) (a : Fin 2 → EReal) :
    ∑ x : Fin 2, 0 * a x + ∑ x : Fin n, f ⟨x.val, by omega⟩ * g ⟨2 + x.val, by omega⟩
      = ∑ r : Fin (n + 2), f r * (if h : r.val + 2 < n + 2 then g ⟨r.val + 2, h⟩ else 0) := by
  rw [Fin.sum_univ_add]
  have e : ∑ x : Fin 2, 0 * a x = 0 := Finset.sum_eq_zero fun x _ => zero_mul _
  have e' : ∑ x : Fin 2, f (Fin.natAdd n x) * (if h : (Fin.natAdd n x).val + 2 < n + 2 then g ⟨(Fin.natAdd n x).val + 2, h⟩ else 0) = 0 :=
    Finset.sum_eq_zero fun x _ => by
      rw [dif_neg (by rw [Fin.val_natAdd]; omega), mul_zero]
  rw [e, e', zero_add, add_zero]
  refine Finset.sum_congr rfl fun x _ => ?_
  rw [dif_pos (by rw [Fin.val_castAdd]; omega)]
  refine congrArg₂ (· * ·) rfl (congrArg g (Fin.ext ?_))
  show 2 + x.val = x.val + 2
  omega

/-- Its gradient of the taps, in eight rows. -/
theorem ref_tap (k : Fin 8) (j : Fin 1024) : val_main_v110 (F := Ideal) x0 x2 x3 x7 x8 (ix2 k j) = dtaps (J) k j := by
  unfold dtaps
  pointwise [val_main_v110, val_main_v98, val_main_v87, val_main_v97, val_main_v77, val_main_v86, val_main_v76, val_main_v85, val_main_v96, val_main_v75, val_main_v84, val_main_v95, val_main_v72, val_main_v81, val_main_v92, val_main_v71, val_main_v80, val_main_v91, val_main_v70, val_main_v79, val_main_v90,
    val_main_cst_7, val_main_cst_8, val_main_cst_9, val_main_cst_11, val_main_cst_12, val_main_cst_13, val_main_cst_15, val_main_cst_16, val_main_cst_17, val_main_call0_v0, val_main_c, val_main_v11, val_main_v17, val_main_v24, val_main_v9, val_main_v8, val_main_v7, val_main_cst]
  by_cases hk : k.val < 3
  swap
  · rw [dif_neg hk, if_neg hk]
    show (((0#32 : BitVec 32).toInt : ℝ) : EReal) = 0
    simp
  rw [dif_pos hk, if_pos hk]
  have hx : ∀ r : Fin 8192, val_main_v2 (F := Ideal) x2 (ix2 r j) * val_main_v0 (F := Ideal) x2 (ix2 r j) = (J).c r j * (J).u r j :=
    fun r => Ideal.mul_congr (ref_c x0 x1 x2 x3 x5 x6 x7 x8 r j) (ref_u x0 x1 x2 x3 x5 x6 x7 x8 r j)
  have hd : ∀ r : Fin 8192, val_main_v68 (F := Ideal) x0 x2 x3 x7 x8 (ix2 r j) = dconv (J) r j :=
    fun r => ref_dconv x0 x1 x2 x3 x5 x6 x7 x8 r j
  have hk3 : k.val = 0 ∨ k.val = 1 ∨ k.val = 2 := by omega
  rcases hk3 with h | h | h
  · simp only [h]
    rw [dif_neg (by omega), dif_neg (by omega), dif_pos (by omega), zero_add, zero_add, Fin.sum_univ_one]
    refine Eq.trans (Ideal.add_congr rfl (Finset.sum_congr rfl fun x _ => Ideal.mul_congr (hx _) (hd _))) ?_
    exact sum_shift_two 8190 (fun r => (J).c r j * (J).u r j) (fun r => dconv (J) r j) _
  · simp only [h]
    rw [dif_neg (by omega), dif_pos (by omega), dif_neg (by omega), zero_add, add_zero, Fin.sum_univ_one]
    refine Eq.trans (Finset.sum_congr rfl fun x _ => Ideal.mul_congr rfl (hd _)) ?_
    refine sum_shift_one 8191 (fun r => (J).c r j * (J).u r j) (fun r => dconv (J) r j) _ fun x => ?_
    by_cases h1 : 1 + x.val < 2
    · rw [dif_pos h1, dif_pos h1]
    · rw [dif_neg h1, dif_neg h1]
      exact hx _
  · simp only [h]
    rw [dif_pos (by omega), dif_neg (by omega), dif_neg (by omega), add_zero, add_zero, Fin.sum_univ_one]
    refine Eq.trans (Finset.sum_congr rfl fun x _ => Ideal.mul_congr (hx _) (hd _)) ?_
    exact Finset.sum_congr rfl fun x _ => Ideal.mul_congr rfl (dnext_zero (J) x j).symm

end Cert.Mix

end
-- ==== Proof.MixTile.lean ====
/-
  The kernel of the mixing block's backward pass, one tile of 512 rows at a time: each array the body computes, read
  at a row of the tile and a column, is the one `MixSpec` names at the corresponding row of the whole array.
-/
module

public import proofs.«01_k».proof.Proof.Gen.KernelIdeal.Skeleton
public import proofs.«01_k».proof.Proof.MixSpec
public import Idealize.ShloMosaic.Lib.Pointwise

@[expose] public section

set_option maxRecDepth 16384

noncomputable section

namespace Cert.Mix

open Idealize.ShloMosaic Idealize.ShloMosaic.TcCoe
open Cert.KernelIdeal Cert.KernelIdeal.Gen

variable (I : In)

/-- The row of the whole array that row `p` of tile `T` is. -/
def row (T : Fin 16) (p : Fin 512) : Fin 8192 := ⟨T.val * 512 + p.val, by omega⟩

/-- What the tile's carry must hold in its first two rows: the convolution's gradient in the two rows after the tile,
    zero past the last row. -/
def edge (T : Fin 16) (k : ℕ) (j : Fin 1024) : EReal :=
  if h : T.val * 512 + 512 + k < 8192 then dconv I ⟨T.val * 512 + 512 + k, h⟩ j else 0

/-- A choice by comparing a word that counts a tile's row with a row number is the choice by comparing the numbers. -/
theorem select_row (p : Fin 512) (n : ℕ) (hn : n < 512) (a b : EReal) :
    Scalar.select (IntOp.cmpi .eq (BitVec.ofNat 32 p.val) (BitVec.ofNat 32 n)) a b = if p.val = n then a else b := by
  have h : (BitVec.ofNat 32 p.val = BitVec.ofNat 32 n) ↔ p.val = n := by
    constructor
    · intro e
      have e' := congrArg BitVec.toNat e
      rw [BitVec.toNat_ofNat, BitVec.toNat_ofNat, Nat.mod_eq_of_lt (by omega), Nat.mod_eq_of_lt (by omega)] at e'
      exact e'
    · intro e
      rw [e]
  by_cases e : p.val = n
  · rw [if_pos e, e]
    simp [Scalar.select, IntOp.cmpi]
  · rw [if_neg e]
    have hf : (BitVec.ofNat 32 p.val == BitVec.ofNat 32 n) = false := beq_false_of_ne (mt h.1 e)
    simp [Scalar.select, IntOp.cmpi, hf]

variable (T : Fin 16)
  (v3 v103 v107 v112 : FVec Ideal S1x1024 .f32) (b0 : FVec Ideal S512x1024 .f32)
  (b1 b2 b3 b4 b5 b6 b7 b8 : FVec Ideal S512x1024 .bf16)
  (b11 : FVec Ideal S512x1024 .bf16) (b12 b13 : FVec Ideal S1024x1024 .bf16)
  (v76 : FVec Ideal S8x1024 .f32)

/-- A tile's gradient of the output projection's result. -/
theorem tile_dz (hg : ∀ j : Fin 1024, v3 (ix2 0 j) = I.gt j) (h0 : ∀ (p : Fin 512) (j : Fin 1024), b0 (ix2 p j) = I.dxo (row T p) j)
    (p : Fin 512) (j : Fin 1024) : k0_pay4 (F := Ideal) v3 b0 (ix2 p j) = dz I (row T p) j := by
  pointwise [k0_pay4, hg, h0, dz]

/-- A tile's gradient of the merged branches. -/
theorem tile_dm (hg : ∀ j : Fin 1024, v3 (ix2 0 j) = I.gt j) (h0 : ∀ (p : Fin 512) (j : Fin 1024), b0 (ix2 p j) = I.dxo (row T p) j)
    (hw : ∀ k j : Fin 1024, b13 (ix2 k j) = I.wo k j)
    (p : Fin 512) (j : Fin 1024) : k0_pay5 (F := Ideal) v3 b0 b13 (ix2 p j) = dm I (row T p) j := by
  pointwise [k0_pay5, tile_dz I T v3 b0 hg h0, hw, dm]

/-- A tile's gate of the attention branch: the kernel's half tanh is the logistic function. -/
theorem tile_sa (h7 : ∀ (p : Fin 512) (j : Fin 1024), b7 (ix2 p j) = I.ga (row T p) j)
    (p : Fin 512) (j : Fin 1024) : k0_pay6 (F := Ideal) b7 (ix2 p j) = Ideal.logistic (I.ga (row T p) j) := by
  pointwise [k0_pay6, h7]
  exact half_tanh _

/-- A tile's gate of the convolution branch. -/
theorem tile_sc (h8 : ∀ (p : Fin 512) (j : Fin 1024), b8 (ix2 p j) = I.gc (row T p) j)
    (p : Fin 512) (j : Fin 1024) : k0_pay7 (F := Ideal) b8 (ix2 p j) = Ideal.logistic (I.gc (row T p) j) := by
  pointwise [k0_pay7, h8]
  exact half_tanh _

section
variable (hg : ∀ j : Fin 1024, v3 (ix2 0 j) = I.gt j) (h0 : ∀ (p : Fin 512) (j : Fin 1024), b0 (ix2 p j) = I.dxo (row T p) j)
    (ho : ∀ k j : Fin 1024, b13 (ix2 k j) = I.wo k j)
    (h7 : ∀ (p : Fin 512) (j : Fin 1024), b7 (ix2 p j) = I.ga (row T p) j)
    (h8 : ∀ (p : Fin 512) (j : Fin 1024), b8 (ix2 p j) = I.gc (row T p) j)
include hg h0 ho

include h7 in
/-- A tile's gradient of the attention branch's output. -/
theorem tile_dya (p : Fin 512) (j : Fin 1024) : k0_pay8 (F := Ideal) v3 b0 b13 b7 (ix2 p j) = dya I (row T p) j := by
  pointwise [k0_pay8, tile_dm I T v3 b0 b13 hg h0 ho, tile_sa I T b7 h7, dya]

include h8 in
/-- A tile's gradient of the convolution branch's output. -/
theorem tile_dyc (p : Fin 512) (j : Fin 1024) : k0_pay9 (F := Ideal) v3 b0 b13 b8 (ix2 p j) = dyc I (row T p) j := by
  pointwise [k0_pay9, tile_dm I T v3 b0 b13 hg h0 ho, tile_sc I T b8 h8, dyc]

include h7 in
/-- A tile's gradient of the attention's output. -/
theorem tile_dout (ha : ∀ (k : Fin 512) (j : Fin 1024), b11 (ix2 k j) = I.wa k j) (p : Fin 512) (j : Fin 512) :
    k0_pay13 (F := Ideal) (k0_pay8 v3 b0 b13 b7) b11 (ix2 p j) = dout I (row T p) j := by
  pointwise [k0_pay13, tile_dya I T v3 b0 b7 b13 hg h0 ho h7, ha, dout]

include h8 in
/-- A tile's gradient of the gated convolution. -/
theorem tile_dyb (hc : ∀ k j : Fin 1024, b12 (ix2 k j) = I.wc k j) (p : Fin 512) (j : Fin 1024) :
    k0_pay14 (F := Ideal) (k0_pay9 v3 b0 b13 b8) b12 (ix2 p j) = dyb I (row T p) j := by
  pointwise [k0_pay14, k0_pay10, tile_dyc I T v3 b0 b8 b13 hg h0 ho h8, hc, dyb]

include h7 in
/-- A tile's gradient of the attention branch's gate. -/
theorem tile_dga (h1 : ∀ (p : Fin 512) (j : Fin 1024), b1 (ix2 p j) = I.ya (row T p) j) (p : Fin 512) (j : Fin 1024) :
    k0_pay11 (F := Ideal) (k0_pay5 v3 b0 b13) (k0_pay6 b7) b1 (ix2 p j) = dga I (row T p) j := by
  pointwise [k0_pay11, tile_dm I T v3 b0 b13 hg h0 ho, tile_sa I T b7 h7, h1, dga]

include h8 in
/-- A tile's gradient of the convolution branch's gate. -/
theorem tile_dgc (h2 : ∀ (p : Fin 512) (j : Fin 1024), b2 (ix2 p j) = I.yc (row T p) j) (p : Fin 512) (j : Fin 1024) :
    k0_pay12 (F := Ideal) (k0_pay5 v3 b0 b13) (k0_pay7 b8) b2 (ix2 p j) = dgc I (row T p) j := by
  pointwise [k0_pay12, tile_dm I T v3 b0 b13 hg h0 ho, tile_sc I T b8 h8, h2, dgc]
end

section
variable (v65 : FVec Ideal S512x1024 .f32) (hy : ∀ (p : Fin 512) (j : Fin 1024), v65 (ix2 p j) = dyb I (row T p) j)
  (h5 : ∀ (p : Fin 512) (j : Fin 1024), b5 (ix2 p j) = I.b (row T p) j)
  (h4 : ∀ (p : Fin 512) (j : Fin 1024), b4 (ix2 p j) = I.u (row T p) j)
  (h6 : ∀ (p : Fin 512) (j : Fin 1024), b6 (ix2 p j) = I.c (row T p) j)
  (he : ∀ (k : Fin 8) (j : Fin 1024), k.val < 2 → v76 (ix2 k j) = edge I T k.val j)
include hy

/-- A tile's gradient of the gate after the convolution. -/
theorem tile_db (h3 : ∀ (p : Fin 512) (j : Fin 1024), b3 (ix2 p j) = I.cv (row T p) j) (p : Fin 512) (j : Fin 1024) :
    k0_pay15 (F := Ideal) v65 b3 (ix2 p j) = dyb I (row T p) j * I.cv (row T p) j := by
  pointwise [k0_pay15, hy, h3]

include h5
/-- A tile's gradient of the convolution. -/
theorem tile_dconv (p : Fin 512) (j : Fin 1024) :
    k0_pay16 (F := Ideal) v65 b5 (ix2 p j) = dconv I (row T p) j := by
  pointwise [k0_pay16, hy, h5, dconv]

/-- What a tile leaves for the tile before it: the first eight rows of its gradient of the convolution. -/
theorem tile_carry (k : Fin 8) (j : Fin 1024) :
    k0_pay19 (F := Ideal) v65 b5 (ix2 k j) = dconv I (row T ⟨k.val, by omega⟩) j := by
  pointwise [k0_pay19]
  exact tile_dconv I T b5 v65 hy h5 ⟨k.val, by omega⟩ j

include he
/-- The convolution's gradient one row further down; the tile's last row takes it from the carry. -/
theorem tile_next1 (p : Fin 512) (j : Fin 1024) :
    k0_pay17 (F := Ideal) v65 b5 v76 (ix2 p j) = dnext I 1 (row T p) j := by
  pointwise [k0_pay17]
  refine (select_row p 511 (by omega) _ _).trans ?_
  have hT := T.isLt
  have hp := p.isLt
  by_cases h : p.val = 511
  · rw [if_pos h]
    refine (he 0 j (by show 0 < 2; omega)).trans ?_
    unfold edge dnext
    have e : (row T p).val + 1 = T.val * 512 + 512 + (0 : Fin 8).val := by
      show T.val * 512 + p.val + 1 = T.val * 512 + 512 + 0
      omega
    simp only [e]
  · rw [if_neg h]
    refine (tile_dconv I T b5 v65 hy h5 _ j).trans ?_
    unfold dnext
    have e : (row T p).val + 1 < 8192 := by
      show T.val * 512 + p.val + 1 < 8192
      omega
    rw [dif_pos e]
    refine congrArg (fun r => dconv I r j) (Fin.ext ?_)
    show T.val * 512 + (p.val + 512 - 511) % 512 = T.val * 512 + p.val + 1
    omega

/-- The convolution's gradient two rows further down; the tile's last two rows take it from the carry. -/
theorem tile_next2 (p : Fin 512) (j : Fin 1024) :
    k0_pay18 (F := Ideal) v65 b5 v76 (ix2 p j) = dnext I 2 (row T p) j := by
  pointwise [k0_pay18]
  refine (select_row p 511 (by omega) _ _).trans ?_
  have hT := T.isLt
  have hp := p.isLt
  by_cases h : p.val = 511
  · rw [if_pos h]
    refine (he 1 j (by show 1 < 2; omega)).trans ?_
    unfold edge dnext
    have e : (row T p).val + 2 = T.val * 512 + 512 + (1 : Fin 8).val := by
      show T.val * 512 + p.val + 2 = T.val * 512 + 512 + 1
      omega
    simp only [e]
  · rw [if_neg h]
    refine (select_row p 510 (by omega) _ _).trans ?_
    by_cases h' : p.val = 510
    · rw [if_pos h']
      refine (he 0 j (by show 0 < 2; omega)).trans ?_
      unfold edge dnext
      have e : (row T p).val + 2 = T.val * 512 + 512 + (0 : Fin 8).val := by
        show T.val * 512 + p.val + 2 = T.val * 512 + 512 + 0
        omega
      simp only [e]
    · rw [if_neg h']
      refine (tile_dconv I T b5 v65 hy h5 _ j).trans ?_
      unfold dnext
      have e : (row T p).val + 2 < 8192 := by
        show T.val * 512 + p.val + 2 < 8192
        omega
      rw [dif_pos e]
      refine congrArg (fun r => dconv I r j) (Fin.ext ?_)
      show T.val * 512 + (p.val + 512 - 510) % 512 = T.val * 512 + p.val + 2
      omega
end

section
variable (v84 v98 v106 v75 : FVec Ideal S512x1024 .f32) (acc : FVec Ideal S1x1024 .f32)
  (hs1 : ∀ (p : Fin 512) (j : Fin 1024), v84 (ix2 p j) = dnext I 1 (row T p) j)
  (hs2 : ∀ (p : Fin 512) (j : Fin 1024), v98 (ix2 p j) = dnext I 2 (row T p) j)
  (hd : ∀ (p : Fin 512) (j : Fin 1024), v75 (ix2 p j) = dconv I (row T p) j)
  (hm : ∀ (p : Fin 512) (j : Fin 1024), v106 (ix2 p j) = dconv I (row T p) j * I.cw 2 j)
  (hw1 : ∀ j : Fin 1024, v107 (ix2 0 j) = I.cw 1 j)
  (hw0 : ∀ j : Fin 1024, v112 (ix2 0 j) = I.cw 0 j)
  (h4 : ∀ (p : Fin 512) (j : Fin 1024), b4 (ix2 p j) = I.u (row T p) j)
  (h6 : ∀ (p : Fin 512) (j : Fin 1024), b6 (ix2 p j) = I.c (row T p) j)

include hs1 hs2 hm hw1 hw0 in
/-- A tile's gradient of the convolution's input. -/
theorem tile_dxc (p : Fin 512) (j : Fin 1024) :
    k0_pay21 (F := Ideal) v84 v98 v106 v107 v112 (ix2 p j) = dxc I (row T p) j := by
  pointwise [k0_pay21, hs1, hs2, hm, hw1, hw0, dxc]

include hs1 hs2 hm hw1 hw0 h6 in
/-- A tile's gradient of `u`. -/
theorem tile_du (p : Fin 512) (j : Fin 1024) :
    k0_pay25 (F := Ideal) v84 v98 v106 v107 v112 b6 (ix2 p j) = dxc I (row T p) j * I.c (row T p) j := by
  pointwise [k0_pay25, k0_pay23, tile_dxc I T v107 v112 v84 v98 v106 hs1 hs2 hm hw1 hw0, h6]

include hs1 hs2 hm hw1 hw0 h4 in
/-- A tile's gradient of the gate before the convolution. -/
theorem tile_dc (p : Fin 512) (j : Fin 1024) :
    k0_pay26 (F := Ideal) v84 v98 v106 v107 v112 b4 (ix2 p j) = dxc I (row T p) j * I.u (row T p) j := by
  pointwise [k0_pay26, k0_pay22, tile_dxc I T v107 v112 v84 v98 v106 hs1 hs2 hm hw1 hw0, h4]

include h4 h6 hs2 in
/-- A tile adds its rows' share to the first tap's gradient. -/
theorem tile_tap0 (j : Fin 1024) : k0_pay27 (F := Ideal) v98 b4 b6 acc (ix2 0 j)
    = acc (ix2 0 j) + ∑ p : Fin 512, I.c (row T p) j * I.u (row T p) j * dnext I 2 (row T p) j := by
  pointwise [k0_pay27, k0_pay24, k0_pay23, k0_pay22, h4, h6, hs2]

include h4 h6 hs1 in
/-- A tile adds its rows' share to the second tap's gradient. -/
theorem tile_tap1 (j : Fin 1024) : k0_pay28 (F := Ideal) v84 b4 b6 acc (ix2 0 j)
    = acc (ix2 0 j) + ∑ p : Fin 512, I.c (row T p) j * I.u (row T p) j * dnext I 1 (row T p) j := by
  pointwise [k0_pay28, k0_pay24, k0_pay23, k0_pay22, h4, h6, hs1]

include h4 h6 hd in
/-- A tile adds its rows' share to the last tap's gradient. -/
theorem tile_tap2 (j : Fin 1024) : k0_pay1 (F := Ideal) v75 (k0_pay24 b4 b6) acc (ix2 0 j)
    = acc (ix2 0 j) + ∑ p : Fin 512, I.c (row T p) j * I.u (row T p) j * dnext I 0 (row T p) j := by
  pointwise [k0_pay1, k0_pay24, k0_pay23, k0_pay22, h4, h6, hd, dnext_zero]
end

end Cert.Mix

end
-- ==== Proof.MixScatter.lean ====
/-
  Setting the first rows of an eight-row array, as the host does for the modulation and the taps: which element an
  update lands on, and what a row of the result holds.
-/
module

public import proofs.«01_k».proof.Proof.Gen.KernelIdeal
public import Idealize.ShloMosaic.Lib.Routing.OpsSet
public import Idealize.ShloMosaic.Lib.Routing.OpsPair
public import Idealize.ShloMosaic.Lib.Pointwise

@[expose] public section

set_option maxRecDepth 16384
noncomputable section

namespace Cert.Mix

open Idealize.ShloMosaic Idealize.ShloMosaic.TcCoe
open Cert.KernelIdeal Cert.KernelIdeal.Gen

/-- Update `(k, e)` of three rows set from row `b` on lands on `(b + k, e)`. -/
theorem lands3 (x : IVec S1 32) (b : ℕ) (hx : (x (ix1 0)).toInt = (b : Int)) (k : Fin 3) (e : Fin 1024) (r : Fin 8) (j : Fin 1024) :
    scatter_S8x1024_S1_S3x1024_01_n_0_0.resultIdx? (ix2 k e) x = some (ix2 r j) ↔ b + k.val = r.val ∧ e = j := by
  have h0 : scatter_S8x1024_S1_S3x1024_01_n_0_0.window (ix2 k e) 0 = k.val := rfl
  have h1 : scatter_S8x1024_S1_S3x1024_01_n_0_0.window (ix2 k e) 1 = e.val := rfl
  have s1 : scatter_S8x1024_S1_S3x1024_01_n_0_0.start (ix2 k e) x 1 = 0 := rfl
  have s0 : scatter_S8x1024_S1_S3x1024_01_n_0_0.start (ix2 k e) x 0 = (b : Int) := by
    rw [← hx]
    refine congrArg (fun i => (x i).toInt) ?_
    funext a
    obtain rfl : a = 0 := Subsingleton.elim _ _
    rfl
  refine (Routing.resultIdx?_ix2 scatter_S8x1024_S1_S3x1024_01_n_0_0 (ix2 k e) x r j).trans ?_
  rw [h0, h1, s0, s1, Fin.ext_iff]
  omega

/-- Update `(k, e)` of one row set at row `b` lands on `(b + k, e)`. -/
theorem lands1 (x : IVec S1 32) (b : ℕ) (hx : (x (ix1 0)).toInt = (b : Int)) (k : Fin 1) (e : Fin 1024) (r : Fin 8) (j : Fin 1024) :
    scatter_S8x1024_S1_S1x1024_01_n_0_0.resultIdx? (ix2 k e) x = some (ix2 r j) ↔ b + k.val = r.val ∧ e = j := by
  have h0 : scatter_S8x1024_S1_S1x1024_01_n_0_0.window (ix2 k e) 0 = k.val := rfl
  have h1 : scatter_S8x1024_S1_S1x1024_01_n_0_0.window (ix2 k e) 1 = e.val := rfl
  have s1 : scatter_S8x1024_S1_S1x1024_01_n_0_0.start (ix2 k e) x 1 = 0 := rfl
  have s0 : scatter_S8x1024_S1_S1x1024_01_n_0_0.start (ix2 k e) x 0 = (b : Int) := by
    rw [← hx]
    refine congrArg (fun i => (x i).toInt) ?_
    funext a
    obtain rfl : a = 0 := Subsingleton.elim _ _
    rfl
  refine (Routing.resultIdx?_ix2 scatter_S8x1024_S1_S1x1024_01_n_0_0 (ix2 k e) x r j).trans ?_
  rw [h0, h1, s0, s1, Fin.ext_iff]
  omega

/-- The first three rows, set, hold the rows they were set to. -/
theorem set3 {α : Type} (x0 : S8x1024.Idx → α) (x : IVec S1 32) (hx : (x (ix1 0)).toInt = ((0 : ℕ) : Int)) (u : S3x1024.Idx → α) (r : Fin 8) (k : Fin 3) (j : Fin 1024) (hk : k.val = r.val) :
    Host.scatter scatter_S8x1024_S1_S3x1024_01_n_0_0 (fun _ b => b) x0 x u (ix2 r j) = u (ix2 k j) := by
  refine Routing.scatter_set_hit _ x0 x u _ _ (fun i hi => ?_) (ix2 k j) ((lands3 x 0 hx k j r j).2 ⟨by omega, rfl⟩)
  idx_vars i
  obtain ⟨h, rfl⟩ := (lands3 x 0 hx _ _ r j).1 hi
  congr 2
  exact Fin.ext (by omega)

/-- Setting row 3 leaves the three rows before it. -/
theorem set1 {α : Type} (x0 : S8x1024.Idx → α) (x : IVec S1 32) (hx : (x (ix1 0)).toInt = ((3 : ℕ) : Int)) (u : S1x1024.Idx → α) (r : Fin 8) (j : Fin 1024) (hk : r.val < 3) :
    Host.scatter scatter_S8x1024_S1_S1x1024_01_n_0_0 (fun _ b => b) x0 x u (ix2 r j) = x0 (ix2 r j) := by
  refine Routing.scatter_set_miss _ x0 x u _ (fun i hi => ?_)
  idx_vars i
  have h := (lands1 x 3 hx _ _ r j).1 hi
  omega

end Cert.Mix
-- ==== Proof.MixHost.lean ====
/-
  What the kernel's call is handed: the arrays the host computes before it, and each block of them a grid point reads,
  at a row and a column, as the inputs of `MixSpec`.
-/
module

public import proofs.«01_k».proof.Proof.Gen.KernelIdeal.Value
public import proofs.«01_k».proof.Proof.MixRef
public import proofs.«01_k».proof.Proof.MixTile
public import proofs.«01_k».proof.Proof.MixScatter
public import Idealize.ShloMosaic.Lib.Pipeline.ValueKit
public import Idealize.ShloMosaic.Lib.Claim

@[expose] public section

set_option maxRecDepth 16384

noncomputable section

namespace Cert.Mix

open Idealize.ShloMosaic Idealize.ShloMosaic.TcCoe
open Cert.KernelIdeal Cert.KernelIdeal.Gen

variable (m : (ℓ : Loc nD τ sig) → Buf (Elt Ideal) ℓ) (c : Dev nD)

/-- The inputs of the backward pass at the kernel program's arguments. -/
def inK : In :=
  inOf (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8))

/-- The tile a grid point works on: the points walk the tiles from the last to the first. -/
def tile (t : Fin cfg0.N) : Fin 16 := ⟨15 - t.val, by omega⟩

/-- The block of each array that a grid point works on. -/
theorem idx : ∀ t : Fin cfg0.N, win0_0.index t = ![15 - t.val, 0] ∧ win0_1.index t = ![15 - t.val, 0]
    ∧ win0_2.index t = ![15 - t.val, 0] ∧ win0_3.index t = ![15 - t.val, 0] ∧ win0_4.index t = ![15 - t.val, 0]
    ∧ win0_5.index t = ![15 - t.val, 1] ∧ win0_6.index t = ![15 - t.val, 2] ∧ win0_7.index t = ![15 - t.val, 3]
    ∧ win0_8.index t = ![15 - t.val, 4] ∧ win0_9.index t = ![0, 0] ∧ win0_10.index t = ![0, 0]
    ∧ win0_11.index t = ![0, 0] ∧ win0_12.index t = ![0, 0] ∧ win0_13.index t = ![0, 0]
    ∧ win0_14.index t = ![15 - t.val, 0] ∧ win0_15.index t = ![15 - t.val, 0] ∧ win0_16.index t = ![15 - t.val, 0]
    ∧ win0_17.index t = ![15 - t.val, 0] ∧ win0_18.index t = ![15 - t.val, 0] ∧ win0_19.index t = ![0, 0] :=
  (by decide +kernel : ∀ t : Fin grid0.N, _)

/-- The attention branch's output that the call is given is the reference's. -/
theorem V_ya : V m c main_v37 = Cert.ReferenceIdeal.Read.val_main_v6 (F := Ideal) (m ((c : Thread nD τ).loc main_arg1)) (m ((c : Thread nD τ).loc main_arg6)) := by
  entry_read
  rfl

/-- So is the convolution branch's output. -/
theorem V_yc : V m c main_v38 = Cert.ReferenceIdeal.Read.val_main_v32 (F := Ideal) (m ((c : Thread nD τ).loc main_arg2)) (m ((c : Thread nD τ).loc main_arg5)) (m ((c : Thread nD τ).loc main_arg7)) := by
  entry_read
  rfl

/-- So is the convolution. -/
theorem V_cv : V m c main_v39 = Cert.ReferenceIdeal.Read.val_main_v30 (F := Ideal) (m ((c : Thread nD τ).loc main_arg2)) (m ((c : Thread nD τ).loc main_arg5)) := by
  entry_read
  rfl

/-- The call is given the projection's sections as they are. -/
theorem V_rest : V m c main_v40 = m ((c : Thread nD τ).loc main_arg2) := by
  entry_read
  rfl

/-- It is given the attention branch's weight as it is. -/
theorem V_wa : V m c main_v41 = m ((c : Thread nD τ).loc main_arg6) := by
  entry_read
  rfl

/-- It is given the convolution branch's weight as it is. -/
theorem V_wc : V m c main_v42 = m ((c : Thread nD τ).loc main_arg7) := by
  entry_read
  rfl

/-- It is given the output weight as it is. -/
theorem V_wo : V m c main_v43 = m ((c : Thread nD τ).loc main_arg8) := by
  entry_read
  rfl

/-- Row 2 of the modulation array is the gate. -/
theorem V_gate (j : Fin 1024) : V m c main_v4 (ix2 (2 : Fin 8) j) = (inK m c).gt j := by
  entry_read
  rw [set1 _ _ (by rfl) _ _ _ (by decide), set3 _ _ (by rfl) _ (2 : Fin 8) (2 : Fin 3) j rfl]
  rfl

/-- The first three rows of the taps' array are the taps. -/
theorem V_tap (r : Fin 8) (k : Fin 3) (hk : k.val = r.val) (j : Fin 1024) :
    V m c main_v7 (ix2 r j) = (inK m c).cw k j := by
  entry_read
  rw [set3 _ _ (by rfl) _ r k j hk]
  rfl

variable (t : Fin cfg0.N) (p : Fin 512) (j : Fin 1024)

/-- A point's block of the output gradient: its tile's rows. -/
theorem blk0 : iblk m c 0 t (ix2 p j) = (inK m c).dxo (row (tile t) p) j := by
  have ht : t.val < 16 := lt_of_lt_of_eq t.isLt N_0
  pointwise [inK, inOf, row, tile]
  blk_point [iblk, V, idx t]

/-- Its block of the attention branch's output: its tile's rows. -/
theorem blk1 : iblk m c 1 t (ix2 p j) = (inK m c).ya (row (tile t) p) j := by
  have ht : t.val < 16 := lt_of_lt_of_eq t.isLt N_0
  refine Eq.trans ?_ (congrFun (V_ya m c) (ix2 (row (tile t) p) j))
  simp only [row, tile]
  blk_ext [iblk, idx t]

/-- Its block of the convolution branch's output. -/
theorem blk2 : iblk m c 2 t (ix2 p j) = (inK m c).yc (row (tile t) p) j := by
  have ht : t.val < 16 := lt_of_lt_of_eq t.isLt N_0
  refine Eq.trans ?_ (congrFun (V_yc m c) (ix2 (row (tile t) p) j))
  simp only [row, tile]
  blk_ext [iblk, idx t]

/-- Its block of the convolution. -/
theorem blk3 : iblk m c 3 t (ix2 p j) = (inK m c).cv (row (tile t) p) j := by
  have ht : t.val < 16 := lt_of_lt_of_eq t.isLt N_0
  refine Eq.trans ?_ (congrFun (V_cv m c) (ix2 (row (tile t) p) j))
  simp only [row, tile]
  blk_ext [iblk, idx t]

/-- Its block of the projection's first section, the convolution's `u`. -/
theorem blk4 : iblk m c 4 t (ix2 p j) = (inK m c).u (row (tile t) p) j := by
  have ht : t.val < 16 := lt_of_lt_of_eq t.isLt N_0
  simp only [inK, inOf, row, tile, ← V_rest]
  blk_ext [iblk, idx t]

/-- Its block of the second section, the gate after the convolution. -/
theorem blk5 : iblk m c 5 t (ix2 p j) = (inK m c).b (row (tile t) p) j := by
  have ht : t.val < 16 := lt_of_lt_of_eq t.isLt N_0
  simp only [inK, inOf, row, tile, ← V_rest]
  blk_ext [iblk, idx t]

/-- Its block of the third section, the gate before the convolution. -/
theorem blk6 : iblk m c 6 t (ix2 p j) = (inK m c).c (row (tile t) p) j := by
  have ht : t.val < 16 := lt_of_lt_of_eq t.isLt N_0
  simp only [inK, inOf, row, tile, ← V_rest]
  blk_ext [iblk, idx t]

/-- Its block of the fourth section, the attention branch's gate. -/
theorem blk7 : iblk m c 7 t (ix2 p j) = (inK m c).ga (row (tile t) p) j := by
  have ht : t.val < 16 := lt_of_lt_of_eq t.isLt N_0
  simp only [inK, inOf, row, tile, ← V_rest]
  blk_ext [iblk, idx t]

/-- Its block of the fifth section, the convolution branch's gate. -/
theorem blk8 : iblk m c 8 t (ix2 p j) = (inK m c).gc (row (tile t) p) j := by
  have ht : t.val < 16 := lt_of_lt_of_eq t.isLt N_0
  simp only [inK, inOf, row, tile, ← V_rest]
  blk_ext [iblk, idx t]

/-- The third row of the modulation's table is the residual gate. -/
theorem blk9 : iblk m c 9 t (ix2 (2 : Fin 8) j) = (inK m c).gt j := by
  refine Eq.trans ?_ (V_gate m c j)
  blk_simp [iblk, idx t]
  generalize V m c main_v4 = X
  blk_ext [idx t]

/-- The first three rows of the taps' table are the taps. -/
theorem blk10 (r : Fin 8) (k : Fin 3) (hk : k.val = r.val) : iblk m c 10 t (ix2 r j) = (inK m c).cw k j := by
  refine Eq.trans ?_ (V_tap m c r k hk j)
  blk_simp [iblk, idx t]
  generalize V m c main_v7 = X
  blk_ext [idx t]

/-- Each point is given the whole attention branch's weight. -/
theorem blk11 (k : Fin 512) : iblk m c 11 t (ix2 k j) = (inK m c).wa k j := by
  simp only [inK, inOf, ← V_wa]
  blk_ext [iblk, idx t]

/-- Each point is given the whole convolution branch's weight. -/
theorem blk12 (k : Fin 1024) : iblk m c 12 t (ix2 k j) = (inK m c).wc k j := by
  simp only [inK, inOf, ← V_wc]
  blk_ext [iblk, idx t]

/-- Each point is given the whole output weight. -/
theorem blk13 (k : Fin 1024) : iblk m c 13 t (ix2 k j) = (inK m c).wo k j := by
  simp only [inK, inOf, ← V_wo]
  blk_ext [iblk, idx t]

end Cert.Mix
-- ==== Proof.MixPoint.lean ====
/-
  What one grid point leaves: in the carry, the first rows of its tile's convolution gradient, and in each result block
  the rows of the specification at its tile.
-/
module

public import proofs.«01_k».proof.Proof.MixHost
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.Mix

open Idealize.ShloMosaic Idealize.ShloMosaic.TcCoe
open Cert.KernelIdeal Cert.KernelIdeal.Gen

/-- Row `o` stored over earlier pieces: the store on that row, what was there on the others. -/
theorem canon_row (o : ℕ) (inb : ∀ a : Fin 2, (![o, 0] : Fin 2 → ℕ) a + (![1, 1024] : Fin 2 → ℕ) a ≤ S8x1024.size a)
    (w : S1x1024.Idx → EReal) (L : List (View.Piece (Elt Ideal) S8x1024 .f32)) (k : Fin 8) (j : Fin 1024) :
    View.canon ((⟨Rect.unit (s := S8x1024) ![o, 0] ![1, 1024] inb, w⟩ : View.Piece (Elt Ideal) S8x1024 .f32) :: L) (ix2 k j)
      = if k.val = o then w (ix2 0 j) else View.canon L (ix2 k j) := by
  by_cases h : k.val = o
  · rw [if_pos h]
    have e : (Rect.unit (s := S8x1024) ![o, 0] ![1, 1024] inb).emb (ix2 (0 : Fin 1) j) = ix2 k j := by
      funext a
      refine Fin.ext ?_
      fin_cases a
      · show o + 1 * 0 = k.val
        omega
      · show 0 + 1 * j.val = j.val
        omega
    rw [← e]
    exact View.canon_cons_emb _ _ _ _
  · rw [if_neg h]
    refine View.canon_cons_of_not_mem _ _ ?_
    intro hm
    obtain ⟨x, hx⟩ := (Rect.unit (s := S8x1024) ![o, 0] ![1, 1024] inb).exists_idx_of_mem hm
    have e := congrArg (fun z : S8x1024.Idx => (z 0).val) hx
    have e' : o + 1 * (x 0).val = k.val := e
    have hx0 : (x 0).val < 1 := (x 0).isLt
    omega

/-- The same over contents read through a view. -/
theorem read_row {sig : RefSig} {κ : Kind} {sp : Space} (v : View sig κ sp S8x1024 .f32) (f : v.ty.shape.Idx → Elt Ideal v.ty.elt)
    (o : ℕ) (inb : ∀ a : Fin 2, (![o, 0] : Fin 2 → ℕ) a + (![1, 1024] : Fin 2 → ℕ) a ≤ S8x1024.size a)
    (w : S1x1024.Idx → EReal) (L : List (View.Piece (Elt Ideal) S8x1024 .f32)) (k : Fin 8) (j : Fin 1024) :
    v.read (Elt Ideal) (v.writes (Elt Ideal) f ((⟨Rect.unit (s := S8x1024) ![o, 0] ![1, 1024] inb, w⟩ : View.Piece (Elt Ideal) S8x1024 .f32) :: L)) (ix2 k j)
      = if k.val = o then w (ix2 0 j) else v.read (Elt Ideal) (v.writes (Elt Ideal) f L) (ix2 k j) := by
  by_cases h : k.val = o
  · rw [if_pos h]
    exact View.read_writes_cons_rows_of_mem v f inb w L (ix2 k j) (ix2 (0 : Fin 1) j) rfl h rfl
  · rw [if_neg h]
    exact View.read_writes_cons_rows_of_not_mem v f inb w L (ix2 k j) rfl rfl (by show k.val < o ∨ o + 1 ≤ k.val; omega)

/-- One row of an array loaded. -/
theorem ld_row (o : ℕ) (inb : ∀ a : Fin 2, (![o, 0] : Fin 2 → ℕ) a + (![1, 1024] : Fin 2 → ℕ) a ≤ S8x1024.size a)
    (X : S8x1024.Idx → Elt Ideal .f32) (k : Fin 8) (h : k.val = o) (j : Fin 1024) :
    View.ld (Val := Elt Ideal) (e' := .f32) X (Rect.unit (s := S8x1024) ![o, 0] ![1, 1024] inb) (ix2 (0 : Fin 1) j) = X (ix2 k j) := by
  show X _ = X _
  refine congrArg X ?_
  funext a
  refine Fin.ext ?_
  fin_cases a
  · show o + 1 * 0 = k.val
    omega
  · show 0 + 1 * j.val = j.val
    omega

variable (m : (ℓ : Loc nD τ sig) → Buf (Elt Ideal) ℓ) (c : Dev nD) (t : Fin cfg0.N)

/-- The gate's row as the point loads it. -/
theorem gate_at (j : Fin 1024) :
    View.ld (iblk m c 9 t) (Rect.unit ![2, 0] ![1, 1024] inb_S8x1024_S1x1024_2_0) (ix2 (0 : Fin 1) j) = (inK m c).gt j :=
  (ld_row 2 _ (iblk m c 9 t) 2 rfl j).trans (blk9 m c t j)

/-- The taps' rows as the point loads them. -/
theorem tap2_at (j : Fin 1024) :
    View.ld (iblk m c 10 t) (Rect.unit ![2, 0] ![1, 1024] inb_S8x1024_S1x1024_2_0) (ix2 (0 : Fin 1) j) = (inK m c).cw 2 j :=
  (ld_row 2 _ (iblk m c 10 t) 2 rfl j).trans (blk10 m c t j 2 2 rfl)

/-- The middle tap. -/
theorem tap1_at (j : Fin 1024) :
    View.ld (iblk m c 10 t) (Rect.unit ![1, 0] ![1, 1024] inb_S8x1024_S1x1024_1_0) (ix2 (0 : Fin 1) j) = (inK m c).cw 1 j :=
  (ld_row 1 _ (iblk m c 10 t) 1 rfl j).trans (blk10 m c t j 1 1 rfl)

/-- The first tap. -/
theorem tap0_at (j : Fin 1024) :
    View.ld (iblk m c 10 t) (Rect.unit ![0, 0] ![1, 1024] inb_S8x1024_S1x1024_0_0) (ix2 (0 : Fin 1) j) = (inK m c).cw 0 j :=
  (ld_row 0 _ (iblk m c 10 t) 0 rfl j).trans (blk10 m c t j 0 0 rfl)

/-- The gradient of the gated convolution at the point's tile. -/
abbrev yb : FVec Ideal S512x1024 .f32 :=
  k0_pay14 (k0_pay9 (View.ld (iblk m c 9 t) (Rect.unit ![2, 0] ![1, 1024] inb_S8x1024_S1x1024_2_0)) (iblk m c 0 t)
    (iblk m c 13 t) (iblk m c 8 t)) (iblk m c 12 t)

/-- What it holds at a row and column. -/
theorem yb_at (p : Fin 512) (j : Fin 1024) : yb m c t (ix2 p j) = dyb (inK m c) (row (tile t) p) j :=
  tile_dyb (inK m c) (tile t) _ _ _ _ _ (gate_at m c t) (blk0 m c t) (fun k j => blk13 m c t j k) (blk8 m c t)
    (fun k j => blk12 m c t j k) p j

/-- The convolution's gradient at the point's tile. -/
theorem conv_at (p : Fin 512) (j : Fin 1024) :
    k0_pay16 (yb m c t) (iblk m c 5 t) (ix2 p j) = dconv (inK m c) (row (tile t) p) j :=
  tile_dconv (inK m c) (tile t) _ _ (yb_at m c t) (blk5 m c t) p j

/-- The convolution's gradient times the last tap. -/
theorem last_at (p : Fin 512) (j : Fin 1024) :
    k0_pay20 (yb m c t) (iblk m c 5 t) (View.ld (iblk m c 10 t) (Rect.unit ![2, 0] ![1, 1024] inb_S8x1024_S1x1024_2_0)) (ix2 p j)
      = dconv (inK m c) (row (tile t) p) j * (inK m c).cw 2 j := by
  pointwise [k0_pay20, conv_at m c t]
  rw [blk10 m c t j 2 2 rfl]

/-- After any point the carry holds the first rows of the point's tile. -/
theorem carry_at (k : Fin 8) (j : Fin 1024) :
    (outsAt0 m c t.val t.isLt).2.2.2.2.2.2 (ix2 k j) = dconv (inK m c) (row (tile t) ⟨k.val, by omega⟩) j := by
  by_cases h : t.val % 16 = 0
  · rw [outsAt0_A m c t h]; frame_out
    exact tile_carry (inK m c) (tile t) _ _ (yb_at m c t) (blk5 m c t) k j
  · rw [outsAt0_B m c t h]; frame_out
    exact tile_carry (inK m c) (tile t) _ _ (yb_at m c t) (blk5 m c t) k j

/-- What the point finds in the carry's first two rows: zero at the first point. -/
theorem first_at (h : t.val % 16 = 0) (k : Fin 8) (j : Fin 1024) (_ : k.val < 2) :
    k0_pay2 (F := Ideal) (ix2 k j) = edge (inK m c) (tile t) k.val j := by
  have ht : t.val < 16 := lt_of_lt_of_eq t.isLt N_0
  pointwise [k0_pay2]
  unfold edge tile
  rw [dif_neg (by show ¬ (15 - t.val) * 512 + 512 + k.val < 8192; omega)]
  try rfl

/-- What the point finds in the carry's first two rows: those of the tile after its own. -/
theorem prev_at (h : ¬ t.val % 16 = 0) (k : Fin 8) (j : Fin 1024) (_ : k.val < 2) :
    (outsAt0 m c (t.val - 1) (Nat.lt_of_le_of_lt (Nat.sub_le _ _) t.isLt)).2.2.2.2.2.2 (ix2 k j)
      = edge (inK m c) (tile t) k.val j := by
  have ht : t.val < 16 := lt_of_lt_of_eq t.isLt N_0
  refine (carry_at m c ⟨t.val - 1, Nat.lt_of_le_of_lt (Nat.sub_le _ _) t.isLt⟩ k j).trans ?_
  unfold edge tile
  rw [dif_pos (by show (15 - t.val) * 512 + 512 + k.val < 8192; omega)]
  refine congrArg (fun r => dconv (inK m c) r j) (Fin.ext ?_)
  show (15 - (t.val - 1)) * 512 + k.val = (15 - t.val) * 512 + 512 + k.val
  omega

/-- A point's addition to the taps' gradient. -/
def part (k : Fin 8) (j : Fin 1024) : EReal :=
  if k.val < 3 then ∑ p : Fin 512, (inK m c).c (row (tile t) p) j * (inK m c).u (row (tile t) p) j
    * dnext (inK m c) (2 - k.val) (row (tile t) p) j else 0

/-- The zero fill of the taps' gradient. -/
theorem zero_at (k : Fin 8) (j : Fin 1024) : k0_pay3 (F := Ideal) (ix2 k j) = 0 := by
  pointwise [k0_pay3]

/-- The first point leaves its own part of the taps' gradient. -/
theorem taps_first (h : t.val % 16 = 0) (k : Fin 8) (j : Fin 1024) :
    (outsAt0 m c t.val t.isLt).2.2.2.2.2.1 (ix2 k j) = 0 + part m c t k j := by
  rw [outsAt0_A m c t h]; frame_out
  simp (disch := decide) only [↓ View.readCov_skip, ↓ View.readCov_fill]
  refine (canon_row 2 _ _ _ k j).trans ?_
  unfold part
  have e1 := tile_next1 (inK m c) (tile t) _ _ _ (yb_at m c t) (blk5 m c t) (first_at m c t h)
  have e2 := tile_next2 (inK m c) (tile t) _ _ _ (yb_at m c t) (blk5 m c t) (first_at m c t h)
  by_cases h2 : k.val = 2
  · rw [if_pos h2, if_pos (by omega), h2]
    refine (tile_tap2 (inK m c) (tile t) _ _ _ _ (conv_at m c t) (blk4 m c t) (blk6 m c t) j).trans ?_
    exact congrArg (· + _) ((ld_row 2 _ _ k h2 j).trans (zero_at k j))
  rw [if_neg h2]
  refine (canon_row 1 _ _ _ k j).trans ?_
  by_cases h1 : k.val = 1
  · rw [if_pos h1, if_pos (by omega), h1]
    refine (tile_tap1 (inK m c) (tile t) _ _ _ _ e1 (blk4 m c t) (blk6 m c t) j).trans ?_
    exact congrArg (· + _) ((ld_row 1 _ _ k h1 j).trans (zero_at k j))
  rw [if_neg h1]
  refine (canon_row 0 _ _ _ k j).trans ?_
  by_cases h0 : k.val = 0
  · rw [if_pos h0, if_pos (by omega), h0]
    refine (tile_tap0 (inK m c) (tile t) _ _ _ _ e2 (blk4 m c t) (blk6 m c t) j).trans ?_
    exact congrArg (· + _) ((ld_row 0 _ _ k h0 j).trans (zero_at k j))
  rw [if_neg h0, if_neg (by omega), View.canon_cons_unit_lit _ _ _ (by decide), zero_at, zero_add]

/-- Every later point adds its part to what the point before left. -/
theorem taps_step (h : ¬ t.val % 16 = 0) (k : Fin 8) (j : Fin 1024) :
    (outsAt0 m c t.val t.isLt).2.2.2.2.2.1 (ix2 k j)
      = (outsAt0 m c (t.val - 1) (Nat.lt_of_le_of_lt (Nat.sub_le _ _) t.isLt)).2.2.2.2.2.1 (ix2 k j) + part m c t k j := by
  rw [outsAt0_B m c t h]; frame_out
  simp only [read_unread_whole]
  refine (read_row _ _ 2 _ _ _ k j).trans ?_
  unfold part
  have e1 := tile_next1 (inK m c) (tile t) _ _ _ (yb_at m c t) (blk5 m c t) (prev_at m c t h)
  have e2 := tile_next2 (inK m c) (tile t) _ _ _ (yb_at m c t) (blk5 m c t) (prev_at m c t h)
  by_cases h2 : k.val = 2
  · rw [if_pos h2, if_pos (by omega), h2]
    refine (tile_tap2 (inK m c) (tile t) _ _ _ _ (conv_at m c t) (blk4 m c t) (blk6 m c t) j).trans ?_
    exact congrArg (· + _) (ld_row 2 _ _ k h2 j)
  rw [if_neg h2]
  refine (read_row _ _ 1 _ _ _ k j).trans ?_
  by_cases h1 : k.val = 1
  · rw [if_pos h1, if_pos (by omega), h1]
    refine (tile_tap1 (inK m c) (tile t) _ _ _ _ e1 (blk4 m c t) (blk6 m c t) j).trans ?_
    exact congrArg (· + _) (ld_row 1 _ _ k h1 j)
  rw [if_neg h1]
  refine (read_row _ _ 0 _ _ _ k j).trans ?_
  by_cases h0 : k.val = 0
  · rw [if_pos h0, if_pos (by omega), h0]
    refine (tile_tap0 (inK m c) (tile t) _ _ _ _ e2 (blk4 m c t) (blk6 m c t) j).trans ?_
    exact congrArg (· + _) (ld_row 0 _ _ k h0 j)
  rw [if_neg h0, if_neg (by omega), add_zero]
  exact congrFun (Memref.IsWhole.read_unread _ _) _

/-- The projection's gradient in its first part. -/
theorem drest_u (I : In) (r : Fin 8192) (q : Fin 5120) (b : Fin 1024) (h : q.val = b.val) :
    drest I r q = dxc I r b * I.c r b := by
  obtain ⟨b, hb⟩ := b
  obtain rfl : b = q.val := by have h' : q.val = b := h; omega
  unfold drest
  rw [dif_pos hb]

/-- In its second part. -/
theorem drest_b (I : In) (r : Fin 8192) (q : Fin 5120) (b : Fin 1024) (h : q.val = 1024 + b.val) :
    drest I r q = dyb I r b * I.cv r b := by
  obtain ⟨b, hb⟩ := b
  obtain rfl : b = q.val - 1024 := by have h' : q.val = 1024 + b := h; omega
  have h' : q.val = 1024 + (q.val - 1024) := h
  unfold drest
  rw [dif_neg (by omega), dif_pos (by omega)]

/-- In its third part. -/
theorem drest_c (I : In) (r : Fin 8192) (q : Fin 5120) (b : Fin 1024) (h : q.val = 2048 + b.val) :
    drest I r q = dxc I r b * I.u r b := by
  obtain ⟨b, hb⟩ := b
  obtain rfl : b = q.val - 2048 := by have h' : q.val = 2048 + b := h; omega
  have h' : q.val = 2048 + (q.val - 2048) := h
  unfold drest
  rw [dif_neg (by omega), dif_neg (by omega), dif_pos (by omega)]

/-- In its fourth part. -/
theorem drest_ga (I : In) (r : Fin 8192) (q : Fin 5120) (b : Fin 1024) (h : q.val = 3072 + b.val) :
    drest I r q = dga I r b := by
  obtain ⟨b, hb⟩ := b
  obtain rfl : b = q.val - 3072 := by have h' : q.val = 3072 + b := h; omega
  have h' : q.val = 3072 + (q.val - 3072) := h
  unfold drest
  rw [dif_neg (by omega), dif_neg (by omega), dif_neg (by omega), dif_pos (by omega)]

/-- In its last part. -/
theorem drest_gc (I : In) (r : Fin 8192) (q : Fin 5120) (b : Fin 1024) (h : q.val = 4096 + b.val) :
    drest I r q = dgc I r b := by
  obtain ⟨b, hb⟩ := b
  have h' : q.val = 4096 + b := h
  have h1 : ¬ q.val < 1024 := by omega
  have h2 : ¬ q.val < 2048 := by omega
  have h3 : ¬ q.val < 3072 := by omega
  have h4 : ¬ q.val < 4096 := by omega
  unfold drest
  rw [dif_neg h1, dif_neg h2, dif_neg h3, dif_neg h4]
  refine congrArg (fun z : Fin 1024 => dgc I r z) (Fin.ext ?_)
  show q.val - 4096 = b
  omega

/-- A payload at an index is the payload at the index's row and column. -/
theorem at_piece (f : S512x1024.Idx → EReal) (x : S512x1024.Idx) (p : Fin 512) (h : p.val = (x 0).val) :
    f x = f (ix2 p (x 1)) := by
  refine congrArg f ?_
  funext a
  refine Fin.ext ?_
  fin_cases a
  · exact h.symm
  · rfl

/-- The five parts of the projection's gradient at a row, from what the carry's first two rows hold. -/
theorem rest_pieces (v76 : FVec Ideal S8x1024 .f32)
    (he : ∀ (k : Fin 8) (j : Fin 1024), k.val < 2 → v76 (ix2 k j) = edge (inK m c) (tile t) k.val j)
    (p : Fin 512) (q : Fin 5120) :
    View.canon (Val := Elt Ideal) (s := S512x5120) (e := .f32)
      [⟨Rect.unit ![0, 2048] ![512, 1024] inb_S512x5120_S512x1024_0_2048,
          k0_pay26 (F := Ideal) (k0_pay17 (yb m c t) (iblk m c 5 t) v76) (k0_pay18 (yb m c t) (iblk m c 5 t) v76)
            (k0_pay20 (yb m c t) (iblk m c 5 t) (View.ld (iblk m c 10 t) (Rect.unit ![2, 0] ![1, 1024] inb_S8x1024_S1x1024_2_0)))
            (View.ld (iblk m c 10 t) (Rect.unit ![1, 0] ![1, 1024] inb_S8x1024_S1x1024_1_0))
            (View.ld (iblk m c 10 t) (Rect.unit ![0, 0] ![1, 1024] inb_S8x1024_S1x1024_0_0)) (iblk m c 4 t)⟩,
        ⟨Rect.unit ![0, 0] ![512, 1024] inb_S512x5120_S512x1024_0_0,
          k0_pay25 (F := Ideal) (k0_pay17 (yb m c t) (iblk m c 5 t) v76) (k0_pay18 (yb m c t) (iblk m c 5 t) v76)
            (k0_pay20 (yb m c t) (iblk m c 5 t) (View.ld (iblk m c 10 t) (Rect.unit ![2, 0] ![1, 1024] inb_S8x1024_S1x1024_2_0)))
            (View.ld (iblk m c 10 t) (Rect.unit ![1, 0] ![1, 1024] inb_S8x1024_S1x1024_1_0))
            (View.ld (iblk m c 10 t) (Rect.unit ![0, 0] ![1, 1024] inb_S8x1024_S1x1024_0_0)) (iblk m c 6 t)⟩,
        ⟨Rect.unit ![0, 1024] ![512, 1024] inb_S512x5120_S512x1024_0_1024, k0_pay15 (F := Ideal) (yb m c t) (iblk m c 3 t)⟩,
        ⟨Rect.unit ![0, 4096] ![512, 1024] inb_S512x5120_S512x1024_0_4096,
          k0_pay12 (F := Ideal) (k0_pay5 (View.ld (iblk m c 9 t) (Rect.unit ![2, 0] ![1, 1024] inb_S8x1024_S1x1024_2_0)) (iblk m c 0 t)
              (iblk m c 13 t))
            (k0_pay7 (iblk m c 8 t)) (iblk m c 2 t)⟩,
        ⟨Rect.unit ![0, 3072] ![512, 1024] inb_S512x5120_S512x1024_0_3072,
          k0_pay11 (F := Ideal) (k0_pay5 (View.ld (iblk m c 9 t) (Rect.unit ![2, 0] ![1, 1024] inb_S8x1024_S1x1024_2_0)) (iblk m c 0 t)
              (iblk m c 13 t))
            (k0_pay6 (iblk m c 7 t)) (iblk m c 1 t)⟩]
      (ix2 p q) = drest (inK m c) (row (tile t) p) q := by
  have e1 := tile_next1 (inK m c) (tile t) _ v76 _ (yb_at m c t) (blk5 m c t) he
  have e2 := tile_next2 (inK m c) (tile t) _ v76 _ (yb_at m c t) (blk5 m c t) he
  have hu := tile_du (inK m c) (tile t) _ _ _ _ _ _ e1 e2 (last_at m c t) (tap1_at m c t) (tap0_at m c t) (blk6 m c t)
  have hc := tile_dc (inK m c) (tile t) _ _ _ _ _ _ e1 e2 (last_at m c t) (tap1_at m c t) (tap0_at m c t) (blk4 m c t)
  have hb := tile_db (inK m c) (tile t) _ _ (yb_at m c t) (blk3 m c t)
  have ha := tile_dga (inK m c) (tile t) _ _ _ _ _ (gate_at m c t) (blk0 m c t) (fun k j => blk13 m c t j k) (blk7 m c t) (blk1 m c t)
  have hg := tile_dgc (inK m c) (tile t) _ _ _ _ _ (gate_at m c t) (blk0 m c t) (fun k j => blk13 m c t j k) (blk8 m c t) (blk2 m c t)
  canon_tiles x h
  · exact (at_piece _ x p h0).trans ((hc p (x 1)).trans (drest_c _ _ _ (x 1) h1).symm)
  · exact (at_piece _ x p h0).trans ((hu p (x 1)).trans (drest_u _ _ _ (x 1) h1).symm)
  · exact (at_piece _ x p h0).trans ((hb p (x 1)).trans (drest_b _ _ _ (x 1) h1).symm)
  · exact (at_piece _ x p h0).trans ((hg p (x 1)).trans (drest_gc _ _ _ (x 1) h1).symm)
  · exact (at_piece _ x p h0).trans ((ha p (x 1)).trans (drest_ga _ _ _ (x 1) h1).symm)

/-- The projection's gradient a point leaves. -/
theorem rest_at (p : Fin 512) (q : Fin 5120) :
    (outsAt0 m c t.val t.isLt).2.1 (ix2 p q) = drest (inK m c) (row (tile t) p) q := by
  by_cases h : t.val % 16 = 0
  · rw [outsAt0_A m c t h]; frame_out
    exact rest_pieces m c t _ (first_at m c t h) p q
  · rw [outsAt0_B m c t h]; frame_out
    simp only [read_unread_whole]
    exact rest_pieces m c t _ (prev_at m c t h) p q

/-- The attention output's gradient a point leaves. -/
theorem out_at (p : Fin 512) (j : Fin 512) :
    (outsAt0 m c t.val t.isLt).1 (ix2 p j) = dout (inK m c) (row (tile t) p) j := by
  have e := tile_dout (inK m c) (tile t) _ _ _ _ _ (gate_at m c t) (blk0 m c t) (fun k j => blk13 m c t j k) (blk7 m c t)
    (fun k j => blk11 m c t j k) p j
  by_cases h : t.val % 16 = 0
  · rw [outsAt0_A m c t h]; frame_out
    exact e
  · rw [outsAt0_B m c t h]; frame_out
    exact e

/-- The output projection's gradient a point leaves. -/
theorem dz_at (p : Fin 512) (j : Fin 1024) :
    (outsAt0 m c t.val t.isLt).2.2.1 (ix2 p j) = dz (inK m c) (row (tile t) p) j := by
  have e := tile_dz (inK m c) (tile t) _ _ (gate_at m c t) (blk0 m c t) p j
  by_cases h : t.val % 16 = 0
  · rw [outsAt0_A m c t h]; frame_out
    exact e
  · rw [outsAt0_B m c t h]; frame_out
    exact e

/-- The attention branch's gradient a point leaves. -/
theorem ya_at (p : Fin 512) (j : Fin 1024) :
    (outsAt0 m c t.val t.isLt).2.2.2.1 (ix2 p j) = dya (inK m c) (row (tile t) p) j := by
  have e := tile_dya (inK m c) (tile t) _ _ _ _ (gate_at m c t) (blk0 m c t) (fun k j => blk13 m c t j k) (blk7 m c t) p j
  by_cases h : t.val % 16 = 0
  · rw [outsAt0_A m c t h]; frame_out
    exact e
  · rw [outsAt0_B m c t h]; frame_out
    exact e

/-- The convolution branch's gradient a point leaves. -/
theorem yc_at (p : Fin 512) (j : Fin 1024) :
    (outsAt0 m c t.val t.isLt).2.2.2.2.1 (ix2 p j) = dyc (inK m c) (row (tile t) p) j := by
  have e := tile_dyc (inK m c) (tile t) _ _ _ _ (gate_at m c t) (blk0 m c t) (fun k j => blk13 m c t j k) (blk8 m c t) p j
  by_cases h : t.val % 16 = 0
  · rw [outsAt0_A m c t h]; frame_out
    exact e
  · rw [outsAt0_B m c t h]; frame_out
    exact e

end Cert.Mix

end
-- ==== Proof.MixKernel.lean ====
/-
  The kernel's six results: each is the specification's gradient at the program's arguments, and the reference's result.
-/
module

public import proofs.«01_k».proof.Proof.MixPoint

@[expose] public section

set_option maxRecDepth 16384

noncomputable section

namespace Cert.Mix

open Idealize.ShloMosaic Idealize.ShloMosaic.TcCoe
open Cert.KernelIdeal Cert.KernelIdeal.Gen

variable (m : (ℓ : Loc nD τ sig) → Buf (Elt Ideal) ℓ) (c : Dev nD)

/-- A point's row and column of a block are the tile's row and the column of the array. -/
theorem row_val (t : Fin cfg0.N) (p : Fin 512) : (row (tile t) p).val = (15 - t.val) * 512 + p.val := rfl

/-- The attention output's gradient. -/
theorem final14 : (dats m 0 c).arrAt 14 cfg0.N = fun i => dout (inK m c) (i 0) (i 1) := by
  refine (dats m 0 c).arrAt_eq_of_covers 14 _ (by decide +kernel) fun t hf y => ?_
  blk_simp
  rw [after0_14]
  idx_vars y
  refine (out_at m c t _ _).trans (congrArg₂ (dout (inK m c)) (Fin.ext ?_) (Fin.ext ?_))
  · rw [row_val]
    blk_simp [idx t]
  · blk_simp [idx t]

/-- The projection's gradient. -/
theorem final15 : (dats m 0 c).arrAt 15 cfg0.N = fun i => drest (inK m c) (i 0) (i 1) := by
  refine (dats m 0 c).arrAt_eq_of_covers 15 _ (by decide +kernel) fun t hf y => ?_
  blk_simp
  rw [after0_15]
  idx_vars y
  refine (rest_at m c t _ _).trans (congrArg₂ (drest (inK m c)) (Fin.ext ?_) (Fin.ext ?_))
  · rw [row_val]
    blk_simp [idx t]
  · blk_simp [idx t]

/-- The output projection's gradient. -/
theorem final16 : (dats m 0 c).arrAt 16 cfg0.N = fun i => dz (inK m c) (i 0) (i 1) := by
  refine (dats m 0 c).arrAt_eq_of_covers 16 _ (by decide +kernel) fun t hf y => ?_
  blk_simp
  rw [after0_16]
  idx_vars y
  refine (dz_at m c t _ _).trans (congrArg₂ (dz (inK m c)) (Fin.ext ?_) (Fin.ext ?_))
  · rw [row_val]
    blk_simp [idx t]
  · blk_simp [idx t]

/-- The attention branch's gradient. -/
theorem final17 : (dats m 0 c).arrAt 17 cfg0.N = fun i => dya (inK m c) (i 0) (i 1) := by
  refine (dats m 0 c).arrAt_eq_of_covers 17 _ (by decide +kernel) fun t hf y => ?_
  blk_simp
  rw [after0_17]
  idx_vars y
  refine (ya_at m c t _ _).trans (congrArg₂ (dya (inK m c)) (Fin.ext ?_) (Fin.ext ?_))
  · rw [row_val]
    blk_simp [idx t]
  · blk_simp [idx t]

/-- The convolution branch's gradient. -/
theorem final18 : (dats m 0 c).arrAt 18 cfg0.N = fun i => dyc (inK m c) (i 0) (i 1) := by
  refine (dats m 0 c).arrAt_eq_of_covers 18 _ (by decide +kernel) fun t hf y => ?_
  blk_simp
  rw [after0_18]
  idx_vars y
  refine (yc_at m c t _ _).trans (congrArg₂ (dyc (inK m c)) (Fin.ext ?_) (Fin.ext ?_))
  · rw [row_val]
    blk_simp [idx t]
  · blk_simp [idx t]

/-- The tiles of the points, each once. -/
def tiles : Fin cfg0.N ≃ Fin 16 where
  toFun := tile
  invFun s := ⟨15 - s.val, by rw [show cfg0.N = 16 from N_0]; omega⟩
  left_inv t := Fin.ext (by
    have ht : t.val < 16 := lt_of_lt_of_eq t.isLt N_0
    show 15 - (15 - t.val) = t.val
    omega)
  right_inv s := Fin.ext (by
    have hs := s.isLt
    show 15 - (15 - s.val) = s.val
    omega)

/-- A sum over the points' tiles and the rows of each is the sum over all rows. -/
theorem sum_rows (f : Fin 8192 → EReal) : ∑ t : Fin cfg0.N, ∑ p : Fin 512, f (row (tile t) p) = ∑ r : Fin 8192, f r :=
  (Fintype.sum_equiv tiles _ (fun s => ∑ p : Fin 512, f (row s p)) fun _ => rfl).trans
    (Fin.sum_mul_add_congr fun s p hl => rfl)

/-- The taps' gradient, padded to eight rows. -/
theorem final19 : (dats m 0 c).arrAt 19 cfg0.N = fun i => dtaps (inK m c) (i 0) (i 1) := by
  refine (dats m 0 c).arrAt_eq_of_after_last 19 t0_15 (by decide +kernel) _ fun j => ?_
  blk_simp
  idx_vars j
  rw [after0_19, Pipeline.eq_sum_fin_of_reset_step_apply_last (fun n h => (outsAt0 m c n h).2.2.2.2.2.1) 16 (fun _ => 0) (fun p y => part m c p (y 0) (y 1))
    (fun t h j => by idx_vars j; exact taps_first m c t h _ _) (fun t h j => by idx_vars j; exact taps_step m c t h _ _) (le_of_eq N_0) t0_15 rfl _, zero_add]
  show (∑ t : Fin cfg0.N, part m c t j0 j1) = dtaps (inK m c) j0 j1
  unfold part dtaps dtap
  by_cases h : j0.val < 3
  · simp only [if_pos h]
    exact sum_rows fun r => (inK m c).c r j1 * (inK m c).u r j1 * dnext (inK m c) (2 - j0.val) r j1
  · simp only [if_neg h]
    exact Finset.sum_const_zero

end Cert.Mix

end
-- ==== Proof.MixClaim.lean ====
/-
  The claims about the mixer's backward call.
-/
module

public import proofs.«01_k».proof.Defs
public import proofs.«01_k».proof.Proof.Gen.Kernel.Frame
public import proofs.«01_k».proof.Proof.MixKernel

@[expose] public section

set_option maxRecDepth 16384

noncomputable section

namespace Cert.Mix

open Idealize.ShloMosaic Idealize.ShloMosaic.TcCoe

/-- The kernel as written runs and leaves its arguments as they were. -/
theorem frame : Cert.quiescent_Kernel (hKernel := Cert.Kernel.Gen.facts) := fun m ρ _ => Cert.Kernel.Gen.frame m ρ

/-- The kernel over the reals runs and leaves its arguments as they were. -/
theorem frameIdeal : Cert.quiescent_KernelIdeal (hKernelIdeal := Cert.KernelIdeal.Gen.facts) :=
  fun m ρ _ => Cert.KernelIdeal.Gen.frame m ρ

/-- The reference runs and leaves its arguments as they were. -/
theorem frameRef : Cert.quiescent_ReferenceIdeal (hReferenceIdeal := Cert.ReferenceIdeal.Gen.facts) := by
  intro m g _
  exact (θ_run Cert.ReferenceIdeal.defs _ _).mono (fun r h => ⟨fun c => (h c).2.2.2.2.2.2,
    Idealize.ShloMosaic.sem_eq_zero_of_no_sems (by decide) r.2⟩) (Cert.ReferenceIdeal.Value.run m g)

variable (m : (ℓ : Loc Cert.KernelIdeal.nD Cert.KernelIdeal.τ Cert.KernelIdeal.sig) → Buf (Elt Ideal) ℓ) (c : Dev Cert.KernelIdeal.nD)

/-- The reference's attention output's gradient is the array the kernel leaves. -/
theorem result14 : Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg8))
    = (Cert.KernelIdeal.Gen.dats m 0 c).arrAt 14 Cert.KernelIdeal.cfg0.N := by
  refine Eq.trans ?_ (final14 m c).symm
  funext i
  idx_vars i
  exact ref_dout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i0 i1

/-- The reference's projection's gradient is the array the kernel leaves. -/
theorem result15 : Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    = (Cert.KernelIdeal.Gen.dats m 0 c).arrAt 15 Cert.KernelIdeal.cfg0.N := by
  refine Eq.trans ?_ (final15 m c).symm
  funext i
  idx_vars i
  exact ref_drest (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i0 i1

/-- The reference's output projection's gradient is the array the kernel leaves. -/
theorem result16 : Cert.ReferenceIdeal.Read.val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3))
    = (Cert.KernelIdeal.Gen.dats m 0 c).arrAt 16 Cert.KernelIdeal.cfg0.N := by
  refine Eq.trans ?_ (final16 m c).symm
  funext i
  idx_vars i
  exact ref_dz (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i0 i1

/-- The reference's attention branch's gradient is the array the kernel leaves. -/
theorem result17 : Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8))
    = (Cert.KernelIdeal.Gen.dats m 0 c).arrAt 17 Cert.KernelIdeal.cfg0.N := by
  refine Eq.trans ?_ (final17 m c).symm
  funext i
  idx_vars i
  exact ref_dya (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i0 i1

/-- The reference's convolution branch's gradient is the array the kernel leaves. -/
theorem result18 : Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8))
    = (Cert.KernelIdeal.Gen.dats m 0 c).arrAt 18 Cert.KernelIdeal.cfg0.N := by
  refine Eq.trans ?_ (final18 m c).symm
  funext i
  idx_vars i
  exact ref_dyc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i0 i1

/-- The reference's taps' gradient is the array the kernel leaves. -/
theorem result19 : Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    = (Cert.KernelIdeal.Gen.dats m 0 c).arrAt 19 Cert.KernelIdeal.cfg0.N := by
  refine Eq.trans ?_ (final19 m c).symm
  funext i
  idx_vars i
  exact ref_tap (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i0 i1

/-- The kernel's six results are the reference's. -/
theorem value : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    · exact result14 m c
    · rw [Cert.ReferenceIdeal.Read.val_main_v106_eq]
      obtain ⟨h0, h1, h2, h3, h4, h5, h6, h7, h8⟩ := hagree c
      rw [h0, h1, h2, h3, h5, h6, h7, h8]
      exact result15 m c
    · exact result16 m c
    · exact result17 m c
    · exact result18 m c
    · rw [Cert.ReferenceIdeal.Read.val_main_v110_eq]
      obtain ⟨h0, h1, h2, h3, h4, h5, h6, h7, h8⟩ := hagree c
      rw [h0, h2, h3, h7, h8]
      exact result19 m c

end Cert.Mix

end
-- ==== Proof.Stores.lean ====
/-
  What a list of stores leaves: stores that together reach an element hide every earlier store of it.
-/
module

public import Idealize.ShloMosaic.Lib.Pipeline.ValueKit

@[expose] public section

noncomputable section

namespace Cert.Stores

open Idealize.ShloMosaic

variable {s : Shape} {e : EltTy} {Val : EltTy → Type} [∀ e, Nonempty (Val e)]

/-- At an element that one of the later stores `L` writes, the earlier stores `E` leave no trace. -/
theorem later (L E : List (View.Piece Val s e)) (y : s.Idx) (h : ∃ p ∈ L, y ∈ p.1.set) :
    View.canon (L ++ E) y = View.canon L y := by
  induction L with
  | nil => obtain ⟨p, hp, -⟩ := h; exact absurd hp List.not_mem_nil
  | cons p L ih =>
    by_cases hy : y ∈ p.1.set
    · obtain ⟨x, rfl⟩ := p.1.exists_idx_of_mem hy
      rw [show p.1.idx x = p.1.emb x from rfl, List.cons_append, View.canon_cons_emb, View.canon_cons_emb]
    · rw [List.cons_append, View.canon_cons_of_not_mem p _ hy, View.canon_cons_of_not_mem p _ hy]
      refine ih ?_
      obtain ⟨q, hq, hm⟩ := h
      rcases List.mem_cons.mp hq with rfl | hq
      · exact absurd hm hy
      · exact ⟨q, hq, hm⟩

end Cert.Stores

end
-- ==== Proof.FfnBwdPoint.lean ====
/-
  What a grid point of the channel mixer's backward call computes from its blocks.
-/
module

public import proofs.«01_k».proof.Proof.Gen.Kernel2Ideal.Value
public import proofs.«01_k».proof.Proof.Stores
public import proofs.«01_k».proof.Proof.MixSpec
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.FfnBwd

open Idealize.ShloMosaic Idealize.ShloMosaic.TcCoe
open Cert.Kernel2Ideal Cert.Kernel2Ideal.Gen

/-- The slope of `x` times its logistic function, in the factored form. -/
def slope (x : EReal) : EReal := Ideal.logistic x * (1 + x * (1 - Ideal.logistic x))

section Block
variable (Y : FVec Ideal S1024x1024 .bf16) (G U : FVec Ideal S1x1024x704 .bf16) (WG WU : FVec Ideal S1x1024x704 .bf16)
  (WD : FVec Ideal S1x704x1024 .bf16)

/-- The hidden gradient: the block of `dy` times the block of the down weight transposed. -/
def bda (p : Fin 1024) (b : Fin 704) : EReal := ∑ k : Fin 1024, Y (ix2 p k) * WD (ix3 (0 : Fin 1) b k)
/-- The gate's gradient. -/
def bdg (p : Fin 1024) (b : Fin 704) : EReal := bda Y WD p b * U (ix3 (0 : Fin 1) p b) * slope (G (ix3 (0 : Fin 1) p b))
/-- The up projection's gradient. -/
def bdu (p : Fin 1024) (b : Fin 704) : EReal :=
  bda Y WD p b * (G (ix3 (0 : Fin 1) p b) * Ideal.logistic (G (ix3 (0 : Fin 1) p b)))
/-- The hidden activation. -/
def bact (p : Fin 1024) (b : Fin 704) : EReal :=
  G (ix3 (0 : Fin 1) p b) * Ideal.logistic (G (ix3 (0 : Fin 1) p b)) * U (ix3 (0 : Fin 1) p b)
/-- What the block adds to the input's gradient. -/
def bdh (p q : Fin 1024) : EReal :=
  ∑ b : Fin 704, (bdg Y G U WD p b * WG (ix3 (0 : Fin 1) q b) + bdu Y G WD p b * WU (ix3 (0 : Fin 1) q b))

end Block

variable (m : (ℓ : Loc nD τ sig) → Buf (Elt Ideal) ℓ) (c : Dev nD) (t : Fin cfg0.N)

/-- What a point stores as the gate's gradient. -/
theorem dg_at (z : Fin 1) (p : Fin 1024) (b : Fin 704) :
    (outsAt0 m c t.val t.isLt).2.1 (ix3 z p b) = bdg (iblk m c 0 t) (iblk m c 1 t) (iblk m c 2 t) (iblk m c 5 t) p b := by
  by_cases h : t.val % 4 = 0
  on_goal 1 => rw [outsAt0_A m c t h (by omega)]; frame_out
  on_goal 2 => rw [outsAt0_B m c t h (by omega)]; frame_out
  all_goals
    canon_tiles x h using (View.cover_of_tiledBy (s := S1x1024x704) _ ![1, 1024, 64] (by sl_kernel_rfl) _)
    all_goals
      open_payloads
      pointwise
      simp only [Cert.Mix.half_tanh]
      rw [show p = x 1 from Fin.ext h1, show b = ⟨_, lt_of_eq_of_lt h2.symm b.isLt⟩ from Fin.ext h2]
      rfl

/-- What a point stores as the up projection's gradient. -/
theorem du_at (z : Fin 1) (p : Fin 1024) (b : Fin 704) :
    (outsAt0 m c t.val t.isLt).2.2.1 (ix3 z p b) = bdu (iblk m c 0 t) (iblk m c 1 t) (iblk m c 5 t) p b := by
  by_cases h : t.val % 4 = 0
  on_goal 1 => rw [outsAt0_A m c t h (by omega)]; frame_out
  on_goal 2 => rw [outsAt0_B m c t h (by omega)]; frame_out
  all_goals
    canon_tiles x h using (View.cover_of_tiledBy (s := S1x1024x704) _ ![1, 1024, 64] (by sl_kernel_rfl) _)
    all_goals
      open_payloads
      pointwise
      simp only [Cert.Mix.half_tanh]
      rw [show p = x 1 from Fin.ext h1, show b = ⟨_, lt_of_eq_of_lt h2.symm b.isLt⟩ from Fin.ext h2]
      rfl

/-- What a point stores as the hidden activation. -/
theorem act_at (z : Fin 1) (p : Fin 1024) (b : Fin 704) :
    (outsAt0 m c t.val t.isLt).2.2.2 (ix3 z p b) = bact (iblk m c 1 t) (iblk m c 2 t) p b := by
  by_cases h : t.val % 4 = 0
  on_goal 1 => rw [outsAt0_A m c t h (by omega)]; frame_out
  on_goal 2 => rw [outsAt0_B m c t h (by omega)]; frame_out
  all_goals
    canon_tiles x h using (View.cover_of_tiledBy (s := S1x1024x704) _ ![1, 1024, 64] (by sl_kernel_rfl) _)
    all_goals
      open_payloads
      pointwise
      simp only [Cert.Mix.half_tanh]
      rw [show p = x 1 from Fin.ext h1, show b = ⟨_, lt_of_eq_of_lt h2.symm b.isLt⟩ from Fin.ext h2]
      rfl

/-- A share's sum of two terms, taken in the three pieces of columns. -/
theorem pieces (f g : Fin 704 → EReal) :
    ∑ x : Fin 256, f ⟨x.val, by omega⟩ + ∑ x : Fin 256, g ⟨x.val, by omega⟩
        + (∑ x : Fin 256, f ⟨256 + x.val, by omega⟩ + ∑ x : Fin 256, g ⟨256 + x.val, by omega⟩)
        + (∑ x : Fin 192, f ⟨512 + x.val, by omega⟩ + ∑ x : Fin 192, g ⟨512 + x.val, by omega⟩)
      = ∑ b : Fin 704, (f b + g b) := by
  refine Eq.symm ((Fin.sum_univ_add (a := 512) (b := 192) fun b => f b + g b).trans ?_)
  refine congrArg₂ (fun x y : EReal => x + y) ?_ Finset.sum_add_distrib
  refine (Fin.sum_univ_add (a := 256) (b := 256) fun b => f (Fin.castAdd 192 b) + g (Fin.castAdd 192 b)).trans ?_
  exact congrArg₂ (fun x y : EReal => x + y) Finset.sum_add_distrib Finset.sum_add_distrib

/-- The first share starts the input's gradient. -/
theorem dh_first (h : t.val % 4 = 0) (p q : Fin 1024) :
    (outsAt0 m c t.val t.isLt).1 (ix2 p q)
      = 0 + bdh (iblk m c 0 t) (iblk m c 1 t) (iblk m c 2 t) (iblk m c 3 t) (iblk m c 4 t) (iblk m c 5 t) p q := by
  refine Eq.trans ?_ (zero_add _).symm
  rw [outsAt0_A m c t h (by omega)]; frame_out
  open_payloads
  pointwise
  simp only [Cert.Mix.half_tanh]
  exact pieces (fun b => bdg (iblk m c 0 t) (iblk m c 1 t) (iblk m c 2 t) (iblk m c 5 t) p b * iblk m c 3 t (ix3 (0 : Fin 1) q b))
    (fun b => bdu (iblk m c 0 t) (iblk m c 1 t) (iblk m c 5 t) p b * iblk m c 4 t (ix3 (0 : Fin 1) q b))

/-- A later share adds to it. -/
theorem dh_step (h : ¬ t.val % 4 = 0) (p q : Fin 1024) :
    (outsAt0 m c t.val t.isLt).1 (ix2 p q)
      = (outsAt0 m c (t.val - 1) (Nat.lt_of_le_of_lt (Nat.sub_le _ _) t.isLt)).1 (ix2 p q)
        + bdh (iblk m c 0 t) (iblk m c 1 t) (iblk m c 2 t) (iblk m c 3 t) (iblk m c 4 t) (iblk m c 5 t) p q := by
  rw [outsAt0_B m c t h (by omega)]; frame_out
  open_payloads
  pointwise
  simp only [Cert.Mix.half_tanh]
  exact congrArg (fun x : EReal => _ + x) (pieces
    (fun b => bdg (iblk m c 0 t) (iblk m c 1 t) (iblk m c 2 t) (iblk m c 5 t) p b * iblk m c 3 t (ix3 (0 : Fin 1) q b))
    (fun b => bdu (iblk m c 0 t) (iblk m c 1 t) (iblk m c 5 t) p b * iblk m c 4 t (ix3 (0 : Fin 1) q b)))

/-- The block of each array that a grid point works on. -/
theorem idx : ∀ t : Fin cfg0.N, win0_0.index t = ![t.val / 4, 0] ∧ win0_1.index t = ![t.val % 4, t.val / 4, 0]
    ∧ win0_2.index t = ![t.val % 4, t.val / 4, 0] ∧ win0_3.index t = ![t.val % 4, 0, 0] ∧ win0_4.index t = ![t.val % 4, 0, 0]
    ∧ win0_5.index t = ![t.val % 4, 0, 0] ∧ win0_6.index t = ![t.val / 4, 0] ∧ win0_7.index t = ![t.val % 4, t.val / 4, 0]
    ∧ win0_8.index t = ![t.val % 4, t.val / 4, 0] ∧ win0_9.index t = ![t.val % 4, t.val / 4, 0] :=
  (by decide +kernel : ∀ t : Fin grid0.N, _)

end Cert.FfnBwd

end
-- ==== Proof.FfnBwdKernel.lean ====
/-
  The channel mixer's backward call as a whole: what its four result arrays hold, in terms of its arguments.
-/
module

public import proofs.«01_k».proof.Proof.FfnBwdPoint

@[expose] public section

set_option maxRecDepth 16384

noncomputable section

namespace Cert.FfnBwd

open Idealize.ShloMosaic Idealize.ShloMosaic.TcCoe
open Cert.Kernel2Ideal Cert.Kernel2Ideal.Gen

section Spec
variable (DY H : FVec Ideal S8192x1024 .f32) (WG WU : FVec Ideal S1024x2816 .f32) (WD : FVec Ideal S2816x1024 .f32)

/-- A projection of the block's input: the gate with the gate's weight, the up projection with the up weight. -/
def proj (H : FVec Ideal S8192x1024 .f32) (W : FVec Ideal S1024x2816 .f32) (r : Fin 8192) (f : Fin 2816) : EReal :=
  ∑ k : Fin 1024, H (ix2 r k) * W (ix2 k f)
/-- The hidden gradient. -/
def da (r : Fin 8192) (f : Fin 2816) : EReal := ∑ k : Fin 1024, DY (ix2 r k) * WD (ix2 f k)
/-- The gate's gradient. -/
def dg (r : Fin 8192) (f : Fin 2816) : EReal := da DY WD r f * proj H WU r f * slope (proj H WG r f)
/-- The up projection's gradient. -/
def du (r : Fin 8192) (f : Fin 2816) : EReal := da DY WD r f * (proj H WG r f * Ideal.logistic (proj H WG r f))
/-- The hidden activation. -/
def act (r : Fin 8192) (f : Fin 2816) : EReal := proj H WG r f * Ideal.logistic (proj H WG r f) * proj H WU r f
/-- The input's gradient. -/
def dh (r : Fin 8192) (q : Fin 1024) : EReal :=
  ∑ f : Fin 2816, (dg DY H WG WU WD r f * WG (ix2 q f) + du DY H WG WD r f * WU (ix2 q f))

/-- The column of the hidden layer that share `n` holds at `b`. -/
def col (n : Fin 4) (b : Fin 704) : Fin 2816 := ⟨n.val * 704 + b.val, by omega⟩
end Spec

variable (m : (ℓ : Loc nD τ sig) → Buf (Elt Ideal) ℓ) (c : Dev nD) (t : Fin cfg0.N)

/-- The first argument: the output gradient. -/
def DY : FVec Ideal S8192x1024 .f32 := m ((c : Thread nD τ).loc main_arg0)
/-- The second argument: the channel mixer's input. -/
def HH : FVec Ideal S8192x1024 .f32 := m ((c : Thread nD τ).loc main_arg1)
/-- The third argument: the gate weight. -/
def WG : FVec Ideal S1024x2816 .f32 := m ((c : Thread nD τ).loc main_arg2)
/-- The fourth argument: the up weight. -/
def WU : FVec Ideal S1024x2816 .f32 := m ((c : Thread nD τ).loc main_arg3)
/-- The fifth argument: the down weight. -/
def WD : FVec Ideal S2816x1024 .f32 := m ((c : Thread nD τ).loc main_arg4)

/-- The first array the call is given is the output gradient. -/
theorem V_dy (r : Fin 8192) (k : Fin 1024) : V m c main_v8 (ix2 r k) = DY m c (ix2 r k) := by
  entry_read
  pointwise
  rfl

/-- The second is the gate's projection, cut into the shares. -/
theorem V_g (n : Fin 4) (r : Fin 8192) (b : Fin 704) : V m c main_v12 (ix3 n r b) = proj (HH m c) (WG m c) r (col n b) := by
  entry_read
  pointwise
  rfl

/-- The third is the up projection, cut into the shares. -/
theorem V_u (n : Fin 4) (r : Fin 8192) (b : Fin 704) : V m c main_v16 (ix3 n r b) = proj (HH m c) (WU m c) r (col n b) := by
  entry_read
  pointwise
  rfl

/-- The fourth is the gate weight, its columns cut into the shares. -/
theorem V_wg (n : Fin 4) (k : Fin 1024) (b : Fin 704) : V m c main_v2 (ix3 n k b) = WG m c (ix2 k (col n b)) := by
  entry_read
  pointwise
  rfl

/-- The fifth is the up weight, its columns cut into the shares. -/
theorem V_wu (n : Fin 4) (k : Fin 1024) (b : Fin 704) : V m c main_v5 (ix3 n k b) = WU m c (ix2 k (col n b)) := by
  entry_read
  pointwise
  rfl

/-- The sixth is the down weight, its rows cut into the shares. -/
theorem V_wd (n : Fin 4) (b : Fin 704) (k : Fin 1024) : V m c main_v7 (ix3 n b k) = WD m c (ix2 (col n b) k) := by
  entry_read
  pointwise
  rfl

/-- The row of the whole array that a point's tile holds at `p`, and the point's share. -/
def row (p : Fin 1024) : Fin 8192 := ⟨t.val / 4 * 1024 + p.val, by
  have := t.isLt; have : cfg0.N = 32 := N_0; omega⟩
/-- The share of the hidden columns that a point works on. -/
def share : Fin 4 := ⟨t.val % 4, Nat.mod_lt _ (by decide)⟩

/-- A point's block of the output gradient: its tile of rows. -/
theorem b_dy (p k : Fin 1024) : (iblk m c 0 t : FVec Ideal S1024x1024 .bf16) (ix2 p k) = DY m c (ix2 (row t p) k) := by
  refine Eq.trans ?_ (V_dy m c _ _)
  blk_simp [iblk, idx t]
  generalize V m c main_v8 = X
  unfold row
  blk_ext [idx t]

/-- A point's block of the gate's projection: its tile of rows, its share of columns. -/
theorem b_g (p : Fin 1024) (b : Fin 704) :
    (iblk m c 1 t : FVec Ideal S1x1024x704 .bf16) (ix3 (0 : Fin 1) p b) = proj (HH m c) (WG m c) (row t p) (col (share t) b) := by
  refine Eq.trans ?_ (V_g m c _ _ _)
  blk_simp [iblk, idx t]
  generalize V m c main_v12 = X
  unfold row share
  blk_ext [idx t]

/-- A point's block of the up projection: its tile of rows, its share of columns. -/
theorem b_u (p : Fin 1024) (b : Fin 704) :
    (iblk m c 2 t : FVec Ideal S1x1024x704 .bf16) (ix3 (0 : Fin 1) p b) = proj (HH m c) (WU m c) (row t p) (col (share t) b) := by
  refine Eq.trans ?_ (V_u m c _ _ _)
  blk_simp [iblk, idx t]
  generalize V m c main_v16 = X
  unfold row share
  blk_ext [idx t]

/-- A point's block of the gate weight: its share of columns. -/
theorem b_wg (q : Fin 1024) (b : Fin 704) :
    (iblk m c 3 t : FVec Ideal S1x1024x704 .bf16) (ix3 (0 : Fin 1) q b) = WG m c (ix2 q (col (share t) b)) := by
  refine Eq.trans ?_ (V_wg m c _ _ _)
  blk_simp [iblk, idx t]
  generalize V m c main_v2 = X
  unfold share
  blk_ext [idx t]

/-- A point's block of the up weight: its share of columns. -/
theorem b_wu (q : Fin 1024) (b : Fin 704) :
    (iblk m c 4 t : FVec Ideal S1x1024x704 .bf16) (ix3 (0 : Fin 1) q b) = WU m c (ix2 q (col (share t) b)) := by
  refine Eq.trans ?_ (V_wu m c _ _ _)
  blk_simp [iblk, idx t]
  generalize V m c main_v5 = X
  unfold share
  blk_ext [idx t]

/-- A point's block of the down weight: its share of rows. -/
theorem b_wd (b : Fin 704) (k : Fin 1024) :
    (iblk m c 5 t : FVec Ideal S1x704x1024 .bf16) (ix3 (0 : Fin 1) b k) = WD m c (ix2 (col (share t) b) k) := by
  refine Eq.trans ?_ (V_wd m c _ _ _)
  blk_simp [iblk, idx t]
  generalize V m c main_v7 = X
  unfold share
  blk_ext [idx t]

/-- A point's hidden gradient is the whole one's block. -/
theorem bda_eq (p : Fin 1024) (b : Fin 704) :
    bda (iblk m c 0 t) (iblk m c 5 t) p b = da (DY m c) (WD m c) (row t p) (col (share t) b) := by
  unfold bda da
  exact Fin.sum_fin_congr fun k => congrArg₂ (fun x y : EReal => x * y) (b_dy m c t _ _) (b_wd m c t _ _)

/-- A point's gate gradient is the whole one's block. -/
theorem bdg_eq (p : Fin 1024) (b : Fin 704) :
    bdg (iblk m c 0 t) (iblk m c 1 t) (iblk m c 2 t) (iblk m c 5 t) p b
      = dg (DY m c) (HH m c) (WG m c) (WU m c) (WD m c) (row t p) (col (share t) b) := by
  unfold bdg dg
  rw [bda_eq, b_g, b_u]

/-- A point's gradient of the up projection is the whole one's block. -/
theorem bdu_eq (p : Fin 1024) (b : Fin 704) :
    bdu (iblk m c 0 t) (iblk m c 1 t) (iblk m c 5 t) p b
      = du (DY m c) (HH m c) (WG m c) (WD m c) (row t p) (col (share t) b) := by
  unfold bdu du
  rw [bda_eq, b_g]

/-- A point's activation is the whole one's block. -/
theorem bact_eq (p : Fin 1024) (b : Fin 704) :
    bact (iblk m c 1 t) (iblk m c 2 t) p b = act (HH m c) (WG m c) (WU m c) (row t p) (col (share t) b) := by
  unfold bact act
  rw [b_g, b_u]

/-- What a point adds to the input's gradient, over the columns of its share. -/
theorem bdh_eq (p q : Fin 1024) :
    bdh (iblk m c 0 t) (iblk m c 1 t) (iblk m c 2 t) (iblk m c 3 t) (iblk m c 4 t) (iblk m c 5 t) p q
      = ∑ b : Fin 704, (dg (DY m c) (HH m c) (WG m c) (WU m c) (WD m c) (row t p) (col (share t) b) * WG m c (ix2 q (col (share t) b))
          + du (DY m c) (HH m c) (WG m c) (WD m c) (row t p) (col (share t) b) * WU m c (ix2 q (col (share t) b))) := by
  unfold bdh
  exact Fin.sum_fin_congr fun b => congrArg₂ (fun x y : EReal => x + y)
    (congrArg₂ (fun x y : EReal => x * y) (bdg_eq m c t _ _) (b_wg m c t _ _))
    (congrArg₂ (fun x y : EReal => x * y) (bdu_eq m c t _ _) (b_wu m c t _ _))

/-- The gate's gradient, share by share. -/
theorem final7 : (dats m 0 c).arrAt 7 cfg0.N = fun i : S4x8192x704.Idx =>
    dg (DY m c) (HH m c) (WG m c) (WU m c) (WD m c) (i 1) (col (i 0) (i 2)) := by
  refine (dats m 0 c).arrAt_eq_of_covers 7 _ (by decide +kernel) fun t hf y => ?_
  blk_simp
  rw [after0_7]
  idx_vars y
  refine ((dg_at m c t _ _ _).trans (bdg_eq m c t _ _)).trans
    (congrArg₂ (dg (DY m c) (HH m c) (WG m c) (WU m c) (WD m c)) (Fin.ext ?_) (congrArg₂ col (Fin.ext ?_) (Fin.ext ?_)))
  · unfold row; blk_simp [idx t]
  · unfold share; blk_simp [idx t]
  · blk_simp [idx t]

/-- The up projection's gradient, share by share. -/
theorem final8 : (dats m 0 c).arrAt 8 cfg0.N = fun i : S4x8192x704.Idx =>
    du (DY m c) (HH m c) (WG m c) (WD m c) (i 1) (col (i 0) (i 2)) := by
  refine (dats m 0 c).arrAt_eq_of_covers 8 _ (by decide +kernel) fun t hf y => ?_
  blk_simp
  rw [after0_8]
  idx_vars y
  refine ((du_at m c t _ _ _).trans (bdu_eq m c t _ _)).trans
    (congrArg₂ (du (DY m c) (HH m c) (WG m c) (WD m c)) (Fin.ext ?_) (congrArg₂ col (Fin.ext ?_) (Fin.ext ?_)))
  · unfold row; blk_simp [idx t]
  · unfold share; blk_simp [idx t]
  · blk_simp [idx t]

/-- The hidden activation, share by share. -/
theorem final9 : (dats m 0 c).arrAt 9 cfg0.N = fun i : S4x8192x704.Idx =>
    act (HH m c) (WG m c) (WU m c) (i 1) (col (i 0) (i 2)) := by
  refine (dats m 0 c).arrAt_eq_of_covers 9 _ (by decide +kernel) fun t hf y => ?_
  blk_simp
  rw [after0_9]
  idx_vars y
  refine ((act_at m c t _ _ _).trans (bact_eq m c t _ _)).trans
    (congrArg₂ (act (HH m c) (WG m c) (WU m c)) (Fin.ext ?_) (congrArg₂ col (Fin.ext ?_) (Fin.ext ?_)))
  · unfold row; blk_simp [idx t]
  · unfold share; blk_simp [idx t]
  · blk_simp [idx t]

/-- The input's gradient: the shares' sums together are the sum over all the columns. -/
theorem final6 : (dats m 0 c).arrAt 6 cfg0.N = fun i : S8192x1024.Idx =>
    dh (DY m c) (HH m c) (WG m c) (WU m c) (WD m c) (i 0) (i 1) := by
  refine (dats m 0 c).arrAt_eq_of_covers 6 _ (by decide +kernel) fun t hf y => ?_
  have h := (flush0_6 t).mp hf
  blk_simp
  rw [after0_6]
  idx_vars y
  rw [Pipeline.eq_sum_fin_of_reset_step_apply_of_flush (fun n h => (outsAt0 m c n h).1) 4 (fun _ => 0)
    (fun p y => bdh (iblk m c 0 p) (iblk m c 1 p) (iblk m c 2 p) (iblk m c 3 p) (iblk m c 4 p) (iblk m c 5 p) (y 0) (y 1))
    (fun t h y => by idx_vars y; exact dh_first m c t h _ _) (fun t h y => by idx_vars y; exact dh_step m c t h _ _) t h _, zero_add]
  have e0 : row t y0 = ((View.whole main_v17_0).slice (win0_6.rect t)).emb (ix2 y0 y1) 0 := Fin.ext (by unfold row; blk_simp [idx t])
  have e1 : y1 = ((View.whole main_v17_0).slice (win0_6.rect t)).emb (ix2 y0 y1) 1 := Fin.ext (by blk_simp [idx t])
  rw [← e0, ← e1]
  refine (Fin.sum_fin_congr fun s => bdh_eq m c _ y0 y1).trans ?_
  unfold dh
  refine Fin.sum_mul_add_congr fun s b hl => ?_
  have er : row ⟨_, Pipeline.run_point_lt_of_flush t h s⟩ y0 = row t y0 := Fin.ext (by
    show (4 * (t.val / 4) + s.val) / 4 * 1024 + y0.val = t.val / 4 * 1024 + y0.val
    omega)
  have ec : col (share ⟨_, Pipeline.run_point_lt_of_flush t h s⟩) b = ⟨s.val * 704 + b.val, hl⟩ := Fin.ext (by
    show (4 * (t.val / 4) + s.val) % 4 * 704 + b.val = s.val * 704 + b.val
    omega)
  rw [er, ec]

end Cert.FfnBwd

end
-- ==== Proof.FfnBwdRef.lean ====
/-
  The channel mixer's gradient as differentiation gives it, read element by element.
-/
module

public import proofs.«01_k».proof.Proof.Gen.Reference2Ideal.Read
public import proofs.«01_k».proof.Proof.FfnBwdKernel

@[expose] public section

set_option maxRecDepth 16384

noncomputable section

namespace Cert.FfnBwd

open Idealize.ShloMosaic Idealize.ShloMosaic.TcCoe
open Cert.Reference2Ideal.Read

section
variable (Y H : FVec Ideal Cert.Kernel2Ideal.S8192x1024 .f32) (G U : FVec Ideal Cert.Kernel2Ideal.S1024x2816 .f32)
  (D : FVec Ideal Cert.Kernel2Ideal.S2816x1024 .f32)

/-- The reference's gate projection. -/
theorem ref_g (r : Fin 8192) (f : Fin 2816) : val_main_v0 (F := Ideal) H G (ix2 r f) = proj H G r f := by
  unfold proj
  pointwise [val_main_v0]

/-- Its up projection. -/
theorem ref_u (r : Fin 8192) (f : Fin 2816) : val_main_v1 (F := Ideal) H U (ix2 r f) = proj H U r f := by
  unfold proj
  pointwise [val_main_v1]

/-- The gradient of its activation. -/
theorem ref_da (r : Fin 8192) (f : Fin 2816) : val_main_v5 (F := Ideal) Y D (ix2 r f) = da Y D r f := by
  unfold da
  pointwise [val_main_v5]

/-- The logistic function of its gate projection. -/
theorem ref_sig (r : Fin 8192) (f : Fin 2816) : val_main_v2_2 (F := Ideal) H G (ix2 r f) = Ideal.logistic (proj H G r f) := by
  rw [← ref_g]
  pointwise [val_main_v2_2, val_main_call0_v4, val_main_call0_v3, val_main_call0_v2, val_main_call0_v1, val_main_call0_v0,
    val_main_call0_cst, val_main_call0_cst_0, Ideal.logistic]

/-- Its activation. -/
theorem ref_act (r : Fin 8192) (f : Fin 2816) : val_main_v3 (F := Ideal) H G U (ix2 r f) = act H G U r f := by
  unfold act
  rw [← ref_sig, ← ref_g, ← ref_u]
  pointwise [val_main_v3, val_main_v2_0]

/-- The gradient of its up projection. -/
theorem ref_du (r : Fin 8192) (f : Fin 2816) : val_main_v6 (F := Ideal) Y H G D (ix2 r f) = du Y H G D r f := by
  unfold du
  rw [← ref_sig, ← ref_g, ← ref_da]
  pointwise [val_main_v6, val_main_v2_0]
  exact mul_comm _ _

/-- Differentiation gives the gate's gradient as a sum of two terms; on real numbers the sum is the factored form. -/
theorem split (d u g : ℝ) :
    (d : EReal) * u * Ideal.logistic g + (g : EReal) * (d * u) * (Ideal.logistic g * (1 - Ideal.logistic g))
      = (d : EReal) * u * slope g := by
  unfold slope
  rw [Ideal.logistic_coe]
  generalize (1 / (1 + Real.exp (-g)) : ℝ) = l
  have h1 : (1 : EReal) = ((1 : ℝ) : EReal) := rfl
  rw [h1]
  simp only [← EReal.coe_mul, ← EReal.coe_sub, ← EReal.coe_add]
  refine congrArg _ ?_
  ring

/-- The gradient of its gate projection, on real projections and a real gradient of the activation. -/
theorem ref_dg (hd : ∀ r f, ∃ a : ℝ, da Y D r f = a) (hu : ∀ r f, ∃ a : ℝ, proj H U r f = a) (hg : ∀ r f, ∃ a : ℝ, proj H G r f = a)
    (r : Fin 8192) (f : Fin 2816) : val_main_v8 (F := Ideal) Y H G U D (ix2 r f) = dg Y H G U D r f := by
  obtain ⟨d, hd⟩ := hd r f
  obtain ⟨u, hu⟩ := hu r f
  obtain ⟨g, hg⟩ := hg r f
  unfold dg
  rw [hd, hu, hg, ← split, ← hd, ← hu, ← hg, ← ref_sig H G, ← ref_g H G, ← ref_u H U, ← ref_da]
  pointwise [val_main_v8, val_main_call1_v0, val_main_call1_v1, val_main_call1_v2, val_main_v7, val_main_v2_1, val_main_call0_v7, val_main_call0_v6, val_main_call0_cst_1]

/-- The gradient of its input, under the same condition. -/
theorem ref_dh (hd : ∀ r f, ∃ a : ℝ, da Y D r f = a) (hu : ∀ r f, ∃ a : ℝ, proj H U r f = a) (hg : ∀ r f, ∃ a : ℝ, proj H G r f = a)
    (r : Fin 8192) (q : Fin 1024) : val_main_v11 (F := Ideal) Y H G U D (ix2 r q) = dh Y H G U D r q := by
  unfold dh
  rw [Finset.sum_add_distrib, add_comm]
  pointwise [val_main_v11, val_main_v9, val_main_v10]
  exact congrArg₂ (fun x y : EReal => x + y)
    (Fin.sum_fin_congr fun f => congrArg (fun x : EReal => x * _) (ref_du Y H G D r f))
    (Fin.sum_fin_congr fun f => congrArg (fun x : EReal => x * _) (ref_dg Y H G U D hd hu hg r f))

/-- A sum of products of real numbers is a real number. -/
theorem real_sum {n : ℕ} (x y : Fin n → EReal) (hx : ∀ k, ∃ a : ℝ, x k = a) (hy : ∀ k, ∃ a : ℝ, y k = a) :
    ∃ a : ℝ, ∑ k, x k * y k = a := by
  refine Finset.sum_induction _ (fun z : EReal => ∃ a : ℝ, z = a) ?_ ⟨0, rfl⟩ fun k _ => ?_
  · rintro _ _ ⟨a, rfl⟩ ⟨b, rfl⟩
    exact ⟨a + b, (EReal.coe_add a b).symm⟩
  · obtain ⟨a, ha⟩ := hx k
    obtain ⟨b, hb⟩ := hy k
    exact ⟨a * b, by rw [ha, hb, EReal.coe_mul]⟩

/-- The gate projection's gradient, cut into the shares. -/
theorem ref_dg_share (hd : ∀ r f, ∃ a : ℝ, da Y D r f = a) (hu : ∀ r f, ∃ a : ℝ, proj H U r f = a) (hg : ∀ r f, ∃ a : ℝ, proj H G r f = a)
    (n : Fin 4) (r : Fin 8192) (b : Fin 704) : val_main_v14 (F := Ideal) Y H G U D (ix3 n r b) = dg Y H G U D r (col n b) := by
  rw [← ref_dg Y H G U D hd hu hg]
  pointwise [val_main_v14, val_main_v13, val_main_v12]
  rfl

/-- The up projection's gradient, cut into the shares. -/
theorem ref_du_share (n : Fin 4) (r : Fin 8192) (b : Fin 704) :
    val_main_v17 (F := Ideal) Y H G D (ix3 n r b) = du Y H G D r (col n b) := by
  rw [← ref_du]
  pointwise [val_main_v17, val_main_v16, val_main_v15]
  rfl

/-- The activation, cut into the shares. -/
theorem ref_act_share (n : Fin 4) (r : Fin 8192) (b : Fin 704) :
    val_main_v20 (F := Ideal) H G U (ix3 n r b) = act H G U r (col n b) := by
  rw [← ref_act]
  pointwise [val_main_v20, val_main_v19, val_main_v18]
  rfl

end

end Cert.FfnBwd

end
-- ==== Proof.FfnBwdClaim.lean ====
/-
  The claims about the channel mixer's backward call.
-/
module

public import proofs.«01_k».proof.Defs
public import proofs.«01_k».proof.Proof.Gen.Kernel2.Frame
public import proofs.«01_k».proof.Proof.Gen.Pre_ffn_finite
public import proofs.«01_k».proof.Proof.FfnBwdRef

@[expose] public section

set_option maxRecDepth 16384

noncomputable section

namespace Cert.FfnBwd

open Idealize.ShloMosaic Idealize.ShloMosaic.TcCoe

/-- The kernel as written runs and leaves its arguments as they were. -/
theorem frame : Cert.quiescent_Kernel2 (hKernel2 := Cert.Kernel2.Gen.facts) := fun m ρ _ => Cert.Kernel2.Gen.frame m ρ

/-- The kernel over the reals runs and leaves its arguments as they were. -/
theorem frameIdeal : Cert.quiescent_Kernel2Ideal (hKernel2Ideal := Cert.Kernel2Ideal.Gen.facts) :=
  fun m ρ _ => Cert.Kernel2Ideal.Gen.frame m ρ

/-- The reference runs and leaves its arguments as they were. -/
theorem frameRef : Cert.quiescent_Reference2Ideal (hReference2Ideal := Cert.Reference2Ideal.Gen.facts) := by
  intro m g _
  exact (θ_run Cert.Reference2Ideal.defs _ _).mono (fun r h => ⟨fun c => (h c).2.2.2.2,
    Idealize.ShloMosaic.sem_eq_zero_of_no_sems (by decide) r.2⟩) (Cert.Reference2Ideal.Value.run m g)

/-- A number whose size is below infinity is a real one. -/
theorem real_of_lt (x : Ideal .f32)
    (h : BitVec.ofBool (decide (FloatOps.absf x < Ideal.ofBits .f32 0x7F800000#32)) = 1#1) : ∃ a : ℝ, (x : EReal) = a := by
  have e : Ideal.ofBits .f32 0x7F800000#32 = ⊤ := by simp [Ideal.ofBits, Ideal.ieee]
  rw [e] at h
  have h : FloatOps.absf x < (⊤ : EReal) := by
    by_contra hn
    rw [decide_eq_false hn] at h
    exact absurd h (by decide)
  change max (x : EReal) (-x) < ⊤ at h
  refine ⟨EReal.toReal x, (EReal.coe_toReal ?_ ?_).symm⟩
  · rintro rfl
    simp at h
  · rintro rfl
    simp at h

section
variable (m : (ℓ : Loc Cert.Kernel2Ideal.nD Cert.Kernel2Ideal.τ Cert.Kernel2Ideal.sig) → Buf (Elt Ideal) ℓ) (c : Dev Cert.Kernel2Ideal.nD)
  (h : Cert.Pre_Kernel2Ideal_ffn_finite (hPre_ffn_finite := Cert.Pre_ffn_finite.Gen.facts) m)
include h

/-- Where the precondition holds, the hidden gradient is a real number. -/
theorem real_da (r : Fin 8192) (f : Fin 2816) : ∃ a : ℝ, da (DY m c) (WD m c) r f = a :=
  real_sum _ _ (fun k => real_of_lt _ (congrFun (h c).1 (ix2 r k))) (fun k => real_of_lt _ (congrFun (h c).2.2.2.2 (ix2 f k)))

/-- … and so is the gate. -/
theorem real_g (r : Fin 8192) (f : Fin 2816) : ∃ a : ℝ, proj (HH m c) (WG m c) r f = a :=
  real_sum _ _ (fun k => real_of_lt _ (congrFun (h c).2.1 (ix2 r k))) (fun k => real_of_lt _ (congrFun (h c).2.2.1 (ix2 k f)))

/-- … and the up projection. -/
theorem real_u (r : Fin 8192) (f : Fin 2816) : ∃ a : ℝ, proj (HH m c) (WU m c) r f = a :=
  real_sum _ _ (fun k => real_of_lt _ (congrFun (h c).2.1 (ix2 r k))) (fun k => real_of_lt _ (congrFun (h c).2.2.2.1 (ix2 k f)))

end

/-- The kernel over the reals, where the precondition holds. -/
theorem frameIdealPre : Cert.quiescent_Kernel2Ideal_pre_ffn_finite (hKernel2Ideal := Cert.Kernel2Ideal.Gen.facts)
    (hPre_ffn_finite := Cert.Pre_ffn_finite.Gen.facts) :=
  fun m ρ _ => Cert.Kernel2Ideal.Gen.frame m ρ

/-- The reference, where the precondition holds. -/
theorem frameRefPre : Cert.quiescent_Reference2Ideal_pre_ffn_finite (hReference2Ideal := Cert.Reference2Ideal.Gen.facts)
    (hPre_ffn_finite := Cert.Pre_ffn_finite.Gen.facts) :=
  fun m g _ => frameRef m g trivial

/-- The kernel's four results are the reference's. -/
theorem value : Cert.algebraic_Kernel2Ideal_Reference2Ideal_pre_ffn_finite (hKernel2Ideal := Cert.Kernel2Ideal.Gen.facts)
    (hReference2Ideal := Cert.Reference2Ideal.Gen.facts) (hPre_ffn_finite := Cert.Pre_ffn_finite.Gen.facts) := by
  pair_intro
  · run_from Cert.Kernel2Ideal.Value.run_blocks m g
  · run_from Cert.Reference2Ideal.Value.run m' g'
    · rw [Cert.Reference2Ideal.Read.val_main_v11_eq]
      refine Eq.trans ?_ (final6 m c).symm
      funext i
      idx_vars i
      exact ref_dh (DY m c) (HH m c) (WG m c) (WU m c) (WD m c) (real_da m c hpre) (real_u m c hpre) (real_g m c hpre) _ _
    · rw [Cert.Reference2Ideal.Read.val_main_v14_eq]
      refine Eq.trans ?_ (final7 m c).symm
      funext i
      idx_vars i
      exact ref_dg_share (DY m c) (HH m c) (WG m c) (WU m c) (WD m c) (real_da m c hpre) (real_u m c hpre) (real_g m c hpre) _ _ _
    · rw [Cert.Reference2Ideal.Read.val_main_v17_eq]
      refine Eq.trans ?_ (final8 m c).symm
      funext i
      idx_vars i
      exact ref_du_share (DY m c) (HH m c) (WG m c) (WD m c) _ _ _
    · rw [Cert.Reference2Ideal.Read.val_main_v20_eq]
      refine Eq.trans ?_ (final9 m c).symm
      funext i
      idx_vars i
      exact ref_act_share (HH m c) (WG m c) (WU m c) _ _ _

end Cert.FfnBwd

end
-- ==== Proof.FfnDwIn.lean ====
/-
  The gradient of the channel mixer's gate and up weights: one call per matrix, `hᵀ dg`, share by share.
-/
module

public import proofs.«01_k».proof.Proof.Gen.Kernel3Ideal.Value
public import proofs.«01_k».proof.Proof.Stores
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.FfnDwIn

open Idealize.ShloMosaic Idealize.ShloMosaic.TcCoe
open Cert.Kernel3Ideal Cert.Kernel3Ideal.Gen

variable (m : (ℓ : Loc nD τ sig) → Buf (Elt Ideal) ℓ) (c : Dev nD) (t : Fin cfg0.N)

/-- What a grid point adds: the product of its block of `hᵀ` with its block of `dg`. -/
def part (X : FVec Ideal S1024x2048 .bf16) (Y : FVec Ideal S1x2048x704 .bf16) (a : Fin 1024) (b : Fin 704) : EReal :=
  ∑ k : Fin 2048, X (ix2 a k) * Y (ix3 (0 : Fin 1) k b)

/-- The first point of a share clears the accumulator and adds its part. -/
theorem first (h : t.val % 4 = 0) (a : Fin 1024) (b : Fin 704) :
    (outsAt0 m c t.val t.isLt).2 (ix2 a b) = 0 + part (iblk m c 0 t) (iblk m c 1 t) a b := by
  rw [outsAt0_A m c t h (by omega)]; frame_out
  simp (disch := decide) only [↓ View.readCov_skip, ↓ View.readCov_fill]
  refine (Stores.later (Val := Elt Ideal) [_, _, _, _] [_] _ ?_).trans ?_
  · refine View.cover_of_tiledL (s := S1024x704) _ S256x704.size ?_ _
    sl_kernel_rfl
  rw [zero_add]
  unfold part
  canon_tiles x h
  all_goals
    replace h0 : a.val = _ := h0
    replace h1 : b.val = _ := h1
    open_payloads
    pointwise
    refine Fin.sum_fin_congr fun k => congrArg₂ (fun x y : EReal => x * y) ?_ ?_ <;> blk_ext

/-- A later point adds its part. -/
theorem step (h : ¬ t.val % 4 = 0) (a : Fin 1024) (b : Fin 704) :
    (outsAt0 m c t.val t.isLt).2 (ix2 a b)
      = (outsAt0 m c (t.val - 1) (Nat.lt_of_le_of_lt (Nat.sub_le _ _) t.isLt)).2 (ix2 a b)
        + part (iblk m c 0 t) (iblk m c 1 t) a b := by
  by_cases h3 : t.val % 4 = 3
  · rw [outsAt0_C m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext
  · rw [outsAt0_B m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext

/-- The point that writes a share back writes the accumulator. -/
theorem out_eq (h : t.val % 4 = 3) (z : Fin 1) (a : Fin 1024) (b : Fin 704) :
    (outsAt0 m c t.val t.isLt).1 (ix3 z a b) = (outsAt0 m c t.val t.isLt).2 (ix2 a b) := by
  rw [outsAt0_C m c t (by omega) h]; frame_out
  rw [View.readCov_eq_canon']
  generalize View.canon (Val := Elt Ideal) _ = A
  pointwise [k0_pay5]

/-- The block of each array that a grid point works on. -/
theorem idx : ∀ t : Fin cfg0.N, win0_0.index t = ![0, t.val % 4] ∧ win0_1.index t = ![t.val / 4, t.val % 4, 0]
    ∧ win0_2.index t = ![t.val / 4, 0, 0] :=
  (by decide +kernel : ∀ t : Fin grid0.N, _)

/-- What the call is handed as `hᵀ`. -/
theorem V_x (a : Fin 1024) (k : Fin 8192) : V m c main_v1 (ix2 a k) = m ((c : Thread nD τ).loc main_arg0) (ix2 k a) := by
  entry_read
  pointwise

/-- What the call is handed as `dg`, cut into shares. -/
theorem V_y (n : Fin 4) (k : Fin 8192) (b : Fin 704) :
    V m c main_v4 (ix3 n k b) = m ((c : Thread nD τ).loc main_arg1) (ix2 k ⟨n.val * 704 + b.val, by omega⟩) := by
  entry_read
  pointwise

/-- The product's element: the sum over all the tokens. -/
def dw (H : FVec Ideal S8192x1024 .f32) (G : FVec Ideal S8192x2816 .f32) (n : Fin 4) (a : Fin 1024) (b : Fin 704) : EReal :=
  ∑ k : Fin 8192, H (ix2 k a) * G (ix2 k ⟨n.val * 704 + b.val, by omega⟩)

/-- After the last point of a share the accumulator holds the sum over all the tokens. -/
theorem share (h : t.val % 4 = 3) (a : Fin 1024) (b : Fin 704) (n : Fin 4) (hn : n.val = t.val / 4) :
    (outsAt0 m c t.val t.isLt).2 (ix2 a b)
      = dw (m ((c : Thread nD τ).loc main_arg0)) (m ((c : Thread nD τ).loc main_arg1)) n a b := by
  rw [Pipeline.eq_sum_fin_of_reset_step_apply_of_flush (fun n h => (outsAt0 m c n h).2) 4 (fun _ => 0)
    (fun p y => part (iblk m c 0 p) (iblk m c 1 p) (y 0) (y 1))
    (fun t h y => by idx_vars y; exact first m c t h _ _) (fun t h y => by idx_vars y; exact step m c t h _ _) t h _, zero_add]
  unfold part dw
  refine Fin.sum_mul_add_congr fun s k hl => congrArg₂ (fun x y : EReal => x * y) (Eq.trans ?_ (V_x m c a _)) (Eq.trans ?_ (V_y m c n _ b))
  · blk_simp [iblk, idx ⟨_, Pipeline.run_point_lt_of_flush t h s⟩]
    generalize V m c main_v1 = X
    blk_ext [idx ⟨_, Pipeline.run_point_lt_of_flush t h s⟩]
  · blk_simp [iblk, idx ⟨_, Pipeline.run_point_lt_of_flush t h s⟩]
    generalize V m c main_v4 = X
    blk_ext [idx ⟨_, Pipeline.run_point_lt_of_flush t h s⟩]

/-- The call's result. -/
theorem final : (dats m 0 c).arrAt 2 cfg0.N = fun i : S4x1024x704.Idx =>
    dw (m ((c : Thread nD τ).loc main_arg0)) (m ((c : Thread nD τ).loc main_arg1)) (i 0) (i 1) (i 2) := by
  refine (dats m 0 c).arrAt_eq_of_covers 2 _ (by decide +kernel) fun t hf y => ?_
  have h := (flush0_2 t).mp hf
  blk_simp
  rw [after0_2]
  idx_vars y
  have ht : t.val / 4 < 4 := by have := t.isLt; have : cfg0.N = 16 := N_0; omega
  have e0 : (⟨t.val / 4, ht⟩ : Fin 4) = ((View.whole main_v5).slice (win0_2.rect t)).emb (ix3 y0 y1 y2) 0 := Fin.ext (by blk_simp [idx t])
  have e1 : y1 = ((View.whole main_v5).slice (win0_2.rect t)).emb (ix3 y0 y1 y2) 1 := Fin.ext (by blk_simp [idx t])
  have e2 : y2 = ((View.whole main_v5).slice (win0_2.rect t)).emb (ix3 y0 y1 y2) 2 := Fin.ext (by blk_simp [idx t])
  rw [← e0, ← e1, ← e2]
  exact (out_eq m c t h _ _ _).trans (share m c t h _ _ ⟨t.val / 4, ht⟩ rfl)

end Cert.FfnDwIn

end
-- ==== Proof.FfnDwInClaim.lean ====
/-
  The claims about the gradient of the channel mixer's gate and up weights.
-/
module

public import proofs.«01_k».proof.Defs
public import proofs.«01_k».proof.Proof.Gen.Kernel3.Frame
public import proofs.«01_k».proof.Proof.Gen.Reference3Ideal.Read
public import proofs.«01_k».proof.Proof.FfnDwIn

@[expose] public section

set_option maxRecDepth 16384

noncomputable section

namespace Cert.FfnDwIn

open Idealize.ShloMosaic Idealize.ShloMosaic.TcCoe

/-- The kernel as written runs and leaves its arguments as they were. -/
theorem frame : Cert.quiescent_Kernel3 (hKernel3 := Cert.Kernel3.Gen.facts) := fun m ρ _ => Cert.Kernel3.Gen.frame m ρ

/-- The kernel over the reals runs and leaves its arguments as they were. -/
theorem frameIdeal : Cert.quiescent_Kernel3Ideal (hKernel3Ideal := Cert.Kernel3Ideal.Gen.facts) :=
  fun m ρ _ => Cert.Kernel3Ideal.Gen.frame m ρ

/-- The reference runs and leaves its arguments as they were. -/
theorem frameRef : Cert.quiescent_Reference3Ideal (hReference3Ideal := Cert.Reference3Ideal.Gen.facts) := by
  intro m g _
  exact (θ_run Cert.Reference3Ideal.defs _ _).mono (fun r h => ⟨fun c => (h c).2,
    Idealize.ShloMosaic.sem_eq_zero_of_no_sems (by decide) r.2⟩) (Cert.Reference3Ideal.Value.run m g)

/-- The reference's element is the product's. -/
theorem ref (H : FVec Ideal Cert.Kernel3Ideal.S8192x1024 .f32) (G : FVec Ideal Cert.Kernel3Ideal.S8192x2816 .f32) (n : Fin 4) (a : Fin 1024) (b : Fin 704) :
    Cert.Reference3Ideal.Read.val_main_v6 (F := Ideal) H G (ix3 n a b) = dw H G n a b := by
  unfold dw
  pointwise [Cert.Reference3Ideal.Read.val_main_v6, Cert.Reference3Ideal.Read.val_main_v5, Cert.Reference3Ideal.Read.val_main_v4,
    Cert.Reference3Ideal.Read.val_main_v3, Cert.Reference3Ideal.Read.val_main_v2]
  exact Finset.sum_congr rfl fun k _ => mul_comm _ _

/-- The kernel's result is the reference's. -/
theorem value : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    rw [Cert.Reference3Ideal.Read.val_main_v6_eq]
    refine Eq.trans ?_ (final m c).symm
    funext i
    idx_vars i
    exact ref (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)) _ _ _

end Cert.FfnDwIn

end
-- ==== Proof.FfnDwDown.lean ====
/-
  The gradient of the channel mixer's down weight: `actᵀ dy`, share by share.
-/
module

public import proofs.«01_k».proof.Proof.Gen.Kernel4Ideal.Value
public import proofs.«01_k».proof.Proof.Stores
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.FfnDwDown

open Idealize.ShloMosaic Idealize.ShloMosaic.TcCoe
open Cert.Kernel4Ideal Cert.Kernel4Ideal.Gen

variable (m : (ℓ : Loc nD τ sig) → Buf (Elt Ideal) ℓ) (c : Dev nD) (t : Fin cfg0.N)

/-- What a grid point adds: the product of its block of `act`, transposed, with its block of `dy`. -/
def part (X : FVec Ideal S1x2048x704 .bf16) (Y : FVec Ideal S2048x1024 .bf16) (a : Fin 704) (b : Fin 1024) : EReal :=
  ∑ k : Fin 2048, X (ix3 (0 : Fin 1) k a) * Y (ix2 k b)

/-- The first point of a share clears the accumulator and adds its part. -/
theorem first (h : t.val % 4 = 0) (a : Fin 704) (b : Fin 1024) :
    (outsAt0 m c t.val t.isLt).2 (ix2 a b) = 0 + part (iblk m c 0 t) (iblk m c 1 t) a b := by
  rw [outsAt0_A m c t h (by omega)]; frame_out
  simp (disch := decide) only [↓ View.readCov_skip, ↓ View.readCov_fill]
  refine (Stores.later (Val := Elt Ideal) [_, _, _, _] [_] _ ?_).trans ?_
  · refine View.cover_of_tiledL (s := S704x1024) _ S704x256.size ?_ _
    sl_kernel_rfl
  rw [zero_add]
  unfold part
  canon_tiles x h
  all_goals
    replace h0 : a.val = _ := h0
    replace h1 : b.val = _ := h1
    open_payloads
    pointwise
    refine Fin.sum_fin_congr fun k => congrArg₂ (fun x y : EReal => x * y) ?_ ?_ <;> blk_ext

/-- A later point adds its part. -/
theorem step (h : ¬ t.val % 4 = 0) (a : Fin 704) (b : Fin 1024) :
    (outsAt0 m c t.val t.isLt).2 (ix2 a b)
      = (outsAt0 m c (t.val - 1) (Nat.lt_of_le_of_lt (Nat.sub_le _ _) t.isLt)).2 (ix2 a b)
        + part (iblk m c 0 t) (iblk m c 1 t) a b := by
  by_cases h3 : t.val % 4 = 3
  · rw [outsAt0_C m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext
  · rw [outsAt0_B m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext

/-- The point that writes a share back writes the accumulator. -/
theorem out_eq (h : t.val % 4 = 3) (z : Fin 1) (a : Fin 704) (b : Fin 1024) :
    (outsAt0 m c t.val t.isLt).1 (ix3 z a b) = (outsAt0 m c t.val t.isLt).2 (ix2 a b) := by
  rw [outsAt0_C m c t (by omega) h]; frame_out
  rw [View.readCov_eq_canon']
  generalize View.canon (Val := Elt Ideal) _ = A
  pointwise [k0_pay5]

/-- Which blocks point `t` reads and which it writes. -/
theorem idx : ∀ t : Fin cfg0.N, win0_0.index t = ![t.val / 4, t.val % 4, 0] ∧ win0_1.index t = ![t.val % 4, 0]
    ∧ win0_2.index t = ![t.val / 4, 0, 0] :=
  (by decide +kernel : ∀ t : Fin grid0.N, _)

/-- What the call is handed as `act`, cut into shares. -/
theorem V_x (n : Fin 4) (k : Fin 8192) (a : Fin 704) :
    V m c main_v2 (ix3 n k a) = m ((c : Thread nD τ).loc main_arg0) (ix2 k ⟨n.val * 704 + a.val, by omega⟩) := by
  entry_read
  pointwise

/-- What the call is handed as `dy`. -/
theorem V_y (k : Fin 8192) (b : Fin 1024) : V m c main_v3 (ix2 k b) = m ((c : Thread nD τ).loc main_arg1) (ix2 k b) := by
  entry_read
  pointwise

/-- The product's element: the sum over all the tokens. -/
def dw (A : FVec Ideal S8192x2816 .f32) (Y : FVec Ideal S8192x1024 .f32) (n : Fin 4) (a : Fin 704) (b : Fin 1024) : EReal :=
  ∑ k : Fin 8192, A (ix2 k ⟨n.val * 704 + a.val, by omega⟩) * Y (ix2 k b)

/-- After the last point of a share the accumulator holds the sum over all the tokens. -/
theorem share (h : t.val % 4 = 3) (a : Fin 704) (b : Fin 1024) (n : Fin 4) (hn : n.val = t.val / 4) :
    (outsAt0 m c t.val t.isLt).2 (ix2 a b)
      = dw (m ((c : Thread nD τ).loc main_arg0)) (m ((c : Thread nD τ).loc main_arg1)) n a b := by
  rw [Pipeline.eq_sum_fin_of_reset_step_apply_of_flush (fun n h => (outsAt0 m c n h).2) 4 (fun _ => 0)
    (fun p y => part (iblk m c 0 p) (iblk m c 1 p) (y 0) (y 1))
    (fun t h y => by idx_vars y; exact first m c t h _ _) (fun t h y => by idx_vars y; exact step m c t h _ _) t h _, zero_add]
  unfold part dw
  refine Fin.sum_mul_add_congr fun s k hl => congrArg₂ (fun x y : EReal => x * y) (Eq.trans ?_ (V_x m c n _ a)) (Eq.trans ?_ (V_y m c _ b))
  · blk_simp [iblk, idx ⟨_, Pipeline.run_point_lt_of_flush t h s⟩]
    generalize V m c main_v2 = X
    blk_ext [idx ⟨_, Pipeline.run_point_lt_of_flush t h s⟩]
  · blk_simp [iblk, idx ⟨_, Pipeline.run_point_lt_of_flush t h s⟩]
    generalize V m c main_v3 = X
    blk_ext [idx ⟨_, Pipeline.run_point_lt_of_flush t h s⟩]

/-- The call's result. -/
theorem final : (dats m 0 c).arrAt 2 cfg0.N = fun i : S4x704x1024.Idx =>
    dw (m ((c : Thread nD τ).loc main_arg0)) (m ((c : Thread nD τ).loc main_arg1)) (i 0) (i 1) (i 2) := by
  refine (dats m 0 c).arrAt_eq_of_covers 2 _ (by decide +kernel) fun t hf y => ?_
  have h := (flush0_2 t).mp hf
  blk_simp
  rw [after0_2]
  idx_vars y
  have ht : t.val / 4 < 4 := by have := t.isLt; have : cfg0.N = 16 := N_0; omega
  have e0 : (⟨t.val / 4, ht⟩ : Fin 4) = ((View.whole main_v4).slice (win0_2.rect t)).emb (ix3 y0 y1 y2) 0 := Fin.ext (by blk_simp [idx t])
  have e1 : y1 = ((View.whole main_v4).slice (win0_2.rect t)).emb (ix3 y0 y1 y2) 1 := Fin.ext (by blk_simp [idx t])
  have e2 : y2 = ((View.whole main_v4).slice (win0_2.rect t)).emb (ix3 y0 y1 y2) 2 := Fin.ext (by blk_simp [idx t])
  rw [← e0, ← e1, ← e2]
  exact (out_eq m c t h _ _ _).trans (share m c t h _ _ ⟨t.val / 4, ht⟩ rfl)

end Cert.FfnDwDown

end
-- ==== Proof.FfnDwDownClaim.lean ====
/-
  The claims about the gradient of the channel mixer's down weight.
-/
module

public import proofs.«01_k».proof.Defs
public import proofs.«01_k».proof.Proof.Gen.Kernel4.Frame
public import proofs.«01_k».proof.Proof.Gen.Reference4Ideal.Read
public import proofs.«01_k».proof.Proof.FfnDwDown

@[expose] public section

set_option maxRecDepth 16384

noncomputable section

namespace Cert.FfnDwDown

open Idealize.ShloMosaic Idealize.ShloMosaic.TcCoe
open Cert.Reference4Ideal.Read

/-- The kernel as written runs and leaves its arguments as they were. -/
theorem frame : Cert.quiescent_Kernel4 (hKernel4 := Cert.Kernel4.Gen.facts) := fun m ρ _ => Cert.Kernel4.Gen.frame m ρ

/-- The kernel over the reals runs and leaves its arguments as they were. -/
theorem frameIdeal : Cert.quiescent_Kernel4Ideal (hKernel4Ideal := Cert.Kernel4Ideal.Gen.facts) :=
  fun m ρ _ => Cert.Kernel4Ideal.Gen.frame m ρ

/-- The reference runs and leaves its arguments as they were. -/
theorem frameRef : Cert.quiescent_Reference4Ideal (hReference4Ideal := Cert.Reference4Ideal.Gen.facts) := by
  intro m g _
  exact (θ_run Cert.Reference4Ideal.defs _ _).mono (fun r h => ⟨fun c => (h c).2,
    Idealize.ShloMosaic.sem_eq_zero_of_no_sems (by decide) r.2⟩) (Cert.Reference4Ideal.Value.run m g)

/-- The reference's element is the product's. -/
theorem ref (A : FVec Ideal Cert.Kernel4Ideal.S8192x2816 .f32) (Y : FVec Ideal Cert.Kernel4Ideal.S8192x1024 .f32) (n : Fin 4) (a : Fin 704) (b : Fin 1024) :
    val_main_v5 (F := Ideal) A Y (ix3 n a b) = dw A Y n a b := by
  unfold dw
  pointwise [val_main_v5, val_main_v4, val_main_v3, val_main_v2]
  exact Finset.sum_congr rfl fun k _ => mul_comm _ _

/-- The kernel's result is the reference's. -/
theorem value : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    rw [Cert.Reference4Ideal.Read.val_main_v5_eq]
    refine Eq.trans ?_ (final m c).symm
    funext i
    idx_vars i
    exact ref (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1)) _ _ _

end Cert.FfnDwDown

end
-- ==== Proof.InProjBwd.lean ====
/-
  The gradient of the normalised tokens through the wide input projection: `[dq dk dv drest] w_inᵀ`, 512 tokens at a
  time, one product for each of the four gradients.
-/
module

public import proofs.«01_k».proof.Proof.Gen.Kernel5Ideal.Value
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.InProjBwd

open Idealize.ShloMosaic Idealize.ShloMosaic.TcCoe
open Cert.Kernel5Ideal Cert.Kernel5Ideal.Gen

/-- A row of a gradient against the columns of `w_in` from `lo` on. -/
def share {w : ℕ} (lo : ℕ) (h : lo + w ≤ 9728) (X : Fin w → EReal) (W : FVec Ideal S1024x9728 .f32) (b : Fin 1024) : EReal :=
  ∑ k : Fin w, X k * W (ix2 b ⟨lo + k.val, by omega⟩)

/-- The result's element: the four gradients' shares. -/
def dh (Q K V : FVec Ideal S8192x1536 .f32) (R : FVec Ideal S8192x5120 .f32) (W : FVec Ideal S1024x9728 .f32)
    (a : Fin 8192) (b : Fin 1024) : EReal :=
  share 0 (by decide) (fun k : Fin 1536 => Q (ix2 a k)) W b + share 1536 (by decide) (fun k : Fin 1536 => K (ix2 a k)) W b
    + share 3072 (by decide) (fun k : Fin 1536 => V (ix2 a k)) W b + share 4608 (by decide) (fun k : Fin 5120 => R (ix2 a k)) W b

variable (m : (ℓ : Loc nD τ sig) → Buf (Elt Ideal) ℓ) (c : Dev nD) (t : Fin cfg0.N)

/-- Point `t` takes the `t`-th block of 512 tokens. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] :=
  (by decide +kernel : ∀ t : Fin grid0.N, _)

/-- The call is handed the query gradient itself. -/
theorem V_q (a : Fin 8192) (k : Fin 1536) : V m c main_v0 (ix2 a k) = m ((c : Thread nD τ).loc main_arg0) (ix2 a k) := by
  entry_read
  pointwise

/-- The call is handed the key gradient itself. -/
theorem V_k (a : Fin 8192) (k : Fin 1536) : V m c main_v1 (ix2 a k) = m ((c : Thread nD τ).loc main_arg1) (ix2 a k) := by
  entry_read
  pointwise

/-- The call is handed the value gradient itself. -/
theorem V_v (a : Fin 8192) (k : Fin 1536) : V m c main_v2 (ix2 a k) = m ((c : Thread nD τ).loc main_arg2) (ix2 a k) := by
  entry_read
  pointwise

/-- The call is handed the remaining gradients themselves. -/
theorem V_r (a : Fin 8192) (k : Fin 5120) : V m c main_v3 (ix2 a k) = m ((c : Thread nD τ).loc main_arg3) (ix2 a k) := by
  entry_read
  pointwise

/-- The call is handed the projection itself. -/
theorem V_w (a : Fin 1024) (k : Fin 9728) : V m c main_v4 (ix2 a k) = m ((c : Thread nD τ).loc main_arg4) (ix2 a k) := by
  entry_read
  pointwise

/-- What a point leaves in its block of the result. -/
theorem point (a : Fin 512) (b : Fin 1024) (n : Fin 8192) (hn : n.val = t.val * 512 + a.val) :
    out0_5 (iblk m c 0 t) (iblk m c 1 t) (iblk m c 2 t) (iblk m c 3 t) (iblk m c 4 t) (ix2 a b)
      = dh (m ((c : Thread nD τ).loc main_arg0)) (m ((c : Thread nD τ).loc main_arg1)) (m ((c : Thread nD τ).loc main_arg2))
          (m ((c : Thread nD τ).loc main_arg3)) (m ((c : Thread nD τ).loc main_arg4)) n b := by
  frame_out
  unfold dh share
  open_payloads
  pointwise
  refine congrArg₂ (fun x y : EReal => x + y) (congrArg₂ (fun x y : EReal => x + y) (congrArg₂ (fun x y : EReal => x + y)
    (Fin.sum_fin_congr fun k => congrArg₂ (fun x y : EReal => x * y) (Eq.trans ?_ (V_q m c _ _)) (Eq.trans ?_ (V_w m c _ _)))
    (Fin.sum_fin_congr fun k => congrArg₂ (fun x y : EReal => x * y) (Eq.trans ?_ (V_k m c _ _)) (Eq.trans ?_ (V_w m c _ _))))
    (Fin.sum_fin_congr fun k => congrArg₂ (fun x y : EReal => x * y) (Eq.trans ?_ (V_v m c _ _)) (Eq.trans ?_ (V_w m c _ _))))
    (Fin.sum_fin_congr fun k => congrArg₂ (fun x y : EReal => x * y) (Eq.trans ?_ (V_r m c _ _)) (Eq.trans ?_ (V_w m c _ _)))
  all_goals
    blk_simp [iblk, idx t]
    generalize V m c _ = X
    blk_ext [idx t]

/-- The call's result. -/
theorem final : (dats m 0 c).arrAt 5 cfg0.N = fun i : S8192x1024.Idx =>
    dh (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  idx_vars y
  have e1 : y1 = ((View.whole main_v5).slice (win0_5.rect t)).emb (ix2 y0 y1) 1 := Fin.ext (by blk_simp [idx t])
  rw [← e1]
  exact point m c t _ _ _ (by blk_simp [idx t])

end Cert.InProjBwd

end
-- ==== Proof.InProjBwdClaim.lean ====
/-
  The claims about the gradient through the input projection.
-/
module

public import proofs.«01_k».proof.Defs
public import proofs.«01_k».proof.Proof.Gen.Kernel5.Frame
public import proofs.«01_k».proof.Proof.Gen.Reference5Ideal.Read
public import proofs.«01_k».proof.Proof.InProjBwd

@[expose] public section

set_option maxRecDepth 16384

noncomputable section

namespace Cert.InProjBwd

open Idealize.ShloMosaic Idealize.ShloMosaic.TcCoe
open Cert.Reference5Ideal.Read

/-- The kernel as written runs and leaves its arguments as they were. -/
theorem frame : Cert.quiescent_Kernel5 (hKernel5 := Cert.Kernel5.Gen.facts) := fun m ρ _ => Cert.Kernel5.Gen.frame m ρ

/-- The kernel over the reals runs and leaves its arguments as they were. -/
theorem frameIdeal : Cert.quiescent_Kernel5Ideal (hKernel5Ideal := Cert.Kernel5Ideal.Gen.facts) :=
  fun m ρ _ => Cert.Kernel5Ideal.Gen.frame m ρ

/-- The reference runs and leaves its arguments as they were. -/
theorem frameRef : Cert.quiescent_Reference5Ideal (hReference5Ideal := Cert.Reference5Ideal.Gen.facts) := by
  intro m g _
  exact (θ_run Cert.Reference5Ideal.defs _ _).mono (fun r h => ⟨fun c => (h c).2,
    Idealize.ShloMosaic.sem_eq_zero_of_no_sems (by decide) r.2⟩) (Cert.Reference5Ideal.Value.run m g)

/-- A sum over all the columns, cut into the four gradients' columns. -/
theorem cuts (f : Fin 9728 → EReal) :
    ∑ x : Fin 9728, f x = ∑ x : Fin 1536, f ⟨x.val, by omega⟩ + ∑ x : Fin 1536, f ⟨1536 + x.val, by omega⟩
      + ∑ x : Fin 1536, f ⟨3072 + x.val, by omega⟩ + ∑ x : Fin 5120, f ⟨4608 + x.val, by omega⟩ := by
  refine (Fin.sum_univ_add (a := 4608) (b := 5120) f).trans (congrArg (fun x : EReal => x + _) ?_)
  refine (Fin.sum_univ_add (a := 3072) (b := 1536) fun b => f (Fin.castAdd 5120 b)).trans (congrArg (fun x : EReal => x + _) ?_)
  exact Fin.sum_univ_add (a := 1536) (b := 1536) fun b => f (Fin.castAdd 5120 (Fin.castAdd 1536 b))

/-- The reference's element: the product over the four gradients side by side is the sum of the four products. -/
theorem ref (Q K V : FVec Ideal Cert.Kernel5Ideal.S8192x1536 .f32) (R : FVec Ideal Cert.Kernel5Ideal.S8192x5120 .f32)
    (W : FVec Ideal Cert.Kernel5Ideal.S1024x9728 .f32) (a : Fin 8192) (b : Fin 1024) :
    val_main_v7 (F := Ideal) Q K V R W (ix2 a b) = dh Q K V R W a b := by
  unfold dh share
  pointwise [val_main_v7, val_main_v6]
  refine (cuts _).trans ?_
  refine congrArg₂ (fun x y : EReal => x + y) (congrArg₂ (fun x y : EReal => x + y) (congrArg₂ (fun x y : EReal => x + y)
    (Fin.sum_fin_congr fun k => ?_) (Fin.sum_fin_congr fun k => ?_)) (Fin.sum_fin_congr fun k => ?_)) (Fin.sum_fin_congr fun k => ?_)
  · rw [dif_pos k.isLt]
  · rw [dif_neg (by simp), dif_pos (by simp)]
    exact congrArg (fun j => K (ix2 a j) * _) (Fin.ext (by show 1536 + k.val - 1536 = k.val; omega))
  · rw [dif_neg (by simp; omega), dif_neg (by simp; omega), dif_pos (by simp; omega)]
    exact congrArg (fun j => V (ix2 a j) * _) (Fin.ext (by show 3072 + k.val - 1536 - 1536 = k.val; omega))
  · rw [dif_neg (by simp; omega), dif_neg (by simp; omega), dif_neg (by simp; omega)]
    exact congrArg (fun j => R (ix2 a j) * _) (Fin.ext (by show 4608 + k.val - 1536 - 1536 - 1536 = k.val; omega))

/-- The kernel's result is the reference's. -/
theorem value : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    refine (Cert.Reference5Ideal.Read.val_main_v7_eq (F := Ideal) _ _ _ _ _).trans (Eq.trans ?_ (final m c).symm)
    funext i
    idx_vars i
    exact ref (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)) _ _

end Cert.InProjBwd

end
-- ==== Proof.DwInQkv.lean ====
/-
  The gradient of the input projection's query, key and value columns: one call for each, `hᵀ dq`.
-/
module

public import proofs.«01_k».proof.Proof.Gen.Kernel6Ideal.Value
public import proofs.«01_k».proof.Proof.Stores
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.DwInQkv

open Idealize.ShloMosaic Idealize.ShloMosaic.TcCoe
open Cert.Kernel6Ideal Cert.Kernel6Ideal.Gen

variable (m : (ℓ : Loc nD τ sig) → Buf (Elt Ideal) ℓ) (c : Dev nD) (t : Fin cfg0.N)

/-- What a grid point adds: the product of its block of `hᵀ` with its block of `dq`. -/
def part (X : FVec Ideal S1024x2048 .bf16) (Y : FVec Ideal S2048x1536 .bf16) (a : Fin 1024) (b : Fin 1536) : EReal :=
  ∑ k : Fin 2048, X (ix2 a k) * Y (ix2 k b)

/-- The first point clears the accumulator and adds its part. -/
theorem first (h : t.val % 4 = 0) (a : Fin 1024) (b : Fin 1536) :
    (outsAt0 m c t.val t.isLt).2 (ix2 a b) = 0 + part (iblk m c 0 t) (iblk m c 1 t) a b := by
  rw [outsAt0_A m c t h (by omega)]; frame_out
  simp (disch := decide) only [↓ View.readCov_skip, ↓ View.readCov_fill]
  refine (Stores.later (Val := Elt Ideal) [_, _, _, _] [_] _ ?_).trans ?_
  · refine View.cover_of_tiledL (s := S1024x1536) _ S256x1536.size ?_ _
    sl_kernel_rfl
  rw [zero_add]
  unfold part
  canon_tiles x h
  all_goals
    replace h0 : a.val = _ := h0
    replace h1 : b.val = _ := h1
    open_payloads
    pointwise
    refine Fin.sum_fin_congr fun k => congrArg₂ (fun x y : EReal => x * y) ?_ ?_ <;> blk_ext

/-- A later point adds its part. -/
theorem step (h : ¬ t.val % 4 = 0) (a : Fin 1024) (b : Fin 1536) :
    (outsAt0 m c t.val t.isLt).2 (ix2 a b)
      = (outsAt0 m c (t.val - 1) (Nat.lt_of_le_of_lt (Nat.sub_le _ _) t.isLt)).2 (ix2 a b)
        + part (iblk m c 0 t) (iblk m c 1 t) a b := by
  by_cases h3 : t.val % 4 = 3
  · rw [outsAt0_C m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext
  · rw [outsAt0_B m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext

/-- The last point writes the accumulator out. -/
theorem out_eq (h : t.val % 4 = 3) (a : Fin 1024) (b : Fin 1536) :
    (outsAt0 m c t.val t.isLt).1 (ix2 a b) = (outsAt0 m c t.val t.isLt).2 (ix2 a b) := by
  rw [outsAt0_C m c t (by omega) h]; frame_out
  rw [View.readCov_eq_canon']
  generalize View.canon (Val := Elt Ideal) _ = A
  pointwise [k0_pay4]

/-- Which blocks point `t` reads; there is one block of the result. -/
theorem idx : ∀ t : Fin cfg0.N, win0_0.index t = ![0, t.val % 4] ∧ win0_1.index t = ![t.val % 4, 0]
    ∧ win0_2.index t = ![0, 0] :=
  (by decide +kernel : ∀ t : Fin grid0.N, _)

/-- What the call is handed as `hᵀ`. -/
theorem V_x (a : Fin 1024) (k : Fin 8192) : V m c main_v1 (ix2 a k) = m ((c : Thread nD τ).loc main_arg0) (ix2 k a) := by
  entry_read
  pointwise

/-- What the call is handed as `dq`. -/
theorem V_y (k : Fin 8192) (b : Fin 1536) : V m c main_v2 (ix2 k b) = m ((c : Thread nD τ).loc main_arg1) (ix2 k b) := by
  entry_read
  pointwise

/-- The product's element: the sum over all the tokens. -/
def dw (H : FVec Ideal S8192x1024 .f32) (G : FVec Ideal S8192x1536 .f32) (a : Fin 1024) (b : Fin 1536) : EReal :=
  ∑ k : Fin 8192, H (ix2 k a) * G (ix2 k b)

/-- After the last point the accumulator holds the sum over all the tokens. -/
theorem total (h : t.val % 4 = 3) (a : Fin 1024) (b : Fin 1536) :
    (outsAt0 m c t.val t.isLt).2 (ix2 a b)
      = dw (m ((c : Thread nD τ).loc main_arg0)) (m ((c : Thread nD τ).loc main_arg1)) a b := by
  rw [Pipeline.eq_sum_fin_of_reset_step_apply_of_flush (fun n h => (outsAt0 m c n h).2) 4 (fun _ => 0)
    (fun p y => part (iblk m c 0 p) (iblk m c 1 p) (y 0) (y 1))
    (fun t h y => by idx_vars y; exact first m c t h _ _) (fun t h y => by idx_vars y; exact step m c t h _ _) t h _, zero_add]
  unfold part dw
  refine Fin.sum_mul_add_congr fun s k hl => congrArg₂ (fun x y : EReal => x * y) (Eq.trans ?_ (V_x m c a _)) (Eq.trans ?_ (V_y m c _ b))
  · blk_simp [iblk, idx ⟨_, Pipeline.run_point_lt_of_flush t h s⟩]
    generalize V m c main_v1 = X
    blk_ext [idx ⟨_, Pipeline.run_point_lt_of_flush t h s⟩]
  · blk_simp [iblk, idx ⟨_, Pipeline.run_point_lt_of_flush t h s⟩]
    generalize V m c main_v2 = X
    blk_ext [idx ⟨_, Pipeline.run_point_lt_of_flush t h s⟩]

/-- The call's result. -/
theorem final : (dats m 0 c).arrAt 2 cfg0.N = fun i : S1024x1536.Idx =>
    dw (m ((c : Thread nD τ).loc main_arg0)) (m ((c : Thread nD τ).loc main_arg1)) (i 0) (i 1) := by
  refine (dats m 0 c).arrAt_eq_of_covers 2 _ (by decide +kernel) fun t hf y => ?_
  have h := (flush0_2 t).mp hf
  blk_simp
  rw [after0_2]
  idx_vars y
  have e0 : y0 = ((View.whole main_v3).slice (win0_2.rect t)).emb (ix2 y0 y1) 0 := Fin.ext (by blk_simp [idx t])
  have e1 : y1 = ((View.whole main_v3).slice (win0_2.rect t)).emb (ix2 y0 y1) 1 := Fin.ext (by blk_simp [idx t])
  rw [← e0, ← e1]
  exact (out_eq m c t h _ _).trans (total m c t h _ _)

end Cert.DwInQkv

end
-- ==== Proof.DwInQkvClaim.lean ====
/-
  The claims about the gradient of the input projection's query, key and value columns.
-/
module

public import proofs.«01_k».proof.Defs
public import proofs.«01_k».proof.Proof.Gen.Kernel6.Frame
public import proofs.«01_k».proof.Proof.Gen.Reference6Ideal.Read
public import proofs.«01_k».proof.Proof.DwInQkv

@[expose] public section

set_option maxRecDepth 16384

noncomputable section

namespace Cert.DwInQkv

open Idealize.ShloMosaic Idealize.ShloMosaic.TcCoe
open Cert.Reference6Ideal.Read

/-- The kernel as written runs and leaves its arguments as they were. -/
theorem frame : Cert.quiescent_Kernel6 (hKernel6 := Cert.Kernel6.Gen.facts) := fun m ρ _ => Cert.Kernel6.Gen.frame m ρ

/-- The kernel over the reals runs and leaves its arguments as they were. -/
theorem frameIdeal : Cert.quiescent_Kernel6Ideal (hKernel6Ideal := Cert.Kernel6Ideal.Gen.facts) :=
  fun m ρ _ => Cert.Kernel6Ideal.Gen.frame m ρ

/-- The reference runs and leaves its arguments as they were. -/
theorem frameRef : Cert.quiescent_Reference6Ideal (hReference6Ideal := Cert.Reference6Ideal.Gen.facts) := by
  intro m g _
  exact (θ_run Cert.Reference6Ideal.defs _ _).mono (fun r h => ⟨fun c => (h c).2,
    Idealize.ShloMosaic.sem_eq_zero_of_no_sems (by decide) r.2⟩) (Cert.Reference6Ideal.Value.run m g)

/-- The reference's element is the product's. -/
theorem ref (H : FVec Ideal Cert.Kernel6Ideal.S8192x1024 .f32) (G : FVec Ideal Cert.Kernel6Ideal.S8192x1536 .f32) (a : Fin 1024) (b : Fin 1536) :
    val_main_v4 (F := Ideal) H G (ix2 a b) = dw H G a b := by
  unfold dw
  pointwise [val_main_v4, val_main_v3, val_main_v2]
  exact Finset.sum_congr rfl fun k _ => mul_comm _ _

/-- The kernel's result is the reference's. -/
theorem value : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    rw [Cert.Reference6Ideal.Read.val_main_v4_eq]
    refine Eq.trans ?_ (final m c).symm
    funext i
    idx_vars i
    exact ref (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)) _ _

end Cert.DwInQkv

end
-- ==== Proof.DwInRest.lean ====
/-
  The gradient of the input projection's remaining columns: `hᵀ drest`, 1024 columns at a time.
-/
module

public import proofs.«01_k».proof.Proof.Gen.Kernel7Ideal.Value
public import proofs.«01_k».proof.Proof.Stores
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.DwInRest

open Idealize.ShloMosaic Idealize.ShloMosaic.TcCoe
open Cert.Kernel7Ideal Cert.Kernel7Ideal.Gen

variable (m : (ℓ : Loc nD τ sig) → Buf (Elt Ideal) ℓ) (c : Dev nD) (t : Fin cfg0.N)

/-- What a grid point adds: the product of its block of `hᵀ` with its block of `drest`. -/
def part (X : FVec Ideal S1024x2048 .bf16) (Y : FVec Ideal S2048x1024 .bf16) (a : Fin 1024) (b : Fin 1024) : EReal :=
  ∑ k : Fin 2048, X (ix2 a k) * Y (ix2 k b)

/-- The first point of a block of columns clears the accumulator and adds its part. -/
theorem first (h : t.val % 4 = 0) (a : Fin 1024) (b : Fin 1024) :
    (outsAt0 m c t.val t.isLt).2 (ix2 a b) = 0 + part (iblk m c 0 t) (iblk m c 1 t) a b := by
  rw [outsAt0_A m c t h (by omega)]; frame_out
  simp (disch := decide) only [↓ View.readCov_skip, ↓ View.readCov_fill]
  refine (Stores.later (Val := Elt Ideal) [_, _, _, _] [_] _ ?_).trans ?_
  · refine View.cover_of_tiledL (s := S1024x1024) _ S256x1024.size ?_ _
    sl_kernel_rfl
  rw [zero_add]
  unfold part
  canon_tiles x h
  all_goals
    replace h0 : a.val = _ := h0
    replace h1 : b.val = _ := h1
    open_payloads
    pointwise
    refine Fin.sum_fin_congr fun k => congrArg₂ (fun x y : EReal => x * y) ?_ ?_ <;> blk_ext

/-- A later point adds its part. -/
theorem step (h : ¬ t.val % 4 = 0) (a : Fin 1024) (b : Fin 1024) :
    (outsAt0 m c t.val t.isLt).2 (ix2 a b)
      = (outsAt0 m c (t.val - 1) (Nat.lt_of_le_of_lt (Nat.sub_le _ _) t.isLt)).2 (ix2 a b)
        + part (iblk m c 0 t) (iblk m c 1 t) a b := by
  by_cases h3 : t.val % 4 = 3
  · rw [outsAt0_C m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext
  · rw [outsAt0_B m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext

/-- The last point of a block writes the accumulator out. -/
theorem out_eq (h : t.val % 4 = 3) (a : Fin 1024) (b : Fin 1024) :
    (outsAt0 m c t.val t.isLt).1 (ix2 a b) = (outsAt0 m c t.val t.isLt).2 (ix2 a b) := by
  rw [outsAt0_C m c t (by omega) h]; frame_out
  rw [View.readCov_eq_canon']
  generalize View.canon (Val := Elt Ideal) _ = A
  pointwise [k0_pay4]

/-- Which blocks point `t` reads and which it writes. -/
theorem idx : ∀ t : Fin cfg0.N, win0_0.index t = ![0, t.val % 4] ∧ win0_1.index t = ![t.val % 4, t.val / 4]
    ∧ win0_2.index t = ![0, t.val / 4] :=
  (by decide +kernel : ∀ t : Fin grid0.N, _)

/-- What the call is handed as `hᵀ`. -/
theorem V_x (a : Fin 1024) (k : Fin 8192) : V m c main_v1 (ix2 a k) = m ((c : Thread nD τ).loc main_arg0) (ix2 k a) := by
  entry_read
  pointwise

/-- What the call is handed as `drest`. -/
theorem V_y (k : Fin 8192) (b : Fin 5120) : V m c main_v2 (ix2 k b) = m ((c : Thread nD τ).loc main_arg1) (ix2 k b) := by
  entry_read
  pointwise

/-- The product's element: the sum over all the tokens. -/
def dw (H : FVec Ideal S8192x1024 .f32) (G : FVec Ideal S8192x5120 .f32) (a : Fin 1024) (b : Fin 5120) : EReal :=
  ∑ k : Fin 8192, H (ix2 k a) * G (ix2 k b)

/-- After the last point of a block of columns the accumulator holds the sum over all the tokens. -/
theorem total (h : t.val % 4 = 3) (a : Fin 1024) (b : Fin 1024) (n : Fin 5120) (hn : n.val = t.val / 4 * 1024 + b.val) :
    (outsAt0 m c t.val t.isLt).2 (ix2 a b)
      = dw (m ((c : Thread nD τ).loc main_arg0)) (m ((c : Thread nD τ).loc main_arg1)) a n := by
  rw [Pipeline.eq_sum_fin_of_reset_step_apply_of_flush (fun n h => (outsAt0 m c n h).2) 4 (fun _ => 0)
    (fun p y => part (iblk m c 0 p) (iblk m c 1 p) (y 0) (y 1))
    (fun t h y => by idx_vars y; exact first m c t h _ _) (fun t h y => by idx_vars y; exact step m c t h _ _) t h _, zero_add]
  unfold part dw
  refine Fin.sum_mul_add_congr fun s k hl => congrArg₂ (fun x y : EReal => x * y) (Eq.trans ?_ (V_x m c a _)) (Eq.trans ?_ (V_y m c _ n))
  · blk_simp [iblk, idx ⟨_, Pipeline.run_point_lt_of_flush t h s⟩]
    generalize V m c main_v1 = X
    blk_ext [idx ⟨_, Pipeline.run_point_lt_of_flush t h s⟩]
  · blk_simp [iblk, idx ⟨_, Pipeline.run_point_lt_of_flush t h s⟩]
    generalize V m c main_v2 = X
    blk_ext [idx ⟨_, Pipeline.run_point_lt_of_flush t h s⟩]

/-- The call's result. -/
theorem final : (dats m 0 c).arrAt 2 cfg0.N = fun i : S1024x5120.Idx =>
    dw (m ((c : Thread nD τ).loc main_arg0)) (m ((c : Thread nD τ).loc main_arg1)) (i 0) (i 1) := by
  refine (dats m 0 c).arrAt_eq_of_covers 2 _ (by decide +kernel) fun t hf y => ?_
  have h := (flush0_2 t).mp hf
  blk_simp
  rw [after0_2]
  idx_vars y
  have e0 : y0 = ((View.whole main_v3).slice (win0_2.rect t)).emb (ix2 y0 y1) 0 := Fin.ext (by blk_simp [idx t])
  rw [← e0]
  exact (out_eq m c t h _ _).trans (total m c t h _ _ _ (by blk_simp [idx t]))

end Cert.DwInRest

end
-- ==== Proof.DwInRestClaim.lean ====
/-
  The claims about the gradient of the input projection's remaining columns.
-/
module

public import proofs.«01_k».proof.Defs
public import proofs.«01_k».proof.Proof.Gen.Kernel7.Frame
public import proofs.«01_k».proof.Proof.Gen.Reference7Ideal.Read
public import proofs.«01_k».proof.Proof.DwInRest

@[expose] public section

set_option maxRecDepth 16384

noncomputable section

namespace Cert.DwInRest

open Idealize.ShloMosaic Idealize.ShloMosaic.TcCoe
open Cert.Reference7Ideal.Read

/-- The kernel as written runs and leaves its arguments as they were. -/
theorem frame : Cert.quiescent_Kernel7 (hKernel7 := Cert.Kernel7.Gen.facts) := fun m ρ _ => Cert.Kernel7.Gen.frame m ρ

/-- The kernel over the reals runs and leaves its arguments as they were. -/
theorem frameIdeal : Cert.quiescent_Kernel7Ideal (hKernel7Ideal := Cert.Kernel7Ideal.Gen.facts) :=
  fun m ρ _ => Cert.Kernel7Ideal.Gen.frame m ρ

/-- The reference runs and leaves its arguments as they were. -/
theorem frameRef : Cert.quiescent_Reference7Ideal (hReference7Ideal := Cert.Reference7Ideal.Gen.facts) := by
  intro m g _
  exact (θ_run Cert.Reference7Ideal.defs _ _).mono (fun r h => ⟨fun c => (h c).2,
    Idealize.ShloMosaic.sem_eq_zero_of_no_sems (by decide) r.2⟩) (Cert.Reference7Ideal.Value.run m g)

/-- The reference's element is the product's. -/
theorem ref (H : FVec Ideal Cert.Kernel7Ideal.S8192x1024 .f32) (G : FVec Ideal Cert.Kernel7Ideal.S8192x5120 .f32) (a : Fin 1024) (b : Fin 5120) :
    val_main_v4 (F := Ideal) H G (ix2 a b) = dw H G a b := by
  unfold dw
  pointwise [val_main_v4, val_main_v3, val_main_v2]
  exact Finset.sum_congr rfl fun k _ => mul_comm _ _

/-- The kernel's result is the reference's. -/
theorem value : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    rw [Cert.Reference7Ideal.Read.val_main_v4_eq]
    refine Eq.trans ?_ (final m c).symm
    funext i
    idx_vars i
    exact ref (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)) _ _

end Cert.DwInRest

end
-- ==== Proof.DwAttn.lean ====
/-
  The gradient of the attention branch's output weight: `oᵀ dya`, 256 columns at a time.
-/
module

public import proofs.«01_k».proof.Proof.Gen.Kernel8Ideal.Value
public import proofs.«01_k».proof.Proof.Stores
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.DwAttn

open Idealize.ShloMosaic Idealize.ShloMosaic.TcCoe
open Cert.Kernel8Ideal Cert.Kernel8Ideal.Gen

variable (m : (ℓ : Loc nD τ sig) → Buf (Elt Ideal) ℓ) (c : Dev nD) (t : Fin cfg0.N)

/-- What a grid point adds: the product of its block of `o`, transposed, with its block of `dya`. -/
def part (X : FVec Ideal S2048x512 .bf16) (Y : FVec Ideal S2048x256 .bf16) (a : Fin 512) (b : Fin 256) : EReal :=
  ∑ k : Fin 2048, X (ix2 k a) * Y (ix2 k b)

/-- The first point of a block of columns clears the accumulator and adds its part. -/
theorem first (h : t.val % 4 = 0) (a : Fin 512) (b : Fin 256) :
    (outsAt0 m c t.val t.isLt).2 (ix2 a b) = 0 + part (iblk m c 0 t) (iblk m c 1 t) a b := by
  rw [outsAt0_A m c t h (by omega)]; frame_out
  unfold part
  open_payloads
  pointwise

/-- A later point adds its part. -/
theorem step (h : ¬ t.val % 4 = 0) (a : Fin 512) (b : Fin 256) :
    (outsAt0 m c t.val t.isLt).2 (ix2 a b)
      = (outsAt0 m c (t.val - 1) (Nat.lt_of_le_of_lt (Nat.sub_le _ _) t.isLt)).2 (ix2 a b)
        + part (iblk m c 0 t) (iblk m c 1 t) a b := by
  by_cases h3 : t.val % 4 = 3
  · rw [outsAt0_C m c t h h3]; frame_out
    simp only [read_unread_whole]
    unfold part
    open_payloads
    pointwise
  · rw [outsAt0_B m c t h h3]; frame_out
    simp only [read_unread_whole]
    unfold part
    open_payloads
    pointwise

/-- The last point of a block writes the accumulator out. -/
theorem out_eq (h : t.val % 4 = 3) (a : Fin 512) (b : Fin 256) :
    (outsAt0 m c t.val t.isLt).1 (ix2 a b) = (outsAt0 m c t.val t.isLt).2 (ix2 a b) := by
  rw [outsAt0_C m c t (by omega) h]; frame_out
  simp only [read_unread_whole]
  generalize k0_pay2 (F := Ideal) _ _ _ = A
  pointwise [k0_pay3]

/-- Which blocks point `t` reads and which it writes. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- What the call is handed as `o`. -/
theorem V_x (k : Fin 8192) (a : Fin 512) : V m c main_v0 (ix2 k a) = m ((c : Thread nD τ).loc main_arg0) (ix2 k a) := by
  entry_read
  pointwise

/-- What the call is handed as `dya`. -/
theorem V_y (k : Fin 8192) (b : Fin 1024) : V m c main_v1 (ix2 k b) = m ((c : Thread nD τ).loc main_arg1) (ix2 k b) := by
  entry_read
  pointwise

/-- The product's element: the sum over all the tokens. -/
def dw (O : FVec Ideal S8192x512 .f32) (Y : FVec Ideal S8192x1024 .f32) (a : Fin 512) (b : Fin 1024) : EReal :=
  ∑ k : Fin 8192, O (ix2 k a) * Y (ix2 k b)

/-- After the last point of a block of columns the accumulator holds the sum over all the tokens. -/
theorem total (h : t.val % 4 = 3) (a : Fin 512) (b : Fin 256) (n : Fin 1024) (hn : n.val = t.val / 4 * 256 + b.val) :
    (outsAt0 m c t.val t.isLt).2 (ix2 a b)
      = dw (m ((c : Thread nD τ).loc main_arg0)) (m ((c : Thread nD τ).loc main_arg1)) a n := by
  rw [Pipeline.eq_sum_fin_of_reset_step_apply_of_flush (fun n h => (outsAt0 m c n h).2) 4 (fun _ => 0)
    (fun p y => part (iblk m c 0 p) (iblk m c 1 p) (y 0) (y 1))
    (fun t h y => by idx_vars y; exact first m c t h _ _) (fun t h y => by idx_vars y; exact step m c t h _ _) t h _, zero_add]
  unfold part dw
  refine Fin.sum_mul_add_congr fun s k hl => congrArg₂ (fun x y : EReal => x * y) (Eq.trans ?_ (V_x m c _ a)) (Eq.trans ?_ (V_y m c _ n))
  · blk_simp [iblk, idx ⟨_, Pipeline.run_point_lt_of_flush t h s⟩]
    generalize V m c main_v0 = X
    blk_ext [idx ⟨_, Pipeline.run_point_lt_of_flush t h s⟩]
  · blk_simp [iblk, idx ⟨_, Pipeline.run_point_lt_of_flush t h s⟩]
    generalize V m c main_v1 = X
    blk_ext [idx ⟨_, Pipeline.run_point_lt_of_flush t h s⟩]

/-- The call's result. -/
theorem final : (dats m 0 c).arrAt 2 cfg0.N = fun i : S512x1024.Idx =>
    dw (m ((c : Thread nD τ).loc main_arg0)) (m ((c : Thread nD τ).loc main_arg1)) (i 0) (i 1) := by
  refine (dats m 0 c).arrAt_eq_of_covers 2 _ (by decide +kernel) fun t hf y => ?_
  have h := (flush0_2 t).mp hf
  blk_simp
  rw [after0_2]
  idx_vars y
  have e0 : y0 = ((View.whole main_v2).slice (win0_2.rect t)).emb (ix2 y0 y1) 0 := Fin.ext (by blk_simp [idx t])
  rw [← e0]
  exact (out_eq m c t h _ _).trans (total m c t h _ _ _ (by blk_simp [idx t]))

end Cert.DwAttn

end
-- ==== Proof.DwAttnClaim.lean ====
/-
  The claims about the gradient of the attention branch's output weight.
-/
module

public import proofs.«01_k».proof.Defs
public import proofs.«01_k».proof.Proof.Gen.Kernel8.Frame
public import proofs.«01_k».proof.Proof.Gen.Reference8Ideal.Read
public import proofs.«01_k».proof.Proof.DwAttn

@[expose] public section

set_option maxRecDepth 16384

noncomputable section

namespace Cert.DwAttn

open Idealize.ShloMosaic Idealize.ShloMosaic.TcCoe
open Cert.Reference8Ideal.Read

/-- The kernel as written runs and leaves its arguments as they were. -/
theorem frame : Cert.quiescent_Kernel8 (hKernel8 := Cert.Kernel8.Gen.facts) := fun m ρ _ => Cert.Kernel8.Gen.frame m ρ

/-- The kernel over the reals runs and leaves its arguments as they were. -/
theorem frameIdeal : Cert.quiescent_Kernel8Ideal (hKernel8Ideal := Cert.Kernel8Ideal.Gen.facts) :=
  fun m ρ _ => Cert.Kernel8Ideal.Gen.frame m ρ

/-- The reference runs and leaves its arguments as they were. -/
theorem frameRef : Cert.quiescent_Reference8Ideal (hReference8Ideal := Cert.Reference8Ideal.Gen.facts) := by
  intro m g _
  exact (θ_run Cert.Reference8Ideal.defs _ _).mono (fun r h => ⟨fun c => (h c).2,
    Idealize.ShloMosaic.sem_eq_zero_of_no_sems (by decide) r.2⟩) (Cert.Reference8Ideal.Value.run m g)

/-- The reference's element is the product's. -/
theorem ref (O : FVec Ideal Cert.Kernel8Ideal.S8192x512 .f32) (Y : FVec Ideal Cert.Kernel8Ideal.S8192x1024 .f32) (a : Fin 512) (b : Fin 1024) :
    val_main_v4 (F := Ideal) O Y (ix2 a b) = dw O Y a b := by
  unfold dw
  pointwise [val_main_v4, val_main_v3, val_main_v2]
  exact Finset.sum_congr rfl fun k _ => mul_comm _ _

/-- The kernel's result is the reference's. -/
theorem value : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    rw [Cert.Reference8Ideal.Read.val_main_v4_eq]
    refine Eq.trans ?_ (final m c).symm
    funext i
    idx_vars i
    exact ref (m ((c.tc : Thread Cert.Kernel8Ideal.nD Cert.Kernel8Ideal.τ).loc Cert.Kernel8Ideal.main_arg0))
      (m ((c.tc : Thread Cert.Kernel8Ideal.nD Cert.Kernel8Ideal.τ).loc Cert.Kernel8Ideal.main_arg1)) _ _

end Cert.DwAttn

end
-- ==== Proof.DwOut.lean ====
/-
  The gradient of the output projection: `mergedᵀ dz`, 256 rows at a time.
-/
module

public import proofs.«01_k».proof.Proof.Gen.Kernel9Ideal.Value
public import proofs.«01_k».proof.Proof.Stores
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.DwOut

open Idealize.ShloMosaic Idealize.ShloMosaic.TcCoe
open Cert.Kernel9Ideal Cert.Kernel9Ideal.Gen

variable (m : (ℓ : Loc nD τ sig) → Buf (Elt Ideal) ℓ) (c : Dev nD) (t : Fin cfg0.N)

/-- What a grid point adds: the product of its block of `merged`, transposed, with its block of `dz`. -/
def part (X : FVec Ideal S2048x256 .bf16) (Y : FVec Ideal S2048x1024 .bf16) (a : Fin 256) (b : Fin 1024) : EReal :=
  ∑ k : Fin 2048, X (ix2 k a) * Y (ix2 k b)

/-- The first point of a block of rows clears the accumulator and adds its part. -/
theorem first (h : t.val % 4 = 0) (a : Fin 256) (b : Fin 1024) :
    (outsAt0 m c t.val t.isLt).2 (ix2 a b) = 0 + part (iblk m c 0 t) (iblk m c 1 t) a b := by
  rw [outsAt0_A m c t h (by omega)]; frame_out
  simp (disch := decide) only [↓ View.readCov_skip, ↓ View.readCov_fill]
  refine (Stores.later (Val := Elt Ideal) [_, _, _, _] [_] _ ?_).trans ?_
  · refine View.cover_of_tiledL (s := S256x1024) _ S256x256.size ?_ _
    sl_kernel_rfl
  rw [zero_add]
  unfold part
  canon_tiles x h
  all_goals
    replace h0 : a.val = _ := h0
    replace h1 : b.val = _ := h1
    open_payloads
    pointwise
    refine Fin.sum_fin_congr fun k => congrArg₂ (fun x y : EReal => x * y) ?_ ?_ <;> blk_ext

/-- A later point adds its part. -/
theorem step (h : ¬ t.val % 4 = 0) (a : Fin 256) (b : Fin 1024) :
    (outsAt0 m c t.val t.isLt).2 (ix2 a b)
      = (outsAt0 m c (t.val - 1) (Nat.lt_of_le_of_lt (Nat.sub_le _ _) t.isLt)).2 (ix2 a b)
        + part (iblk m c 0 t) (iblk m c 1 t) a b := by
  by_cases h3 : t.val % 4 = 3
  · rw [outsAt0_C m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext
  · rw [outsAt0_B m c t h h3]; frame_out
    simp only [read_unread_whole]
    unfold part
    canon_tiles x h
    all_goals
      replace h0 : a.val = _ := h0
      replace h1 : b.val = _ := h1
      open_payloads
      pointwise
      refine congrArg₂ (fun x y : EReal => x + y) ?_ (Fin.sum_fin_congr fun k => congrArg₂ (fun x y : EReal => x * y) ?_ ?_) <;> blk_ext

/-- The point that writes a block back writes the accumulator. -/
theorem out_eq (h : t.val % 4 = 3) (z : Fin 1) (a : Fin 256) (b : Fin 1024) :
    (outsAt0 m c t.val t.isLt).1 (ix3 z a b) = (outsAt0 m c t.val t.isLt).2 (ix2 a b) := by
  rw [outsAt0_C m c t (by omega) h]; frame_out
  rw [View.readCov_eq_canon']
  generalize View.canon (Val := Elt Ideal) _ = A
  pointwise [k0_pay4]

/-- Which blocks point `t` reads and which it writes. -/
theorem idx : ∀ t : Fin cfg0.N, win0_0.index t = ![t.val % 4, t.val / 4] ∧ win0_1.index t = ![t.val % 4, 0]
    ∧ win0_2.index t = ![t.val / 4, 0, 0] :=
  (by decide +kernel : ∀ t : Fin grid0.N, _)

/-- What the call is handed as `merged`. -/
theorem V_x (k : Fin 8192) (a : Fin 1024) : V m c main_v0 (ix2 k a) = m ((c : Thread nD τ).loc main_arg0) (ix2 k a) := by
  entry_read
  pointwise

/-- What the call is handed as `dz`. -/
theorem V_y (k : Fin 8192) (b : Fin 1024) : V m c main_v1 (ix2 k b) = m ((c : Thread nD τ).loc main_arg1) (ix2 k b) := by
  entry_read
  pointwise

/-- The product's element: the sum over all the tokens. -/
def dw (Z : FVec Ideal S8192x1024 .f32) (Y : FVec Ideal S8192x1024 .f32) (n : Fin 4) (a : Fin 256) (b : Fin 1024) : EReal :=
  ∑ k : Fin 8192, Z (ix2 k ⟨n.val * 256 + a.val, by omega⟩) * Y (ix2 k b)

/-- After the last point of a block of rows the accumulator holds the sum over all the tokens. -/
theorem share (h : t.val % 4 = 3) (a : Fin 256) (b : Fin 1024) (n : Fin 4) (hn : n.val = t.val / 4) :
    (outsAt0 m c t.val t.isLt).2 (ix2 a b)
      = dw (m ((c : Thread nD τ).loc main_arg0)) (m ((c : Thread nD τ).loc main_arg1)) n a b := by
  rw [Pipeline.eq_sum_fin_of_reset_step_apply_of_flush (fun n h => (outsAt0 m c n h).2) 4 (fun _ => 0)
    (fun p y => part (iblk m c 0 p) (iblk m c 1 p) (y 0) (y 1))
    (fun t h y => by idx_vars y; exact first m c t h _ _) (fun t h y => by idx_vars y; exact step m c t h _ _) t h _, zero_add]
  unfold part dw
  refine Fin.sum_mul_add_congr fun s k hl => congrArg₂ (fun x y : EReal => x * y) (Eq.trans ?_ (V_x m c _ _)) (Eq.trans ?_ (V_y m c _ b))
  · blk_simp [iblk, idx ⟨_, Pipeline.run_point_lt_of_flush t h s⟩]
    generalize V m c main_v0 = X
    blk_ext [idx ⟨_, Pipeline.run_point_lt_of_flush t h s⟩]
  · blk_simp [iblk, idx ⟨_, Pipeline.run_point_lt_of_flush t h s⟩]
    generalize V m c main_v1 = X
    blk_ext [idx ⟨_, Pipeline.run_point_lt_of_flush t h s⟩]

/-- The call's result. -/
theorem final : (dats m 0 c).arrAt 2 cfg0.N = fun i : S4x256x1024.Idx =>
    dw (m ((c : Thread nD τ).loc main_arg0)) (m ((c : Thread nD τ).loc main_arg1)) (i 0) (i 1) (i 2) := by
  refine (dats m 0 c).arrAt_eq_of_covers 2 _ (by decide +kernel) fun t hf y => ?_
  have h := (flush0_2 t).mp hf
  blk_simp
  rw [after0_2]
  idx_vars y
  have ht : t.val / 4 < 4 := by have := t.isLt; have : cfg0.N = 16 := N_0; omega
  have e0 : (⟨t.val / 4, ht⟩ : Fin 4) = ((View.whole main_v2).slice (win0_2.rect t)).emb (ix3 y0 y1 y2) 0 := Fin.ext (by blk_simp [idx t])
  have e1 : y1 = ((View.whole main_v2).slice (win0_2.rect t)).emb (ix3 y0 y1 y2) 1 := Fin.ext (by blk_simp [idx t])
  have e2 : y2 = ((View.whole main_v2).slice (win0_2.rect t)).emb (ix3 y0 y1 y2) 2 := Fin.ext (by blk_simp [idx t])
  rw [← e0, ← e1, ← e2]
  exact (out_eq m c t h _ _ _).trans (share m c t h _ _ ⟨t.val / 4, ht⟩ rfl)

end Cert.DwOut

end
-- ==== Proof.DwOutClaim.lean ====
/-
  The claims about the gradient of the output projection.
-/
module

public import proofs.«01_k».proof.Defs
public import proofs.«01_k».proof.Proof.Gen.Kernel9.Frame
public import proofs.«01_k».proof.Proof.Gen.Reference9Ideal.Read
public import proofs.«01_k».proof.Proof.DwOut

@[expose] public section

set_option maxRecDepth 16384

noncomputable section

namespace Cert.DwOut

open Idealize.ShloMosaic Idealize.ShloMosaic.TcCoe
open Cert.Reference9Ideal.Read

/-- The kernel as written runs and leaves its arguments as they were. -/
theorem frame : Cert.quiescent_Kernel9 (hKernel9 := Cert.Kernel9.Gen.facts) := fun m ρ _ => Cert.Kernel9.Gen.frame m ρ

/-- The kernel over the reals runs and leaves its arguments as they were. -/
theorem frameIdeal : Cert.quiescent_Kernel9Ideal (hKernel9Ideal := Cert.Kernel9Ideal.Gen.facts) :=
  fun m ρ _ => Cert.Kernel9Ideal.Gen.frame m ρ

/-- The reference runs and leaves its arguments as they were. -/
theorem frameRef : Cert.quiescent_Reference9Ideal (hReference9Ideal := Cert.Reference9Ideal.Gen.facts) := by
  intro m g _
  exact (θ_run Cert.Reference9Ideal.defs _ _).mono (fun r h => ⟨fun c => (h c).2,
    Idealize.ShloMosaic.sem_eq_zero_of_no_sems (by decide) r.2⟩) (Cert.Reference9Ideal.Value.run m g)

/-- The reference's element is the product's. -/
theorem ref (Z Y : FVec Ideal Cert.Kernel9Ideal.S8192x1024 .f32) (n : Fin 4) (a : Fin 256) (b : Fin 1024) :
    val_main_v5 (F := Ideal) Z Y (ix3 n a b) = dw Z Y n a b := by
  unfold dw
  pointwise [val_main_v5, val_main_v4, val_main_v3, val_main_v2]
  exact Finset.sum_congr rfl fun k _ => mul_comm _ _

/-- The kernel's result is the reference's. -/
theorem value : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    rw [Cert.Reference9Ideal.Read.val_main_v5_eq]
    refine Eq.trans ?_ (final m c).symm
    funext i
    idx_vars i
    exact ref (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1)) _ _ _

end Cert.DwOut

end
-- ==== Proof.FfnFwd.lean ====
/-
  The channel mixer's forward call: the gate, the up projection and the output, share by share.
-/
module

public import proofs.«01_k».proof.Proof.Gen.Kernel10Ideal.Value
public import proofs.«01_k».proof.Proof.MixSpec
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.FfnFwd

open Idealize.ShloMosaic Idealize.ShloMosaic.TcCoe
open Cert.Kernel10Ideal Cert.Kernel10Ideal.Gen

section Block
variable (H : FVec Ideal S1024x1024 .bf16) (W WG WU : FVec Ideal S1x1024x704 .bf16) (WD : FVec Ideal S1x704x1024 .bf16)

/-- A block of a projection: the tile of tokens times the share's columns. -/
def bproj (p : Fin 1024) (b : Fin 704) : EReal := ∑ k : Fin 1024, H (ix2 p k) * W (ix3 (0 : Fin 1) k b)
/-- The hidden activation. -/
def bact (p : Fin 1024) (b : Fin 704) : EReal := bproj H WG p b * Ideal.logistic (bproj H WG p b) * bproj H WU p b
/-- What the share adds to the output. -/
def bout (p q : Fin 1024) : EReal := ∑ b : Fin 704, bact H WG WU p b * WD (ix3 (0 : Fin 1) b q)

end Block

variable (m : (ℓ : Loc nD τ sig) → Buf (Elt Ideal) ℓ) (c : Dev nD) (t : Fin cfg0.N)

/-- What a point stores as the gate. -/
theorem g_at (z : Fin 1) (p : Fin 1024) (b : Fin 704) :
    (outsAt0 m c t.val t.isLt).1 (ix3 z p b) = bproj (iblk m c 0 t) (iblk m c 1 t) p b := by
  by_cases h : t.val % 4 = 0
  on_goal 1 => rw [outsAt0_A m c t h (by omega)]; frame_out
  on_goal 2 => rw [outsAt0_B m c t h (by omega)]; frame_out
  all_goals
    canon_tiles x h using (View.cover_of_tiledBy (s := S1x1024x704) _ ![1, 1024, 64] (by sl_kernel_rfl) _)
    all_goals
      open_payloads
      pointwise
      rw [show p = x 1 from Fin.ext h1, show b = ⟨_, lt_of_eq_of_lt h2.symm b.isLt⟩ from Fin.ext h2]
      rfl

/-- What a point stores as the up projection. -/
theorem u_at (z : Fin 1) (p : Fin 1024) (b : Fin 704) :
    (outsAt0 m c t.val t.isLt).2.1 (ix3 z p b) = bproj (iblk m c 0 t) (iblk m c 2 t) p b := by
  by_cases h : t.val % 4 = 0
  on_goal 1 => rw [outsAt0_A m c t h (by omega)]; frame_out
  on_goal 2 => rw [outsAt0_B m c t h (by omega)]; frame_out
  all_goals
    canon_tiles x h using (View.cover_of_tiledBy (s := S1x1024x704) _ ![1, 1024, 64] (by sl_kernel_rfl) _)
    all_goals
      open_payloads
      pointwise
      rw [show p = x 1 from Fin.ext h1, show b = ⟨_, lt_of_eq_of_lt h2.symm b.isLt⟩ from Fin.ext h2]
      rfl

/-- A share's sum, taken in the three pieces of columns. -/
theorem pieces (f : Fin 704 → EReal) :
    ∑ x : Fin 256, f ⟨x.val, by omega⟩ + ∑ x : Fin 256, f ⟨256 + x.val, by omega⟩ + ∑ x : Fin 192, f ⟨512 + x.val, by omega⟩
      = ∑ b : Fin 704, f b := by
  refine Eq.symm ((Fin.sum_univ_add (a := 512) (b := 192) f).trans ?_)
  exact congrArg (fun x : EReal => x + _) (Fin.sum_univ_add (a := 256) (b := 256) fun b => f (Fin.castAdd 192 b))

/-- The first share starts the output. -/
theorem y_first (h : t.val % 4 = 0) (p q : Fin 1024) :
    (outsAt0 m c t.val t.isLt).2.2 (ix2 p q) = 0 + bout (iblk m c 0 t) (iblk m c 1 t) (iblk m c 2 t) (iblk m c 3 t) p q := by
  refine Eq.trans ?_ (zero_add _).symm
  rw [outsAt0_A m c t h (by omega)]; frame_out
  open_payloads
  pointwise
  simp only [Cert.Mix.half_tanh]
  exact pieces fun b => bact (iblk m c 0 t) (iblk m c 1 t) (iblk m c 2 t) p b * iblk m c 3 t (ix3 (0 : Fin 1) b q)

/-- A later share adds to it. -/
theorem y_step (h : ¬ t.val % 4 = 0) (p q : Fin 1024) :
    (outsAt0 m c t.val t.isLt).2.2 (ix2 p q)
      = (outsAt0 m c (t.val - 1) (Nat.lt_of_le_of_lt (Nat.sub_le _ _) t.isLt)).2.2 (ix2 p q)
        + bout (iblk m c 0 t) (iblk m c 1 t) (iblk m c 2 t) (iblk m c 3 t) p q := by
  rw [outsAt0_B m c t h (by omega)]; frame_out
  open_payloads
  pointwise
  simp only [Cert.Mix.half_tanh]
  exact congrArg (fun x : EReal => _ + x)
    (pieces fun b => bact (iblk m c 0 t) (iblk m c 1 t) (iblk m c 2 t) p b * iblk m c 3 t (ix3 (0 : Fin 1) b q))

/-- Point `t` takes tile `t / 4` of the tokens and share `t % 4` of the hidden columns. -/
theorem idx : ∀ t : Fin cfg0.N, win0_0.index t = ![t.val / 4, 0] ∧ win0_1.index t = ![t.val % 4, 0, 0]
    ∧ win0_2.index t = ![t.val % 4, 0, 0] ∧ win0_3.index t = ![t.val % 4, 0, 0] ∧ win0_4.index t = ![t.val % 4, t.val / 4, 0]
    ∧ win0_5.index t = ![t.val % 4, t.val / 4, 0] ∧ win0_6.index t = ![t.val / 4, 0] :=
  (by decide +kernel : ∀ t : Fin grid0.N, _)

section Spec
variable (H : FVec Ideal S8192x1024 .f32) (WG WU : FVec Ideal S1024x2816 .f32) (WD : FVec Ideal S2816x1024 .f32)

/-- A projection of the tokens: the gate with the gate's weight, the up projection with the up weight. -/
def proj (W : FVec Ideal S1024x2816 .f32) (r : Fin 8192) (f : Fin 2816) : EReal := ∑ k : Fin 1024, H (ix2 r k) * W (ix2 k f)
/-- The hidden activation. -/
def act (r : Fin 8192) (f : Fin 2816) : EReal := proj H WG r f * Ideal.logistic (proj H WG r f) * proj H WU r f
/-- The output. -/
def out (r : Fin 8192) (q : Fin 1024) : EReal := ∑ f : Fin 2816, act H WG WU r f * WD (ix2 f q)

/-- The column of the hidden layer that share `n` holds at `b`. -/
def col (n : Fin 4) (b : Fin 704) : Fin 2816 := ⟨n.val * 704 + b.val, by omega⟩
end Spec

/-- The argument that holds the tokens. -/
def HH : FVec Ideal S8192x1024 .f32 := m ((c : Thread nD τ).loc main_arg0)
/-- The gate's weight. -/
def WG : FVec Ideal S1024x2816 .f32 := m ((c : Thread nD τ).loc main_arg1)
/-- The up projection's weight. -/
def WU : FVec Ideal S1024x2816 .f32 := m ((c : Thread nD τ).loc main_arg2)
/-- The down projection's weight. -/
def WD : FVec Ideal S2816x1024 .f32 := m ((c : Thread nD τ).loc main_arg3)

/-- The call is handed the tokens themselves. -/
theorem V_h (r : Fin 8192) (k : Fin 1024) : V m c main_v0 (ix2 r k) = HH m c (ix2 r k) := by
  entry_read
  pointwise
  rfl

/-- … the gate's weight cut into shares of its columns. -/
theorem V_wg (n : Fin 4) (k : Fin 1024) (b : Fin 704) : V m c main_v3 (ix3 n k b) = WG m c (ix2 k (col n b)) := by
  entry_read
  pointwise
  rfl

/-- … the up weight cut into shares of its columns. -/
theorem V_wu (n : Fin 4) (k : Fin 1024) (b : Fin 704) : V m c main_v6 (ix3 n k b) = WU m c (ix2 k (col n b)) := by
  entry_read
  pointwise
  rfl

/-- … the down weight cut into shares of its rows. -/
theorem V_wd (n : Fin 4) (b : Fin 704) (k : Fin 1024) : V m c main_v8 (ix3 n b k) = WD m c (ix2 (col n b) k) := by
  entry_read
  pointwise
  rfl

/-- The row of the whole array that a point's tile holds at `p`. -/
def row (p : Fin 1024) : Fin 8192 := ⟨t.val / 4 * 1024 + p.val, by
  have := t.isLt; have : cfg0.N = 32 := N_0; omega⟩
/-- A point's share of the hidden columns. -/
def share : Fin 4 := ⟨t.val % 4, Nat.mod_lt _ (by decide)⟩

/-- A point's tile of the tokens. -/
theorem b_h (p k : Fin 1024) : (iblk m c 0 t : FVec Ideal S1024x1024 .bf16) (ix2 p k) = HH m c (ix2 (row t p) k) := by
  refine Eq.trans ?_ (V_h m c _ _)
  blk_simp [iblk, idx t]
  generalize V m c main_v0 = X
  unfold row
  blk_ext [idx t]

/-- A point's columns of the gate's weight. -/
theorem b_wg (k : Fin 1024) (b : Fin 704) :
    (iblk m c 1 t : FVec Ideal S1x1024x704 .bf16) (ix3 (0 : Fin 1) k b) = WG m c (ix2 k (col (share t) b)) := by
  refine Eq.trans ?_ (V_wg m c _ _ _)
  blk_simp [iblk, idx t]
  generalize V m c main_v3 = X
  unfold share
  blk_ext [idx t]

/-- A point's columns of the up weight. -/
theorem b_wu (k : Fin 1024) (b : Fin 704) :
    (iblk m c 2 t : FVec Ideal S1x1024x704 .bf16) (ix3 (0 : Fin 1) k b) = WU m c (ix2 k (col (share t) b)) := by
  refine Eq.trans ?_ (V_wu m c _ _ _)
  blk_simp [iblk, idx t]
  generalize V m c main_v6 = X
  unfold share
  blk_ext [idx t]

/-- A point's rows of the down weight. -/
theorem b_wd (b : Fin 704) (k : Fin 1024) :
    (iblk m c 3 t : FVec Ideal S1x704x1024 .bf16) (ix3 (0 : Fin 1) b k) = WD m c (ix2 (col (share t) b) k) := by
  refine Eq.trans ?_ (V_wd m c _ _ _)
  blk_simp [iblk, idx t]
  generalize V m c main_v8 = X
  unfold share
  blk_ext [idx t]

/-- A point's gate is the whole one's block. -/
theorem bg_eq (p : Fin 1024) (b : Fin 704) :
    bproj (iblk m c 0 t) (iblk m c 1 t) p b = proj (HH m c) (WG m c) (row t p) (col (share t) b) := by
  unfold bproj proj
  exact Fin.sum_fin_congr fun k => congrArg₂ (fun x y : EReal => x * y) (b_h m c t _ _) (b_wg m c t _ _)

/-- A point's up projection is the whole one's block. -/
theorem bu_eq (p : Fin 1024) (b : Fin 704) :
    bproj (iblk m c 0 t) (iblk m c 2 t) p b = proj (HH m c) (WU m c) (row t p) (col (share t) b) := by
  unfold bproj proj
  exact Fin.sum_fin_congr fun k => congrArg₂ (fun x y : EReal => x * y) (b_h m c t _ _) (b_wu m c t _ _)

/-- What a point adds to the output, over the columns of its share. -/
theorem bout_eq (p q : Fin 1024) :
    bout (iblk m c 0 t) (iblk m c 1 t) (iblk m c 2 t) (iblk m c 3 t) p q
      = ∑ b : Fin 704, act (HH m c) (WG m c) (WU m c) (row t p) (col (share t) b) * WD m c (ix2 (col (share t) b) q) := by
  unfold bout
  refine Fin.sum_fin_congr fun b => congrArg₂ (fun x y : EReal => x * y) ?_ (b_wd m c t _ _)
  unfold bact act
  rw [bg_eq, bu_eq]

/-- The gate, share by share. -/
theorem final4 : (dats m 0 c).arrAt 4 cfg0.N = fun i : S4x8192x704.Idx => proj (HH m c) (WG m c) (i 1) (col (i 0) (i 2)) := by
  refine (dats m 0 c).arrAt_eq_of_covers 4 _ (by decide +kernel) fun t hf y => ?_
  blk_simp
  rw [after0_4]
  idx_vars y
  refine ((g_at m c t _ _ _).trans (bg_eq m c t _ _)).trans
    (congrArg₂ (proj (HH m c) (WG m c)) (Fin.ext ?_) (congrArg₂ col (Fin.ext ?_) (Fin.ext ?_)))
  · unfold row; blk_simp [idx t]
  · unfold share; blk_simp [idx t]
  · blk_simp [idx t]

/-- The up projection, share by share. -/
theorem final5 : (dats m 0 c).arrAt 5 cfg0.N = fun i : S4x8192x704.Idx => proj (HH m c) (WU m c) (i 1) (col (i 0) (i 2)) := by
  refine (dats m 0 c).arrAt_eq_of_covers 5 _ (by decide +kernel) fun t hf y => ?_
  blk_simp
  rw [after0_5]
  idx_vars y
  refine ((u_at m c t _ _ _).trans (bu_eq m c t _ _)).trans
    (congrArg₂ (proj (HH m c) (WU m c)) (Fin.ext ?_) (congrArg₂ col (Fin.ext ?_) (Fin.ext ?_)))
  · unfold row; blk_simp [idx t]
  · unfold share; blk_simp [idx t]
  · blk_simp [idx t]

/-- The output: the shares' sums together are the sum over all the hidden columns. -/
theorem final6 : (dats m 0 c).arrAt 6 cfg0.N = fun i : S8192x1024.Idx => out (HH m c) (WG m c) (WU m c) (WD m c) (i 0) (i 1) := by
  refine (dats m 0 c).arrAt_eq_of_covers 6 _ (by decide +kernel) fun t hf y => ?_
  have h := (flush0_6 t).mp hf
  blk_simp
  rw [after0_6]
  idx_vars y
  rw [Pipeline.eq_sum_fin_of_reset_step_apply_of_flush (fun n h => (outsAt0 m c n h).2.2) 4 (fun _ => 0)
    (fun p y => bout (iblk m c 0 p) (iblk m c 1 p) (iblk m c 2 p) (iblk m c 3 p) (y 0) (y 1))
    (fun t h y => by idx_vars y; exact y_first m c t h _ _) (fun t h y => by idx_vars y; exact y_step m c t h _ _) t h _, zero_add]
  have e0 : row t y0 = ((View.whole main_v9_2).slice (win0_6.rect t)).emb (ix2 y0 y1) 0 := Fin.ext (by unfold row; blk_simp [idx t])
  have e1 : y1 = ((View.whole main_v9_2).slice (win0_6.rect t)).emb (ix2 y0 y1) 1 := Fin.ext (by blk_simp [idx t])
  rw [← e0, ← e1]
  refine (Fin.sum_fin_congr fun s => bout_eq m c _ y0 y1).trans ?_
  unfold out
  refine Fin.sum_mul_add_congr fun s b hl => ?_
  have er : row ⟨_, Pipeline.run_point_lt_of_flush t h s⟩ y0 = row t y0 := Fin.ext (by
    show (4 * (t.val / 4) + s.val) / 4 * 1024 + y0.val = t.val / 4 * 1024 + y0.val
    omega)
  have ec : col (share ⟨_, Pipeline.run_point_lt_of_flush t h s⟩) b = ⟨s.val * 704 + b.val, hl⟩ := Fin.ext (by
    show (4 * (t.val / 4) + s.val) % 4 * 704 + b.val = s.val * 704 + b.val
    omega)
  rw [er, ec]

end Cert.FfnFwd

end
-- ==== Proof.FfnFwdClaim.lean ====
/-
  The claims about the channel mixer's forward call.
-/
module

public import proofs.«01_k».proof.Defs
public import proofs.«01_k».proof.Proof.Gen.Kernel10.Frame
public import proofs.«01_k».proof.Proof.Gen.Reference10Ideal.Read
public import proofs.«01_k».proof.Proof.FfnFwd

@[expose] public section

set_option maxRecDepth 16384

noncomputable section

namespace Cert.FfnFwd

open Idealize.ShloMosaic Idealize.ShloMosaic.TcCoe
open Cert.Reference10Ideal.Read

/-- The kernel as written runs and leaves its arguments as they were. -/
theorem frame : Cert.quiescent_Kernel10 (hKernel10 := Cert.Kernel10.Gen.facts) := fun m ρ _ => Cert.Kernel10.Gen.frame m ρ

/-- The kernel over the reals runs and leaves its arguments as they were. -/
theorem frameIdeal : Cert.quiescent_Kernel10Ideal (hKernel10Ideal := Cert.Kernel10Ideal.Gen.facts) :=
  fun m ρ _ => Cert.Kernel10Ideal.Gen.frame m ρ

/-- The reference runs and leaves its arguments as they were. -/
theorem frameRef : Cert.quiescent_Reference10Ideal (hReference10Ideal := Cert.Reference10Ideal.Gen.facts) := by
  intro m g _
  exact (θ_run Cert.Reference10Ideal.defs _ _).mono (fun r h => ⟨fun c => (h c).2.2.2,
    Idealize.ShloMosaic.sem_eq_zero_of_no_sems (by decide) r.2⟩) (Cert.Reference10Ideal.Value.run m g)

section
variable (H : FVec Ideal Cert.Kernel10Ideal.S8192x1024 .f32) (G U : FVec Ideal Cert.Kernel10Ideal.S1024x2816 .f32) (D : FVec Ideal Cert.Kernel10Ideal.S2816x1024 .f32)

/-- The reference's gate. -/
theorem ref_g (r : Fin 8192) (f : Fin 2816) : val_main_v0 (F := Ideal) H G (ix2 r f) = proj H G r f := by
  unfold proj
  pointwise [val_main_v0]

/-- The reference's up projection. -/
theorem ref_u (r : Fin 8192) (f : Fin 2816) : val_main_v1 (F := Ideal) H U (ix2 r f) = proj H U r f := by
  unfold proj
  pointwise [val_main_v1]

/-- The reference's gate, cut into shares. -/
theorem ref_g_share (n : Fin 4) (r : Fin 8192) (b : Fin 704) : val_main_v4 (F := Ideal) H G (ix3 n r b) = proj H G r (col n b) := by
  rw [← ref_g]
  pointwise [val_main_v4, val_main_v3, val_main_v2]
  rfl

/-- The reference's up projection, cut into shares. -/
theorem ref_u_share (n : Fin 4) (r : Fin 8192) (b : Fin 704) : val_main_v7 (F := Ideal) H U (ix3 n r b) = proj H U r (col n b) := by
  rw [← ref_u]
  pointwise [val_main_v7, val_main_v6, val_main_v5]
  rfl

/-- The reference's hidden activation. -/
theorem ref_act (r : Fin 8192) (f : Fin 2816) : val_main_v9 (F := Ideal) H G U (ix2 r f) = act H G U r f := by
  unfold act
  rw [← ref_g H G, ← ref_u H U]
  pointwise [val_main_v9, val_main_v8, val_main_call0_v5, val_main_call0_v4, val_main_call0_v3, val_main_call0_v2, val_main_call0_v1,
    val_main_call0_v0, val_main_call0_cst, val_main_call0_cst_0, Ideal.logistic]

/-- The reference's output. -/
theorem ref_out (r : Fin 8192) (q : Fin 1024) : val_main_v10 (F := Ideal) H G U D (ix2 r q) = out H G U D r q := by
  unfold out
  pointwise [val_main_v10]
  exact Fin.sum_fin_congr fun f => congrArg (fun x : EReal => x * _) (ref_act H G U r f)

end

/-- The kernel's three results are the reference's. -/
theorem value : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    · rw [Cert.Reference10Ideal.Read.val_main_v4_eq]
      refine Eq.trans ?_ (final4 m c).symm
      funext i
      idx_vars i
      exact ref_g_share (HH m c) (WG m c) _ _ _
    · rw [Cert.Reference10Ideal.Read.val_main_v7_eq]
      refine Eq.trans ?_ (final5 m c).symm
      funext i
      idx_vars i
      exact ref_u_share (HH m c) (WU m c) _ _ _
    · refine (Cert.Reference10Ideal.Read.val_main_v10_eq (F := Ideal) _ _ _ _).trans (Eq.trans ?_ (final6 m c).symm)
      funext i
      idx_vars i
      exact ref_out (HH m c) (WG m c) (WU m c) (WD m c) _ _

end Cert.FfnFwd

end
-- ==== Proof.NormSpec.lean ====
/-
  The gradient of an adaLN norm: the root mean square normalisation, the gain, the modulation by shift and scale and the
  residual gate, at a row and a column; and the equation between its two forms.
-/
module

public import Idealize.ShloMosaic.PureOps.Ideal.Laws

@[expose] public section

noncomputable section

namespace Cert.Norm

open Idealize.ShloMosaic

/-- The row's length, as the programs write it. -/
abbrev len : EReal := Ideal.ofBits .f32 1149239296#32
/-- What the norm adds to the mean square. -/
abbrev eps : EReal := Ideal.ofBits .f32 897988541#32
/-- Minus one half, from the derivative of the inverse root. -/
abbrev mhalf : EReal := Ideal.ofBits .f32 3204448256#32
/-- One half, the weight of a channel mixer's residual. -/
abbrev half : EReal := Ideal.ofBits .f32 1056964608#32

/-- The row has 1024 columns. -/
theorem len_eq : len = ((1024 : ℝ) : EReal) := by
  simp [len, Ideal.ofBits, Ideal.ieee]
  norm_cast
  norm_num

/-- The norm's addend is a positive real. -/
theorem eps_pos : ∃ e : ℝ, 0 < e ∧ eps = (e : EReal) := by
  simp only [eps, Ideal.ofBits, Ideal.ieee]
  refine ⟨_, ?_, rfl⟩
  rw [if_neg (by decide)]
  positivity

/-- Minus one half is that. -/
theorem mhalf_eq : mhalf = ((-1 / 2 : ℝ) : EReal) := by
  simp only [mhalf, Ideal.ofBits, Ideal.ieee]
  refine congrArg Real.toEReal ?_
  rw [if_pos (by decide)]
  simp
  norm_num

/-- A row's mean square, with the norm's addend. -/
def ms (x : Fin 1024 → EReal) : EReal := Ideal.div (∑ k, x k * x k) len + eps
/-- The inverse of a row's root mean square. -/
def inv (x : Fin 1024 → EReal) : EReal := Ideal.rsqrt (ms x)

/-- A square is not negative, of an infinity neither. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- The mean square is a positive real or infinite. -/
theorem ms_cases (x : Fin 1024 → EReal) : ms x = ⊤ ∨ ∃ z : ℝ, 0 < z ∧ ms x = (z : EReal) := by
  obtain ⟨e, he, hE⟩ := eps_pos
  have h : 0 ≤ Ideal.div (∑ k, x k * x k) len := by
    rw [len_eq, Ideal.div_coe (by norm_num)]
    exact mul_nonneg (Finset.sum_nonneg fun k _ => sq_nonneg _) (by norm_cast; norm_num)
  unfold ms
  rw [hE]
  generalize Ideal.div (∑ k, x k * x k) len = y at h
  induction y with
  | bot => exact absurd h (by simp)
  | top => exact Or.inl (by simp)
  | coe y =>
    have : 0 ≤ y := by exact_mod_cast h
    exact Or.inr ⟨y + e, by linarith, by norm_cast⟩

/-- A nonnegative real factor of every term is one of the sum, infinite terms or not. -/
theorem sum_mul_real {n : ℕ} (f : Fin n → EReal) (c : ℝ) (h : 0 ≤ c) : ∑ k, f k * (c : EReal) = (∑ k, f k) * (c : EReal) := by
  have key : ∀ s : Finset (Fin n), (∑ k ∈ s, f k) * (c : EReal) = ∑ k ∈ s, f k * (c : EReal) := fun s => by
    classical
    induction s using Finset.induction_on with
    | empty => simp
    | insert a s ha ih =>
      rw [Finset.sum_insert ha, Finset.sum_insert ha, ← ih, mul_comm, mul_comm (f a), mul_comm (∑ k ∈ s, f k)]
      exact EReal.left_distrib_of_nonneg_of_ne_top (by exact_mod_cast h) (EReal.coe_ne_top c) _ _
  exact (key Finset.univ).symm

/-- Twice a real multiple. -/
theorem twice (y : EReal) (c : ℝ) : y * (c : EReal) + y * (c : EReal) = y * ((c + c : ℝ) : EReal) := by
  rcases lt_trichotomy c 0 with h | h | h
  · induction y with
    | bot => rw [EReal.bot_mul_coe_of_neg h, EReal.bot_mul_coe_of_neg (by linarith)]; rfl
    | top => rw [EReal.top_mul_coe_of_neg h, EReal.top_mul_coe_of_neg (by linarith)]; rfl
    | coe y => norm_cast; ring
  · subst h; simp
  · induction y with
    | bot => rw [EReal.bot_mul_coe_of_pos h, EReal.bot_mul_coe_of_pos (by linarith)]; rfl
    | top => rw [EReal.top_mul_coe_of_pos h, EReal.top_mul_coe_of_pos (by linarith)]; rfl
    | coe y => norm_cast; ring

/-- The gradient of the normalisation, by the rules of differentiation (the inverse root's derivative, then the mean's and
    the square's), is the projection that the kernel computes. -/
theorem grad_eq (x a : Fin 1024 → EReal) (d : EReal) (j : Fin 1024) :
    d + a j * inv x + x j * Ideal.div ((∑ k, x k * a k) * (mhalf * Ideal.div (inv x) (ms x))) len
        + Ideal.div ((∑ k, x k * a k) * (mhalf * Ideal.div (inv x) (ms x))) len * x j
      = d + inv x * (a j - x j * inv x * Ideal.div (∑ k, a k * (x k * inv x)) len) := by
  unfold inv
  rcases ms_cases x with h | ⟨z, hz, h⟩
  · rw [h, Ideal.rsqrt_top]
    have e : Ideal.div 0 ⊤ = 0 := by simp [Ideal.div]
    have e' : Ideal.div 0 len = 0 := by rw [len_eq, Ideal.div_coe (by norm_num), zero_mul]
    simp only [e, mul_zero, e', zero_mul, add_zero]
  · rw [h, Ideal.rsqrt_coe, if_neg (not_lt.mpr hz.le), if_neg hz.ne']
    have hs : Real.sqrt z * Real.sqrt z = z := Real.mul_self_sqrt hz.le
    have hp : 0 < Real.sqrt z := Real.sqrt_pos.mpr hz
    have hr : 0 ≤ (Real.sqrt z)⁻¹ := (inv_pos.mpr hp).le
    have hc : (Real.sqrt z)⁻¹ * (1 / z) = (Real.sqrt z)⁻¹ * (Real.sqrt z)⁻¹ * (Real.sqrt z)⁻¹ := by
      rw [← hs]
      rw [Real.sqrt_mul_self hp.le]
      field_simp
    generalize (Real.sqrt z)⁻¹ = r at hr hc
    have e : ∑ k, a k * (x k * (r : EReal)) = (∑ k, x k * a k) * (r : EReal) := by
      rw [← sum_mul_real _ r hr]
      exact Finset.sum_congr rfl fun k _ => by rw [← mul_assoc, mul_comm (a k)]
    rw [e, Ideal.div_coe hz.ne', mhalf_eq, len_eq, Ideal.div_coe (by norm_num), Ideal.div_coe (by norm_num), sub_eq_add_neg,
      EReal.left_distrib_of_nonneg_of_ne_top (by exact_mod_cast hr) (EReal.coe_ne_top r), add_assoc, add_assoc, mul_comm (a j)]
    refine congrArg (fun y : EReal => d + (r * a j + y)) ?_
    generalize (∑ k, x k * a k) = T
    have hw : ∀ c : ℝ, x j * (T * (((-1 / 2 : ℝ) : EReal) * ((r : EReal) * ((1 / z : ℝ) : EReal))) * ((c : ℝ) : EReal))
        = x j * T * (((-1 / 2) * (r * (1 / z)) * c : ℝ) : EReal) := fun c => by
      push_cast
      simp only [mul_assoc]
    rw [mul_comm _ (x j), hw, twice]
    rw [hc, mul_neg]
    have hk : ∀ c : ℝ, (r : EReal) * (x j * r * (T * r * (c : EReal))) = x j * T * ((r * r * r * c : ℝ) : EReal) := fun c => by
      push_cast
      ac_rfl
    rw [hk, ← mul_neg, ← EReal.coe_neg]
    congr 2
    ring

/-- What the call is given: the gradients of the norm's output and of the residual stream after the sub-layer, the stream
    before it, the sub-layer's output, and the rows of the modulation. -/
structure In where
  /-- the gradient of the modulated norm -/
  dh : Fin 8192 → Fin 1024 → EReal
  /-- the stream that was normalised -/
  x : Fin 8192 → Fin 1024 → EReal
  /-- the gradient of the stream after the sub-layer -/
  dxo : Fin 8192 → Fin 1024 → EReal
  /-- the sub-layer's output -/
  y : Fin 8192 → Fin 1024 → EReal
  /-- the modulation's scale -/
  sc : Fin 1024 → EReal
  /-- the norm's gain -/
  gn : Fin 1024 → EReal
  /-- the residual gate of the sub-layer before -/
  gt : Fin 1024 → EReal

variable (I : In)

/-- The gradient of the gained norm. -/
def dn (r : Fin 8192) (j : Fin 1024) : EReal := I.dh r j * (1 + I.sc j)
/-- The gradient of the normalised stream. -/
def da (r : Fin 8192) (j : Fin 1024) : EReal := dn I r j * I.gn j
/-- The normalised stream. -/
def xh (r : Fin 8192) (j : Fin 1024) : EReal := I.x r j * inv (I.x r)
/-- The stream's gradient. -/
def dx (r : Fin 8192) (j : Fin 1024) : EReal :=
  I.dxo r j + inv (I.x r) * (da I r j - xh I r j * Ideal.div (∑ k, da I r k * xh I r k) len)
/-- The gradient of the output of the sub-layer before. -/
def dy (r : Fin 8192) (j : Fin 1024) : EReal := half * I.gt j * dx I r j

/-- What a row adds to the gradients of the modulation and the gain: of the shift, the scale, the gate and the gain, one
    in each of the first four rows. -/
def stat (k : ℕ) (r : Fin 8192) (j : Fin 1024) : EReal :=
  if k = 3 then dn I r j * xh I r j
  else if k = 2 then I.y r j * I.dxo r j
  else if k = 1 then I.dh r j * (xh I r j * I.gn j)
  else if k = 0 then I.dh r j
  else 0

/-- Those gradients. -/
def stats (k : Fin 8) (j : Fin 1024) : EReal := ∑ r, stat I k.val r j

/-- The stream's gradient as the rules of differentiation give it. -/
theorem dx_eq (r : Fin 8192) (j : Fin 1024) :
    I.dxo r j + da I r j * inv (I.x r)
        + I.x r j * Ideal.div ((∑ k, I.x r k * da I r k) * (mhalf * Ideal.div (inv (I.x r)) (ms (I.x r)))) len
        + Ideal.div ((∑ k, I.x r k * da I r k) * (mhalf * Ideal.div (inv (I.x r)) (ms (I.x r)))) len * I.x r j
      = dx I r j := by
  unfold dx xh
  exact grad_eq (I.x r) (da I r) (I.dxo r j) j

end Cert.Norm

end
-- ==== Proof.Norm.lean ====
/-
  The kernel's call for an adaLN norm's gradient, tile by tile: the stream's gradient and that of the sub-layer before
  at the tile's rows, and the modulation's gradients, one row each, summed from tile to tile.
-/
module

public import proofs.«01_k».proof.Proof.Gen.Kernel11Ideal.Value
public import proofs.«01_k».proof.Proof.NormSpec
public import proofs.«01_k».proof.Proof.MixPoint
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.Norm

open Idealize.ShloMosaic Idealize.ShloMosaic.TcCoe
open Cert.Kernel11Ideal Cert.Kernel11Ideal.Gen

section Tile

variable (I : In) (R : Fin 512 → Fin 8192) (X DH DXO : FVec Ideal S512x1024 .f32) (Y : FVec Ideal S512x1024 .bf16)
  (SC GN GT : FVec Ideal S1x1024 .f32)

/-- The inverse root mean square of a tile's row. -/
theorem tile_inv (hx : ∀ p j, X (ix2 p j) = I.x (R p) j) (p : Fin 512) : k0_pay3 (F := Ideal) X (ix2 p 0) = inv (I.x (R p)) := by
  pointwise [k0_pay3, hx]
  rfl

/-- A tile of the normalised stream. -/
theorem tile_xh (hx : ∀ p j, X (ix2 p j) = I.x (R p) j) (p : Fin 512) (j : Fin 1024) : k0_pay4 (F := Ideal) X (ix2 p j) = xh I (R p) j := by
  pointwise [k0_pay4, hx, tile_inv I R X hx]
  rfl

/-- A tile of the gained norm's gradient. -/
theorem tile_dn (hd : ∀ p j, DH (ix2 p j) = I.dh (R p) j) (hs : ∀ j, SC (ix2 0 j) = I.sc j) (p : Fin 512) (j : Fin 1024) :
    k0_pay6 (F := Ideal) DH SC (ix2 p j) = dn I (R p) j := by
  pointwise [k0_pay6, hd, hs]
  rfl

/-- A tile of the stream's gradient. -/
theorem tile_dx (hx : ∀ p j, X (ix2 p j) = I.x (R p) j) (hd : ∀ p j, DH (ix2 p j) = I.dh (R p) j)
    (ho : ∀ p j, DXO (ix2 p j) = I.dxo (R p) j) (hg : ∀ j, GN (ix2 0 j) = I.gn j) (hs : ∀ j, SC (ix2 0 j) = I.sc j)
    (p : Fin 512) (j : Fin 1024) : k0_pay7 (F := Ideal) X DH DXO GN SC (ix2 p j) = dx I (R p) j := by
  pointwise [k0_pay7, k0_pay5, ho, hg, tile_inv I R X hx, tile_xh I R X hx, tile_dn I R DH SC hd hs]
  rfl

/-- A tile of the gradient of the sub-layer before. -/
theorem tile_dy (D : FVec Ideal S512x1024 .f32) (hD : ∀ p j, D (ix2 p j) = dx I (R p) j) (ht : ∀ j, GT (ix2 0 j) = I.gt j)
    (p : Fin 512) (j : Fin 1024) : k0_pay8 D GT (ix2 p j) = dy I (R p) j := by
  pointwise [k0_pay8, hD, ht]
  rfl

/-- The shift's gradient, with a tile's part. -/
theorem tile_0 (A : FVec Ideal S1x1024 .f32) (hd : ∀ p j, DH (ix2 p j) = I.dh (R p) j) (j : Fin 1024) :
    k0_pay9 DH A (ix2 0 j) = A (ix2 0 j) + ∑ p, stat I 0 (R p) j := by
  pointwise [k0_pay9, hd]
  rfl

/-- The scale's gradient, with a tile's part. -/
theorem tile_1 (A : FVec Ideal S1x1024 .f32) (hx : ∀ p j, X (ix2 p j) = I.x (R p) j) (hd : ∀ p j, DH (ix2 p j) = I.dh (R p) j)
    (hg : ∀ j, GN (ix2 0 j) = I.gn j) (j : Fin 1024) :
    k0_pay10 DH (k0_pay4 X) (k0_pay5 GN) A (ix2 0 j) = A (ix2 0 j) + ∑ p, stat I 1 (R p) j := by
  pointwise [k0_pay10, k0_pay5, hd, hg, tile_xh I R X hx]
  rfl

/-- The gate's gradient, with a tile's part. -/
theorem tile_2 (A : FVec Ideal S1x1024 .f32) (hy : ∀ p j, Y (ix2 p j) = I.y (R p) j) (ho : ∀ p j, DXO (ix2 p j) = I.dxo (R p) j)
    (j : Fin 1024) : k0_pay11 DXO A Y (ix2 0 j) = A (ix2 0 j) + ∑ p, stat I 2 (R p) j := by
  pointwise [k0_pay11, hy, ho]
  rfl

/-- The gain's gradient, with a tile's part. -/
theorem tile_3 (A : FVec Ideal S1x1024 .f32) (hx : ∀ p j, X (ix2 p j) = I.x (R p) j) (hd : ∀ p j, DH (ix2 p j) = I.dh (R p) j)
    (hs : ∀ j, SC (ix2 0 j) = I.sc j) (j : Fin 1024) :
    k0_pay1 (k0_pay4 X) (k0_pay6 DH SC) A (ix2 0 j) = A (ix2 0 j) + ∑ p, stat I 3 (R p) j := by
  pointwise [k0_pay1, tile_xh I R X hx, tile_dn I R DH SC hd hs]
  rfl

end Tile

variable (m : (ℓ : Loc nD τ sig) → Buf (Elt Ideal) ℓ) (c : Dev nD)

/-- The call's inputs at the program's arguments. -/
def inOf (x0 x1 x2 x3 : FVec Ideal S8192x1024 .f32) (x4 : FVec Ideal S3x1024 .f32) (x5 : FVec Ideal S1x1024 .f32)
    (x6 : FVec Ideal S3x1024 .f32) : In where
  dh r j := x0 (ix2 r j)
  x r j := x1 (ix2 r j)
  dxo r j := x2 (ix2 r j)
  y r j := x3 (ix2 r j)
  sc j := x4 (ix2 1 j)
  gn j := x5 (ix2 0 j)
  gt j := x6 (ix2 2 j)

/-- The inputs at the kernel program's arguments. -/
def inK : In :=
  inOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Which blocks point `t` reads and which it writes. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0]
    ∧ win0_6.index t = ![t.val, 0] ∧ win0_7.index t = ![0, 0] ∧ win0_8.index t = ![t.val, 0] :=
  (by decide +kernel : ∀ t : Fin grid0.N, _)

/-- Setting row 3 sets it. -/
theorem set_gain {α : Type} (x0 : S8x1024.Idx → α) (x : IVec S1 32) (hx : (x (ix1 0)).toInt = ((3 : ℕ) : Int)) (u : S1x1024.Idx → α)
    (j : Fin 1024) : Host.scatter scatter_S8x1024_S1_S1x1024_01_n_0_0 (fun _ b => b) x0 x u (ix2 (3 : Fin 8) j) = u (ix2 0 j) := by
  refine Routing.scatter_set_hit _ x0 x u _ _ (fun i hi => ?_) (ix2 (0 : Fin 1) j) ((Cert.Mix.lands1 x 3 hx 0 j 3 j).2 ⟨rfl, rfl⟩)
  idx_vars i
  obtain ⟨h, rfl⟩ := (Cert.Mix.lands1 x 3 hx _ _ (3 : Fin 8) j).1 hi
  congr 2
  exact Subsingleton.elim _ _

/-- Row 1 of the modulation the call is handed is the scale. -/
theorem V_scale (j : Fin 1024) : V m c main_v4 (ix2 (1 : Fin 8) j) = (inK m c).sc j := by
  entry_read
  exact (Cert.Mix.set1 _ _ (by rfl) _ _ _ (by decide)).trans (Cert.Mix.set3 _ _ (by rfl) _ (1 : Fin 8) (1 : Fin 3) j rfl)

/-- Row 3 is the gain. -/
theorem V_gain (j : Fin 1024) : V m c main_v4 (ix2 (3 : Fin 8) j) = (inK m c).gn j := by
  entry_read
  exact set_gain _ _ (by rfl) _ _

/-- Row 2 of the modulation before is its gate. -/
theorem V_gate (j : Fin 1024) : V m c main_v7 (ix2 (2 : Fin 8) j) = (inK m c).gt j := by
  entry_read
  exact Cert.Mix.set3 _ _ (by rfl) _ (2 : Fin 8) (2 : Fin 3) j rfl

/-- The sub-layer's output is handed over as it is. -/
theorem V_y : V m c main_v8 = m ((c : Thread nD τ).loc main_arg3) := by
  entry_read
  rfl

variable (t : Fin cfg0.N)

/-- Row `p` of point `t`'s tile. -/
def row (t : Fin cfg0.N) (p : Fin 512) : Fin 8192 := ⟨t.val * 512 + p.val, by have := t.isLt; have : cfg0.N = 16 := N_0; omega⟩

/-- The point's block of the modulated norm's gradient. -/
theorem blk0 (p : Fin 512) (j : Fin 1024) : iblk m c 0 t (ix2 p j) = (inK m c).dh (row t p) j := by
  pointwise [inK, inOf, row]
  blk_point [iblk, V, idx t]

/-- The point's block of the stream. -/
theorem blk1 (p : Fin 512) (j : Fin 1024) : iblk m c 1 t (ix2 p j) = (inK m c).x (row t p) j := by
  pointwise [inK, inOf, row]
  blk_point [iblk, V, idx t]

/-- The point's block of the gradient of the stream after the sub-layer. -/
theorem blk3 (p : Fin 512) (j : Fin 1024) : iblk m c 3 t (ix2 p j) = (inK m c).dxo (row t p) j := by
  pointwise [inK, inOf, row]
  blk_point [iblk, V, idx t]

/-- The point's block of the sub-layer's output. -/
theorem blk4 (p : Fin 512) (j : Fin 1024) : iblk m c 4 t (ix2 p j) = (inK m c).y (row t p) j := by
  simp only [inK, inOf, row, ← V_y]
  blk_ext [iblk, idx t]

/-- The scale as the point loads it. -/
theorem scale_at (j : Fin 1024) :
    View.ld (iblk m c 2 t) (Rect.unit ![1, 0] ![1, 1024] inb_S8x1024_S1x1024_1_0) (ix2 (0 : Fin 1) j) = (inK m c).sc j := by
  refine (Cert.Mix.ld_row 1 _ (iblk m c 2 t) 1 rfl j).trans (Eq.trans ?_ (V_scale m c j))
  blk_simp [iblk, idx t]
  generalize V m c main_v4 = X
  blk_ext [idx t]

/-- The gain as the point loads it. -/
theorem gain_at (j : Fin 1024) :
    View.ld (iblk m c 2 t) (Rect.unit ![3, 0] ![1, 1024] inb_S8x1024_S1x1024_3_0) (ix2 (0 : Fin 1) j) = (inK m c).gn j := by
  refine (Cert.Mix.ld_row 3 _ (iblk m c 2 t) 3 rfl j).trans (Eq.trans ?_ (V_gain m c j))
  blk_simp [iblk, idx t]
  generalize V m c main_v4 = X
  blk_ext [idx t]

/-- The gate before as the point loads it. -/
theorem gate_at (j : Fin 1024) :
    View.ld (iblk m c 5 t) (Rect.unit ![2, 0] ![1, 1024] inb_S8x1024_S1x1024_2_0) (ix2 (0 : Fin 1) j) = (inK m c).gt j := by
  refine (Cert.Mix.ld_row 2 _ (iblk m c 5 t) 2 rfl j).trans (Eq.trans ?_ (V_gate m c j))
  blk_simp [iblk, idx t]
  generalize V m c main_v7 = X
  blk_ext [idx t]

/-- The point leaves its tile of the stream's gradient. -/
theorem dx_at (p : Fin 512) (j : Fin 1024) : (outsAt0 m c t.val t.isLt).1 (ix2 p j) = dx (inK m c) (row t p) j := by
  have e := tile_dx (inK m c) (row t) _ _ _ _ _ (blk1 m c t) (blk0 m c t) (blk3 m c t) (gain_at m c t) (scale_at m c t) p j
  by_cases h : t.val % 16 = 0
  · rw [outsAt0_A m c t h]; frame_out
    exact e
  · rw [outsAt0_B m c t h]; frame_out
    exact e

/-- The point leaves its tile of the gradient of the sub-layer before. -/
theorem dy_at (p : Fin 512) (j : Fin 1024) : (outsAt0 m c t.val t.isLt).2.2 (ix2 p j) = dy (inK m c) (row t p) j := by
  have e := tile_dx (inK m c) (row t) _ _ _ _ _ (blk1 m c t) (blk0 m c t) (blk3 m c t) (gain_at m c t) (scale_at m c t)
  have e' := tile_dy (inK m c) (row t) _ _ e (gate_at m c t) p j
  by_cases h : t.val % 16 = 0
  · rw [outsAt0_A m c t h]; frame_out
    exact e'
  · rw [outsAt0_B m c t h]; frame_out
    exact e'

/-- What a point adds to the modulation's gradients. -/
def part (k : Fin 8) (j : Fin 1024) : EReal := ∑ p : Fin 512, stat (inK m c) k.val (row t p) j

/-- The zero fill of those gradients. -/
theorem zero_at (k : Fin 8) (j : Fin 1024) : k0_pay2 (F := Ideal) (ix2 k j) = 0 := by
  pointwise [k0_pay2]

/-- A point adds nothing to the rows after the fourth. -/
theorem part_rest (k : Fin 8) (j : Fin 1024) (h : 3 < k.val) : part m c t k j = 0 := by
  unfold part stat
  simp only [if_neg (show k.val ≠ 3 by omega), if_neg (show k.val ≠ 2 by omega), if_neg (show k.val ≠ 1 by omega),
    if_neg (show k.val ≠ 0 by omega)]
  exact Finset.sum_const_zero

/-- The first point clears the gradients and adds its part. -/
theorem first (h : t.val % 16 = 0) (k : Fin 8) (j : Fin 1024) :
    (outsAt0 m c t.val t.isLt).2.1 (ix2 k j) = 0 + part m c t k j := by
  rw [outsAt0_A m c t h]; frame_out
  simp (disch := decide) only [↓ View.readCov_skip, ↓ View.readCov_fill]
  refine (Cert.Mix.canon_row 3 _ _ _ k j).trans ?_
  by_cases h3 : k.val = 3
  · rw [if_pos h3]
    unfold part
    rw [h3]
    exact (tile_3 (inK m c) (row t) _ _ _ _ (blk1 m c t) (blk0 m c t) (scale_at m c t) j).trans
      (congrArg (· + _) ((Cert.Mix.ld_row 3 _ _ k h3 j).trans (zero_at k j)))
  rw [if_neg h3]
  refine (Cert.Mix.canon_row 2 _ _ _ k j).trans ?_
  by_cases h2 : k.val = 2
  · rw [if_pos h2]
    unfold part
    rw [h2]
    exact (tile_2 (inK m c) (row t) _ _ _ (blk4 m c t) (blk3 m c t) j).trans
      (congrArg (· + _) ((Cert.Mix.ld_row 2 _ _ k h2 j).trans (zero_at k j)))
  rw [if_neg h2]
  refine (Cert.Mix.canon_row 1 _ _ _ k j).trans ?_
  by_cases h1 : k.val = 1
  · rw [if_pos h1]
    unfold part
    rw [h1]
    exact (tile_1 (inK m c) (row t) _ _ _ _ (blk1 m c t) (blk0 m c t) (gain_at m c t) j).trans
      (congrArg (· + _) ((Cert.Mix.ld_row 1 _ _ k h1 j).trans (zero_at k j)))
  rw [if_neg h1]
  refine (Cert.Mix.canon_row 0 _ _ _ k j).trans ?_
  by_cases h0 : k.val = 0
  · rw [if_pos h0]
    unfold part
    rw [h0]
    exact (tile_0 (inK m c) (row t) _ _ (blk0 m c t) j).trans
      (congrArg (· + _) ((Cert.Mix.ld_row 0 _ _ k h0 j).trans (zero_at k j)))
  rw [if_neg h0, part_rest m c t k j (by omega), View.canon_cons_unit_lit _ _ _ (by decide), zero_at, zero_add]

/-- Every later point adds its part to what the point before left. -/
theorem step (h : ¬ t.val % 16 = 0) (k : Fin 8) (j : Fin 1024) :
    (outsAt0 m c t.val t.isLt).2.1 (ix2 k j)
      = (outsAt0 m c (t.val - 1) (Nat.lt_of_le_of_lt (Nat.sub_le _ _) t.isLt)).2.1 (ix2 k j) + part m c t k j := by
  rw [outsAt0_B m c t h]; frame_out
  refine (Cert.Mix.read_row _ _ 3 _ _ _ k j).trans ?_
  by_cases h3 : k.val = 3
  · rw [if_pos h3]
    unfold part
    rw [h3]
    exact (tile_3 (inK m c) (row t) _ _ _ _ (blk1 m c t) (blk0 m c t) (scale_at m c t) j).trans
      (congrArg (· + _) (Cert.Mix.ld_row 3 _ _ k h3 j))
  rw [if_neg h3]
  refine (Cert.Mix.read_row _ _ 2 _ _ _ k j).trans ?_
  by_cases h2 : k.val = 2
  · rw [if_pos h2]
    unfold part
    rw [h2]
    exact (tile_2 (inK m c) (row t) _ _ _ (blk4 m c t) (blk3 m c t) j).trans
      (congrArg (· + _) (Cert.Mix.ld_row 2 _ _ k h2 j))
  rw [if_neg h2]
  refine (Cert.Mix.read_row _ _ 1 _ _ _ k j).trans ?_
  by_cases h1 : k.val = 1
  · rw [if_pos h1]
    unfold part
    rw [h1]
    exact (tile_1 (inK m c) (row t) _ _ _ _ (blk1 m c t) (blk0 m c t) (gain_at m c t) j).trans
      (congrArg (· + _) (Cert.Mix.ld_row 1 _ _ k h1 j))
  rw [if_neg h1]
  refine (Cert.Mix.read_row _ _ 0 _ _ _ k j).trans ?_
  by_cases h0 : k.val = 0
  · rw [if_pos h0]
    unfold part
    rw [h0]
    exact (tile_0 (inK m c) (row t) _ _ (blk0 m c t) j).trans
      (congrArg (· + _) (Cert.Mix.ld_row 0 _ _ k h0 j))
  rw [if_neg h0, part_rest m c t k j (by omega), add_zero]
  exact congrFun (Memref.IsWhole.read_unread _ _) _

/-- The stream's gradient. -/
theorem final6 : (dats m 0 c).arrAt 6 cfg0.N = fun i => dx (inK m c) (i 0) (i 1) := by
  refine (dats m 0 c).arrAt_eq_of_covers 6 _ (by decide +kernel) fun t hf y => ?_
  blk_simp
  rw [after0_6]
  idx_vars y
  refine (dx_at m c t _ _).trans (congrArg₂ (dx (inK m c)) (Fin.ext ?_) (Fin.ext ?_))
  · unfold row
    blk_simp [idx t]
  · blk_simp [idx t]

/-- The gradient of the sub-layer before. -/
theorem final8 : (dats m 0 c).arrAt 8 cfg0.N = fun i => dy (inK m c) (i 0) (i 1) := by
  refine (dats m 0 c).arrAt_eq_of_covers 8 _ (by decide +kernel) fun t hf y => ?_
  blk_simp
  rw [after0_8]
  idx_vars y
  refine (dy_at m c t _ _).trans (congrArg₂ (dy (inK m c)) (Fin.ext ?_) (Fin.ext ?_))
  · unfold row
    blk_simp [idx t]
  · blk_simp [idx t]

/-- The modulation's gradients. -/
theorem final7 : (dats m 0 c).arrAt 7 cfg0.N = fun i => stats (inK m c) (i 0) (i 1) := by
  refine (dats m 0 c).arrAt_eq_of_after_last 7 t0_15 (by decide +kernel) _ fun j => ?_
  blk_simp
  idx_vars j
  rw [after0_7, Pipeline.eq_sum_fin_of_reset_step_apply_last (fun n h => (outsAt0 m c n h).2.1) 16 (fun _ => 0) (fun p y => part m c p (y 0) (y 1))
    (fun t h j => by idx_vars j; exact first m c t h _ _) (fun t h j => by idx_vars j; exact step m c t h _ _) (le_of_eq N_0) t0_15 rfl _, zero_add]
  show (∑ t : Fin cfg0.N, part m c t j0 j1) = stats (inK m c) j0 j1
  unfold part stats
  exact Fin.sum_mul_add_congr fun s p hl => rfl

end Cert.Norm

end
-- ==== Proof.NormClaim.lean ====
/-
  The claims about the call for an adaLN norm's gradient.
-/
module

public import proofs.«01_k».proof.Defs
public import proofs.«01_k».proof.Proof.Gen.Kernel11.Frame
public import proofs.«01_k».proof.Proof.Gen.Reference11Ideal.Read
public import proofs.«01_k».proof.Proof.Norm

@[expose] public section

set_option maxRecDepth 16384

noncomputable section

namespace Cert.Norm

open Idealize.ShloMosaic Idealize.ShloMosaic.TcCoe
open Cert.Reference11Ideal.Read

/-- The kernel as written runs and leaves its arguments as they were. -/
theorem frame : Cert.quiescent_Kernel11 (hKernel11 := Cert.Kernel11.Gen.facts) := fun m ρ _ => Cert.Kernel11.Gen.frame m ρ

/-- The kernel over the reals runs and leaves its arguments as they were. -/
theorem frameIdeal : Cert.quiescent_Kernel11Ideal (hKernel11Ideal := Cert.Kernel11Ideal.Gen.facts) :=
  fun m ρ _ => Cert.Kernel11Ideal.Gen.frame m ρ

/-- The reference runs and leaves its arguments as they were. -/
theorem frameRef : Cert.quiescent_Reference11Ideal (hReference11Ideal := Cert.Reference11Ideal.Gen.facts) := by
  intro m g _
  exact (θ_run Cert.Reference11Ideal.defs _ _).mono (fun r h => ⟨fun c => (h c).2.2.2,
    Idealize.ShloMosaic.sem_eq_zero_of_no_sems (by decide) r.2⟩) (Cert.Reference11Ideal.Value.run m g)

section
variable (x0 x1 x2 x3 : FVec Ideal Cert.Kernel11Ideal.S8192x1024 .f32) (x4 : FVec Ideal Cert.Kernel11Ideal.S3x1024 .f32)
  (x5 : FVec Ideal Cert.Kernel11Ideal.S1x1024 .f32) (x6 : FVec Ideal Cert.Kernel11Ideal.S3x1024 .f32)
  (r : Fin 8192) (j : Fin 1024)

/-- The reference's mean square. -/
theorem ref_ms : val_main_v9 (F := Ideal) x1 (ix2 r 0) = ms ((inOf x0 x1 x2 x3 x4 x5 x6).x r) := by
  pointwise [val_main_v9, val_main_v8, val_main_v7, val_main_v6, val_main_v5, val_main_v4, val_main_v3, val_main_cst_1, val_main_cst_0, val_main_cst]
  rfl

/-- The reference's inverse root mean square. -/
theorem ref_inv : val_main_v10 (F := Ideal) x1 (ix2 r 0) = inv ((inOf x0 x1 x2 x3 x4 x5 x6).x r) := by
  pointwise [val_main_v10, ref_ms x0 x1 x2 x3 x4 x5 x6]
  rfl

/-- The reference's normalised stream. -/
theorem ref_xh : val_main_v15 (F := Ideal) x1 (ix2 r j) = xh (inOf x0 x1 x2 x3 x4 x5 x6) r j := by
  pointwise [val_main_v15, val_main_v14, ref_inv x0 x1 x2 x3 x4 x5 x6]
  rfl

/-- The reference's gradient of the gained norm. -/
theorem ref_dn : val_main_v38 (F := Ideal) x0 x4 (ix2 r j) = dn (inOf x0 x1 x2 x3 x4 x5 x6) r j := by
  pointwise [val_main_v38, val_main_v31, val_main_v37, val_main_v19, val_main_v18, val_main_cst_3, val_main_v1]
  rfl

/-- The reference's gradient of the normalised stream. -/
theorem ref_da : val_main_v43 (F := Ideal) x0 x4 x5 (ix2 r j) = da (inOf x0 x1 x2 x3 x4 x5 x6) r j := by
  pointwise [val_main_v43, val_main_v42, ref_dn x0 x1 x2 x3 x4 x5 x6]
  rfl

/-- The reference's gradient of the squares. -/
theorem ref_w : val_main_v53 (F := Ideal) x0 x1 x4 x5 (ix1 r)
    = Ideal.div ((∑ k, (inOf x0 x1 x2 x3 x4 x5 x6).x r k * da (inOf x0 x1 x2 x3 x4 x5 x6) r k)
        * (mhalf * Ideal.div (inv ((inOf x0 x1 x2 x3 x4 x5 x6).x r)) (ms ((inOf x0 x1 x2 x3 x4 x5 x6).x r)))) len := by
  pointwise [val_main_v53, val_main_cst_10, val_main_v52, val_main_v51, val_main_cst_9, val_main_v50, val_main_v46, val_main_v45, val_main_cst_8,
    val_main_v44, val_main_v13, val_main_v12, val_main_cst_2, val_main_v11]
  rw [Fintype.sum_unique]
  simp only [ref_da x0 x1 x2 x3 x4 x5 x6, show (default : Fin 1) = 0 from rfl, ref_inv x0 x1 x2 x3 x4 x5 x6, ref_ms x0 x1 x2 x3 x4 x5 x6]
  rfl

/-- The reference's gradient of the stream. -/
theorem ref_dx : val_main_v58 (F := Ideal) x0 x1 x2 x4 x5 (ix2 r j) = dx (inOf x0 x1 x2 x3 x4 x5 x6) r j := by
  refine Eq.trans ?_ (dx_eq (inOf x0 x1 x2 x3 x4 x5 x6) r j)
  rw [← ref_w x0 x1 x2 x3 x4 x5 x6]
  pointwise [val_main_v58, val_main_v57, val_main_v56, val_main_v55, val_main_v54, val_main_v49, val_main_v48, val_main_v47,
    ref_da x0 x1 x2 x3 x4 x5 x6, ref_inv x0 x1 x2 x3 x4 x5 x6]
  rfl

/-- The reference's gradient of the sub-layer before. -/
theorem ref_dy : val_main_v72 (F := Ideal) x0 x1 x2 x4 x5 x6 (ix2 r j) = dy (inOf x0 x1 x2 x3 x4 x5 x6) r j := by
  pointwise [val_main_v72, val_main_v69, val_main_v68, val_main_v67, val_main_v62, val_main_v61, val_main_v60, val_main_cst_12,
    ref_dx x0 x1 x2 x3 x4 x5 x6]
  rfl

/-- The reference's gradients of the modulation and the gain. -/
theorem ref_stats (k : Fin 8) : val_main_v71 (F := Ideal) x0 x1 x2 x3 x4 x5 (ix2 k j) = stats (inOf x0 x1 x2 x3 x4 x5 x6) k j := by
  pointwise [val_main_v71]
  unfold stats stat
  have hk := k.isLt
  obtain h | h | h | h | h : k.val = 0 ∨ k.val = 1 ∨ k.val = 2 ∨ k.val = 3 ∨ 3 < k.val := by omega
  · simp only [h]
    pointwise [val_main_v33, val_main_v32, val_main_cst_5]
    rfl
  · simp only [h]
    pointwise [val_main_v36, val_main_v35, val_main_cst_6, val_main_v34, val_main_v31, val_main_v17, val_main_v16, ref_xh x0 x1 x2 x3 x4 x5 x6]
    exact Finset.sum_congr rfl fun r _ => mul_comm _ _
  · simp only [h]
    pointwise [val_main_v30, val_main_v29, val_main_cst_4, val_main_v28, val_main_v27]
    exact Finset.sum_congr rfl fun r _ => mul_comm _ _
  · simp only [h]
    pointwise [val_main_v41, val_main_v40, val_main_cst_7, val_main_v39, ref_xh x0 x1 x2 x3 x4 x5 x6, ref_dn x0 x1 x2 x3 x4 x5 x6]
    exact Finset.sum_congr rfl fun r _ => mul_comm _ _
  · simp only [show ¬ k.val = 0 by omega, show ¬ k.val = 1 by omega, show ¬ k.val = 2 by omega, show ¬ k.val = 3 by omega, if_false]
    rw [dif_neg (by omega), dif_neg (by omega), dif_neg (by omega), dif_neg (by omega)]
    pointwise [val_main_v70, val_main_cst_13]
    exact Finset.sum_const_zero.symm

end

/-- The kernel's three results are the reference's. -/
theorem value : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run m' g'
    · obtain ⟨h0, h1, h2, h3, h4, h5, h6⟩ := hagree c
      rw [Cert.Reference11Ideal.Read.val_main_v58_eq, h0, h1, h2, h4, h5]
      refine Eq.trans ?_ (final6 m c).symm
      funext i
      idx_vars i
      exact ref_dx _ _ _ (m ((c.tc : Thread Cert.Kernel11Ideal.nD Cert.Kernel11Ideal.τ).loc Cert.Kernel11Ideal.main_arg3)) _ _
        (m ((c.tc : Thread Cert.Kernel11Ideal.nD Cert.Kernel11Ideal.τ).loc Cert.Kernel11Ideal.main_arg6)) _ _
    · obtain ⟨h0, h1, h2, h3, h4, h5, h6⟩ := hagree c
      rw [h4, h5]
      refine (Cert.Reference11Ideal.Read.val_main_v71_eq (F := Ideal) _ _ _ _ _ _).trans (Eq.trans ?_ (final7 m c).symm)
      funext i
      idx_vars i
      exact ref_stats _ _ _ _ _ _ (m ((c.tc : Thread Cert.Kernel11Ideal.nD Cert.Kernel11Ideal.τ).loc Cert.Kernel11Ideal.main_arg6)) _ _
    · obtain ⟨h0, h1, h2, h3, h4, h5, h6⟩ := hagree c
      rw [Cert.Reference11Ideal.Read.val_main_v72_eq, h0, h1, h2, h4, h5, h6]
      refine Eq.trans ?_ (final8 m c).symm
      funext i
      idx_vars i
      exact ref_dy _ _ _ (m ((c.tc : Thread Cert.Kernel11Ideal.nD Cert.Kernel11Ideal.τ).loc Cert.Kernel11Ideal.main_arg3)) _ _ _ _ _

end Cert.Norm

end
-- ==== Proof.MixFwdSpec.lean ====
/-
  The forward pass of the mixing block with the norm that follows it, written over plain matrices of extended reals: what
  each of the nine arrays holds at a row and a column. Nothing here names a program.
-/
module

public import proofs.«01_k».proof.Proof.NormSpec

@[expose] public section

noncomputable section

namespace Cert.MixFwd

open Idealize.ShloMosaic

/-- What the forward pass is given, row by row and column by column. -/
structure In where
  /-- the residual stream -/
  x : Fin 8192 → Fin 1024 → EReal
  /-- the attention's output -/
  o : Fin 8192 → Fin 512 → EReal
  /-- the first factor of the convolution's input -/
  u : Fin 8192 → Fin 1024 → EReal
  /-- the gate of the convolution's output -/
  b : Fin 8192 → Fin 1024 → EReal
  /-- the second factor of the convolution's input -/
  c : Fin 8192 → Fin 1024 → EReal
  /-- the attention branch's gate, before the logistic function -/
  ga : Fin 8192 → Fin 1024 → EReal
  /-- the convolution branch's gate, before the logistic function -/
  gc : Fin 8192 → Fin 1024 → EReal
  /-- the residual gate -/
  gt : Fin 1024 → EReal
  /-- the next norm's shift -/
  sh : Fin 1024 → EReal
  /-- the next norm's scale -/
  sc : Fin 1024 → EReal
  /-- the next norm's gain -/
  gn : Fin 1024 → EReal
  /-- the convolution's taps -/
  cw : Fin 3 → Fin 1024 → EReal
  /-- the attention branch's weight -/
  wa : Fin 512 → Fin 1024 → EReal
  /-- the convolution branch's weight -/
  wc : Fin 1024 → Fin 1024 → EReal
  /-- the output's weight -/
  wo : Fin 1024 → Fin 1024 → EReal

variable (I : In)

/-- The convolution's input. -/
def xc (r : Fin 8192) (j : Fin 1024) : EReal := I.c r j * I.u r j
/-- The convolution's input `n` rows further up, zero before the first row. -/
def prev (n : ℕ) (r : Fin 8192) (j : Fin 1024) : EReal :=
  if n ≤ r.val then xc I ⟨r.val - n, lt_of_le_of_lt (Nat.sub_le _ _) r.isLt⟩ j else 0
/-- The convolution. -/
def conv (r : Fin 8192) (j : Fin 1024) : EReal := prev I 2 r j * I.cw 0 j + prev I 1 r j * I.cw 1 j + xc I r j * I.cw 2 j
/-- The gated convolution. -/
def gated (r : Fin 8192) (j : Fin 1024) : EReal := I.b r j * conv I r j
/-- The attention branch. -/
def ya (r : Fin 8192) (j : Fin 1024) : EReal := ∑ k : Fin 512, I.o r k * I.wa k j
/-- The convolution branch. -/
def yc (r : Fin 8192) (j : Fin 1024) : EReal := ∑ k : Fin 1024, gated I r k * I.wc k j
/-- The branches, each by its gate, added. -/
def merged (r : Fin 8192) (j : Fin 1024) : EReal :=
  Ideal.logistic (I.ga r j) * ya I r j + Ideal.logistic (I.gc r j) * yc I r j
/-- The block's output. -/
def z (r : Fin 8192) (j : Fin 1024) : EReal := ∑ k : Fin 1024, merged I r k * I.wo k j
/-- The residual stream after the block. -/
def after (r : Fin 8192) (j : Fin 1024) : EReal := I.x r j + I.gt j * z I r j
/-- The modulated norm of that stream. -/
def h (r : Fin 8192) (j : Fin 1024) : EReal :=
  after I r j * Cert.Norm.inv (after I r) * I.gn j * (1 + I.sc j) + I.sh j

end Cert.MixFwd

end
-- ==== Proof.MixFwd.lean ====
/-
  The kernel's call for the mixing block's forward pass, tile by tile: what the body computes at a row of its tile and a
  column is what `MixFwdSpec` names at that row of the whole array.
-/
module

public import proofs.«01_k».proof.Proof.Gen.Kernel12Ideal.Value
public import proofs.«01_k».proof.Proof.MixFwdSpec
public import proofs.«01_k».proof.Proof.Norm
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.MixFwd

open Idealize.ShloMosaic Idealize.ShloMosaic.TcCoe
open Cert.Kernel12Ideal Cert.Kernel12Ideal.Gen

section Tile

variable (I : In) (T : Fin 16)

/-- Row `p` of tile `T`. -/
abbrev row (T : Fin 16) (p : Fin 512) : Fin 8192 := Cert.Mix.row T p

/-- What the carry must hold in its last two rows: the convolution's input in the last rows of the tile before, zero
    before the first tile. -/
def edge (k : ℕ) (j : Fin 1024) : EReal :=
  if T.val = 0 then 0 else xc I ⟨(T.val * 512 + k - 8) % 8192, Nat.mod_lt _ (by decide)⟩ j

section Conv
variable (C U : FVec Ideal S512x1024 .bf16) (X : FVec Ideal S8x1024 .f32) (W : FVec Ideal S1x1024 .f32)
  (hc : ∀ p j, C (ix2 p j) = I.c (row T p) j) (hu : ∀ p j, U (ix2 p j) = I.u (row T p) j)
  (he : ∀ (k : Fin 8) (j : Fin 1024), 6 ≤ k.val → X (ix2 k j) = edge I T k.val j)
include hc hu

/-- A tile of the convolution's input. -/
theorem tile_xc (p : Fin 512) (j : Fin 1024) : k0_pay9 (F := Ideal) C U (ix2 p j) = xc I (row T p) j := by
  pointwise [k0_pay9, hc, hu]
  rfl

/-- What the tile leaves in the carry: its last rows. -/
theorem tile_carry (k : Fin 8) (j : Fin 1024) :
    k0_pay13 (F := Ideal) (k0_pay9 C U) (ix2 k j) = xc I (row T ⟨504 + k.val, by omega⟩) j := by
  pointwise [k0_pay13]
  exact tile_xc I T C U hc hu ⟨504 + k.val, by omega⟩ j

include he

/-- A tile of the first tap's term. -/
theorem tile_tap0 (hw : ∀ j, W (ix2 0 j) = I.cw 0 j) (p : Fin 512) (j : Fin 1024) :
    k0_pay10 (F := Ideal) C U X W (ix2 p j) = prev I 2 (row T p) j * I.cw 0 j := by
  pointwise [k0_pay10, hw]
  refine congrArg (· * _) ?_
  refine (Cert.Mix.select_row p 1 (by omega) _ _).trans ?_
  have hT := T.isLt
  have hp := p.isLt
  unfold prev
  by_cases h : p.val = 1
  · rw [if_pos h]
    refine (he 7 j (by decide)).trans ?_
    unfold edge
    by_cases h0 : T.val = 0
    · rw [if_pos h0, if_neg (by show ¬ 2 ≤ T.val * 512 + p.val; omega)]
    · rw [if_neg h0, if_pos (by show 2 ≤ T.val * 512 + p.val; omega)]
      refine congrArg (fun r => xc I r j) (Fin.ext ?_)
      show (T.val * 512 + 7 - 8) % 8192 = T.val * 512 + p.val - 2
      omega
  rw [if_neg h]
  refine (Cert.Mix.select_row p 0 (by omega) _ _).trans ?_
  by_cases h' : p.val = 0
  · rw [if_pos h']
    refine (he 6 j (by decide)).trans ?_
    unfold edge
    by_cases h0 : T.val = 0
    · rw [if_pos h0, if_neg (by show ¬ 2 ≤ T.val * 512 + p.val; omega)]
    · rw [if_neg h0, if_pos (by show 2 ≤ T.val * 512 + p.val; omega)]
      refine congrArg (fun r => xc I r j) (Fin.ext ?_)
      show (T.val * 512 + 6 - 8) % 8192 = T.val * 512 + p.val - 2
      omega
  · rw [if_neg h', if_pos (by show 2 ≤ T.val * 512 + p.val; omega)]
    refine (tile_xc I T C U hc hu _ j).trans ?_
    refine congrArg (fun r => xc I r j) (Fin.ext ?_)
    show T.val * 512 + (p.val + 512 - 2) % 512 = T.val * 512 + p.val - 2
    omega

/-- A tile of the middle tap's term. -/
theorem tile_tap1 (hw : ∀ j, W (ix2 0 j) = I.cw 1 j) (p : Fin 512) (j : Fin 1024) :
    k0_pay11 (F := Ideal) C U X W (ix2 p j) = prev I 1 (row T p) j * I.cw 1 j := by
  pointwise [k0_pay11, hw]
  refine congrArg (· * _) ?_
  refine (Cert.Mix.select_row p 0 (by omega) _ _).trans ?_
  have hT := T.isLt
  have hp := p.isLt
  unfold prev
  by_cases h : p.val = 0
  · rw [if_pos h]
    refine (he 7 j (by decide)).trans ?_
    unfold edge
    by_cases h0 : T.val = 0
    · rw [if_pos h0, if_neg (by show ¬ 1 ≤ T.val * 512 + p.val; omega)]
    · rw [if_neg h0, if_pos (by show 1 ≤ T.val * 512 + p.val; omega)]
      refine congrArg (fun r => xc I r j) (Fin.ext ?_)
      show (T.val * 512 + 7 - 8) % 8192 = T.val * 512 + p.val - 1
      omega
  · rw [if_neg h, if_pos (by show 1 ≤ T.val * 512 + p.val; omega)]
    refine (tile_xc I T C U hc hu _ j).trans ?_
    refine congrArg (fun r => xc I r j) (Fin.ext ?_)
    show T.val * 512 + (p.val + 512 - 1) % 512 = T.val * 512 + p.val - 1
    omega

end Conv

section Rest
variable (A D E : FVec Ideal S512x1024 .f32) (W : FVec Ideal S1x1024 .f32) (B GA : FVec Ideal S512x1024 .bf16)
  (O : FVec Ideal S512x512 .bf16) (WA : FVec Ideal S512x1024 .bf16) (WC WO : FVec Ideal S1024x1024 .bf16)

/-- A tile of the attention branch. -/
theorem tile_ya (ho : ∀ p j, O (ix2 p j) = I.o (row T p) j) (hw : ∀ k j, WA (ix2 k j) = I.wa k j) (p : Fin 512) (j : Fin 1024) :
    k0_pay15 (F := Ideal) O WA (ix2 p j) = ya I (row T p) j := by
  pointwise [k0_pay15, ho, hw]
  rfl

/-- A tile of the attention branch by its gate. -/
theorem tile_ga (ho : ∀ p j, O (ix2 p j) = I.o (row T p) j) (hw : ∀ k j, WA (ix2 k j) = I.wa k j)
    (hg : ∀ p j, GA (ix2 p j) = I.ga (row T p) j) (p : Fin 512) (j : Fin 1024) :
    k0_pay17 (F := Ideal) O WA GA (ix2 p j) = Ideal.logistic (I.ga (row T p) j) * ya I (row T p) j := by
  pointwise [k0_pay17, tile_ya I T O WA ho hw, hg]
  exact congrArg (· * _) (Cert.Mix.half_tanh _)

/-- A tile of the other gate, before the logistic function. -/
theorem tile_gc (hg : ∀ p j, GA (ix2 p j) = I.gc (row T p) j) (p : Fin 512) (j : Fin 1024) :
    k0_pay18 (F := Ideal) GA (ix2 p j) = I.gc (row T p) j := by
  pointwise [k0_pay18, hg]

section
variable (ha : ∀ p j, A (ix2 p j) = xc I (row T p) j) (hd : ∀ p j, D (ix2 p j) = prev I 2 (row T p) j * I.cw 0 j)
  (hE : ∀ p j, E (ix2 p j) = prev I 1 (row T p) j * I.cw 1 j) (hw : ∀ j, W (ix2 0 j) = I.cw 2 j)
include ha hd hE hw

/-- A tile of the convolution. -/
theorem tile_conv (p : Fin 512) (j : Fin 1024) : k0_pay12 (F := Ideal) A D E W (ix2 p j) = conv I (row T p) j := by
  pointwise [k0_pay12, ha, hd, hE, hw]
  rfl

variable (hb : ∀ p j, B (ix2 p j) = I.b (row T p) j)
include hb

/-- A tile of the gated convolution. -/
theorem tile_gated (p : Fin 512) (j : Fin 1024) : k0_pay14 (F := Ideal) A D E W B (ix2 p j) = gated I (row T p) j := by
  pointwise [k0_pay14, tile_conv I T A D E W ha hd hE hw, hb]
  rfl

/-- A tile of the convolution branch. -/
theorem tile_yc (hc : ∀ k j, WC (ix2 k j) = I.wc k j) (p : Fin 512) (j : Fin 1024) :
    k0_pay16 (F := Ideal) A D E W B WC (ix2 p j) = yc I (row T p) j := by
  pointwise [k0_pay16, tile_gated I T A D E W B ha hd hE hw hb, hc]
  rfl

end

section
variable (XR : FVec Ideal S512x1024 .f32) (GT GN SC SH : FVec Ideal S1x1024 .f32)
  (ha : ∀ p j, A (ix2 p j) = yc I (row T p) j) (hd : ∀ p j, D (ix2 p j) = Ideal.logistic (I.ga (row T p) j) * ya I (row T p) j)
  (hE : ∀ p j, E (ix2 p j) = I.gc (row T p) j)
include ha hd hE

/-- A tile of the merged branches. -/
theorem tile_merged (p : Fin 512) (j : Fin 1024) :
    k0_pay19 (F := Ideal) A D E (Ideal.ofBits .f32 0x3F000000#32) (ix2 p j) = merged I (row T p) j := by
  pointwise [k0_pay19, ha, hd, hE]
  exact congrArg (fun y => _ + y * _) (Cert.Mix.half_tanh _)

variable (ho : ∀ k j, WO (ix2 k j) = I.wo k j)
include ho

/-- A tile of the block's output. -/
theorem tile_z (p : Fin 512) (j : Fin 1024) :
    k0_pay20 (F := Ideal) A D E (Ideal.ofBits .f32 0x3F000000#32) WO (ix2 p j) = z I (row T p) j := by
  pointwise [k0_pay20, tile_merged I T A D E ha hd hE, ho]
  rfl

variable (hx : ∀ p j, XR (ix2 p j) = I.x (row T p) j) (hg : ∀ j, GT (ix2 0 j) = I.gt j)
include hx hg

/-- A tile of the stream after the block. -/
theorem tile_after (p : Fin 512) (j : Fin 1024) :
    k0_pay21 (F := Ideal) A D E (Ideal.ofBits .f32 0x3F000000#32) WO XR GT (ix2 p j) = after I (row T p) j := by
  pointwise [k0_pay21, tile_z I T A D E WO ha hd hE ho, hx, hg]
  rfl

variable (hn : ∀ j, GN (ix2 0 j) = I.gn j) (hs : ∀ j, SC (ix2 0 j) = I.sc j) (hh : ∀ j, SH (ix2 0 j) = I.sh j)
include hn hs

/-- A tile of the scaled norm. -/
theorem tile_scaled (p : Fin 512) (j : Fin 1024) :
    k0_pay22 (F := Ideal) A D E (Ideal.ofBits .f32 0x3F000000#32) WO XR GT GN SC (ix2 p j)
      = after I (row T p) j * Cert.Norm.inv (after I (row T p)) * I.gn j * (1 + I.sc j) := by
  pointwise [k0_pay22, tile_after I T A D E WO XR GT ha hd hE ho hx hg, hn, hs]
  rfl

include hh

/-- A tile of the modulated norm. -/
theorem tile_h (p : Fin 512) (j : Fin 1024) :
    k0_pay1 (F := Ideal) (k0_pay22 A D E (Ideal.ofBits .f32 0x3F000000#32) WO XR GT GN SC) SH (ix2 p j) = h I (row T p) j := by
  pointwise [k0_pay1, tile_scaled I T A D E WO XR GT GN SC ha hd hE ho hx hg hn hs, hh]
  rfl

end

end Rest

end Tile

variable (m : (ℓ : Loc nD τ sig) → Buf (Elt Ideal) ℓ) (c : Dev nD)

/-- The forward pass's inputs at the program's arguments: the five gates are the projection's column blocks, and the
    modulation's rows are the next norm's shift and scale and the block's residual gate. -/
def inOf (x0 : FVec Ideal S8192x1024 .f32) (x1 : FVec Ideal S8192x512 .f32) (x2 : FVec Ideal S8192x5120 .f32)
    (x3 x5 : FVec Ideal S3x1024 .f32) (x6 : FVec Ideal S1x1024 .f32) (x7 : FVec Ideal S3x1024 .f32)
    (x8 : FVec Ideal S512x1024 .f32) (x9 x10 : FVec Ideal S1024x1024 .f32) : In where
  x r j := x0 (ix2 r j)
  o r j := x1 (ix2 r j)
  u r j := x2 (ix2 r ⟨j.val, by omega⟩)
  b r j := x2 (ix2 r ⟨1024 + j.val, by omega⟩)
  c r j := x2 (ix2 r ⟨2048 + j.val, by omega⟩)
  ga r j := x2 (ix2 r ⟨3072 + j.val, by omega⟩)
  gc r j := x2 (ix2 r ⟨4096 + j.val, by omega⟩)
  gt j := x3 (ix2 2 j)
  sh j := x5 (ix2 0 j)
  sc j := x5 (ix2 1 j)
  gn j := x6 (ix2 0 j)
  cw k j := x7 (ix2 k j)
  wa k j := x8 (ix2 k j)
  wc k j := x9 (ix2 k j)
  wo k j := x10 (ix2 k j)

/-- The inputs at the kernel program's arguments. -/
def inK : In :=
  inOf (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- The tile a grid point works on. -/
def tile (t : Fin cfg0.N) : Fin 16 := ⟨t.val, lt_of_lt_of_eq t.isLt N_0⟩

/-- Which blocks point `t` reads and which it writes. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 2] ∧ win0_5.index t = ![t.val, 3]
    ∧ win0_6.index t = ![t.val, 4] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0]
    ∧ win0_14.index t = ![t.val, 0] ∧ win0_15.index t = ![t.val, 0] ∧ win0_16.index t = ![t.val, 0]
    ∧ win0_17.index t = ![t.val, 0] ∧ win0_18.index t = ![t.val, 0] ∧ win0_19.index t = ![t.val, 0]
    ∧ win0_20.index t = ![t.val, 0] ∧ win0_21.index t = ![0, t.val] :=
  (by decide +kernel : ∀ t : Fin grid0.N, _)

/-- The attention's output is handed over as it is. -/
theorem V_13 : V m c main_v13 = m ((c : Thread nD τ).loc main_arg1) := by
  entry_read
  rfl

/-- The projection is handed over as it is. -/
theorem V_14 : V m c main_v14 = m ((c : Thread nD τ).loc main_arg2) := by
  entry_read
  rfl

/-- The attention branch's weight is handed over as it is. -/
theorem V_15 : V m c main_v15 = m ((c : Thread nD τ).loc main_arg8) := by
  entry_read
  rfl

/-- The convolution branch's weight is handed over as it is. -/
theorem V_16 : V m c main_v16 = m ((c : Thread nD τ).loc main_arg9) := by
  entry_read
  rfl

/-- The output's weight is handed over as it is. -/
theorem V_17 : V m c main_v17 = m ((c : Thread nD τ).loc main_arg10) := by
  entry_read
  rfl

/-- Row 2 of the modulation array is the residual gate. -/
theorem V_gate (j : Fin 1024) : V m c main_v4 (ix2 (2 : Fin 8) j) = (inK m c).gt j := by
  entry_read
  exact (Cert.Mix.set1 _ _ (by rfl) _ _ _ (by decide)).trans (Cert.Mix.set3 _ _ (by rfl) _ (2 : Fin 8) (2 : Fin 3) j rfl)

/-- Row 0 of the next modulation array is the shift. -/
theorem V_shift (j : Fin 1024) : V m c main_v9 (ix2 (0 : Fin 8) j) = (inK m c).sh j := by
  entry_read
  exact (Cert.Mix.set1 _ _ (by rfl) _ _ _ (by decide)).trans (Cert.Mix.set3 _ _ (by rfl) _ (0 : Fin 8) (0 : Fin 3) j rfl)

/-- Row 1 is the scale. -/
theorem V_scale (j : Fin 1024) : V m c main_v9 (ix2 (1 : Fin 8) j) = (inK m c).sc j := by
  entry_read
  exact (Cert.Mix.set1 _ _ (by rfl) _ _ _ (by decide)).trans (Cert.Mix.set3 _ _ (by rfl) _ (1 : Fin 8) (1 : Fin 3) j rfl)

/-- Row 3 is the gain. -/
theorem V_gain (j : Fin 1024) : V m c main_v9 (ix2 (3 : Fin 8) j) = (inK m c).gn j := by
  entry_read
  exact Cert.Norm.set_gain _ _ (by rfl) _ _

/-- The first three rows of the taps' array are the taps. -/
theorem V_tap (r : Fin 8) (k : Fin 3) (hk : k.val = r.val) (j : Fin 1024) : V m c main_v12 (ix2 r j) = (inK m c).cw k j := by
  entry_read
  exact Cert.Mix.set3 _ _ (by rfl) _ r k j hk

variable (t : Fin cfg0.N) (p : Fin 512) (j : Fin 1024)

/-- The point's block of the stream. -/
theorem blk0 : iblk m c 0 t (ix2 p j) = (inK m c).x (row (tile t) p) j := by
  pointwise [inK, inOf, row, Cert.Mix.row, tile]
  blk_point [iblk, V, idx t]

/-- The point's block of the attention's output. -/
theorem blk1 (q : Fin 512) : iblk m c 1 t (ix2 p q) = (inK m c).o (row (tile t) p) q := by
  simp only [inK, inOf, row, Cert.Mix.row, tile, ← V_13]
  blk_ext [iblk, idx t]

/-- The point's block of the convolution's first factor. -/
theorem blk2 : iblk m c 2 t (ix2 p j) = (inK m c).u (row (tile t) p) j := by
  simp only [inK, inOf, row, Cert.Mix.row, tile, ← V_14]
  blk_ext [iblk, idx t]

/-- The point's block of the convolution's gate. -/
theorem blk3 : iblk m c 3 t (ix2 p j) = (inK m c).b (row (tile t) p) j := by
  simp only [inK, inOf, row, Cert.Mix.row, tile, ← V_14]
  blk_ext [iblk, idx t]

/-- The point's block of the convolution's second factor. -/
theorem blk4 : iblk m c 4 t (ix2 p j) = (inK m c).c (row (tile t) p) j := by
  simp only [inK, inOf, row, Cert.Mix.row, tile, ← V_14]
  blk_ext [iblk, idx t]

/-- The point's block of the attention branch's gate. -/
theorem blk5 : iblk m c 5 t (ix2 p j) = (inK m c).ga (row (tile t) p) j := by
  simp only [inK, inOf, row, Cert.Mix.row, tile, ← V_14]
  blk_ext [iblk, idx t]

/-- The point's block of the convolution branch's gate. -/
theorem blk6 : iblk m c 6 t (ix2 p j) = (inK m c).gc (row (tile t) p) j := by
  simp only [inK, inOf, row, Cert.Mix.row, tile, ← V_14]
  blk_ext [iblk, idx t]

/-- The attention branch's weight, whole at every point. -/
theorem blk10 (k : Fin 512) : iblk m c 10 t (ix2 k j) = (inK m c).wa k j := by
  simp only [inK, inOf, ← V_15]
  blk_ext [iblk, idx t]

/-- The convolution branch's weight, whole at every point. -/
theorem blk11 (k : Fin 1024) : iblk m c 11 t (ix2 k j) = (inK m c).wc k j := by
  simp only [inK, inOf, ← V_16]
  blk_ext [iblk, idx t]

/-- The output's weight, whole at every point. -/
theorem blk12 (k : Fin 1024) : iblk m c 12 t (ix2 k j) = (inK m c).wo k j := by
  simp only [inK, inOf, ← V_17]
  blk_ext [iblk, idx t]

/-- The residual gate as the point loads it. -/
theorem gate_at : View.ld (iblk m c 7 t) (Rect.unit ![2, 0] ![1, 1024] inb_S8x1024_S1x1024_2_0) (ix2 (0 : Fin 1) j) = (inK m c).gt j := by
  refine (Cert.Mix.ld_row 2 _ (iblk m c 7 t) 2 rfl j).trans (Eq.trans ?_ (V_gate m c j))
  blk_simp [iblk, idx t]
  generalize V m c main_v4 = X
  blk_ext [idx t]

/-- The shift as the point loads it. -/
theorem shift_at : View.ld (iblk m c 8 t) (Rect.unit ![0, 0] ![1, 1024] inb_S8x1024_S1x1024_0_0) (ix2 (0 : Fin 1) j) = (inK m c).sh j := by
  refine (Cert.Mix.ld_row 0 _ (iblk m c 8 t) 0 rfl j).trans (Eq.trans ?_ (V_shift m c j))
  blk_simp [iblk, idx t]
  generalize V m c main_v9 = X
  blk_ext [idx t]

/-- The scale as the point loads it. -/
theorem scale_at : View.ld (iblk m c 8 t) (Rect.unit ![1, 0] ![1, 1024] inb_S8x1024_S1x1024_1_0) (ix2 (0 : Fin 1) j) = (inK m c).sc j := by
  refine (Cert.Mix.ld_row 1 _ (iblk m c 8 t) 1 rfl j).trans (Eq.trans ?_ (V_scale m c j))
  blk_simp [iblk, idx t]
  generalize V m c main_v9 = X
  blk_ext [idx t]

/-- The gain as the point loads it. -/
theorem gain_at : View.ld (iblk m c 8 t) (Rect.unit ![3, 0] ![1, 1024] inb_S8x1024_S1x1024_3_0) (ix2 (0 : Fin 1) j) = (inK m c).gn j := by
  refine (Cert.Mix.ld_row 3 _ (iblk m c 8 t) 3 rfl j).trans (Eq.trans ?_ (V_gain m c j))
  blk_simp [iblk, idx t]
  generalize V m c main_v9 = X
  blk_ext [idx t]

/-- A row of the taps' array as the point loads it. -/
theorem tap_at (o : ℕ) (inb : ∀ a : Fin 2, (![o, 0] : Fin 2 → ℕ) a + (![1, 1024] : Fin 2 → ℕ) a ≤ S8x1024.size a)
    (r : Fin 8) (k : Fin 3) (hr : r.val = o) (hk : k.val = r.val) :
    View.ld (Val := Elt Ideal) (e' := .f32) (iblk m c 9 t) (Rect.unit (s := S8x1024) ![o, 0] ![1, 1024] inb) (ix2 (0 : Fin 1) j) = (inK m c).cw k j := by
  refine (Cert.Mix.ld_row o _ (iblk m c 9 t) r hr j).trans (Eq.trans ?_ (V_tap m c r k hk j))
  blk_simp [iblk, idx t]
  generalize V m c main_v12 = X
  blk_ext [idx t]

end Cert.MixFwd

end
-- ==== Proof.MixFwdPoint.lean ====
/-
  What one grid point of the mixing block's forward call leaves, and from that what the call returns.
-/
module

public import proofs.«01_k».proof.Proof.MixFwd

@[expose] public section

set_option maxRecDepth 16384

noncomputable section

namespace Cert.MixFwd

open Idealize.ShloMosaic Idealize.ShloMosaic.TcCoe
open Cert.Kernel12Ideal Cert.Kernel12Ideal.Gen

variable (m : (ℓ : Loc nD τ sig) → Buf (Elt Ideal) ℓ) (c : Dev nD) (t : Fin cfg0.N)

/-- The modulated norm, stored as it is. -/
theorem store_h (A : FVec Ideal S512x1024 .f32) (W : FVec Ideal S1x1024 .f32) (f : Fin 512 → Fin 1024 → EReal)
    (e : ∀ p j, k0_pay1 (F := Ideal) A W (ix2 p j) = f p j) (p : Fin 512) (j : Fin 1024) : k0_pay2 (F := Ideal) A W (ix2 p j) = f p j := by
  pointwise [k0_pay2, e]

/-- The modulated norm, stored transposed. -/
theorem store_ht (A : FVec Ideal S512x1024 .f32) (W : FVec Ideal S1x1024 .f32) (f : Fin 512 → Fin 1024 → EReal)
    (e : ∀ p j, k0_pay1 (F := Ideal) A W (ix2 p j) = f p j) (p : Fin 512) (j : Fin 1024) : k0_pay3 (F := Ideal) A W (ix2 j p) = f p j := by
  pointwise [k0_pay3, e]

/-- After any point the carry holds the last rows of the point's tile. -/
theorem carry_at (k : Fin 8) (j : Fin 1024) :
    (outsAt0 m c t.val t.isLt).2.2.2.2.2.2.2.2.2 (ix2 k j) = xc (inK m c) (row (tile t) ⟨504 + k.val, by omega⟩) j := by
  by_cases h : t.val % 16 = 0
  · rw [outsAt0_A m c t h]; frame_out
    exact tile_carry (inK m c) (tile t) _ _ (blk4 m c t) (blk2 m c t) k j
  · rw [outsAt0_B m c t h]; frame_out
    exact tile_carry (inK m c) (tile t) _ _ (blk4 m c t) (blk2 m c t) k j

/-- What the first point finds in the carry: zero, as before the first row. -/
theorem first_at (h : t.val % 16 = 0) (k : Fin 8) (j : Fin 1024) (_ : 6 ≤ k.val) :
    k0_pay8 (F := Ideal) (ix2 k j) = edge (inK m c) (tile t) k.val j := by
  have ht : t.val < 16 := lt_of_lt_of_eq t.isLt N_0
  pointwise [k0_pay8]
  unfold edge tile
  rw [if_pos (by show t.val = 0; omega)]

/-- What a later point finds in the carry: the last rows of the tile before its own. -/
theorem prev_at (h : ¬ t.val % 16 = 0) (k : Fin 8) (j : Fin 1024) (_ : 6 ≤ k.val) :
    (outsAt0 m c (t.val - 1) (Nat.lt_of_le_of_lt (Nat.sub_le _ _) t.isLt)).2.2.2.2.2.2.2.2.2 (ix2 k j)
      = edge (inK m c) (tile t) k.val j := by
  have ht : t.val < 16 := lt_of_lt_of_eq t.isLt N_0
  refine (carry_at m c ⟨t.val - 1, Nat.lt_of_le_of_lt (Nat.sub_le _ _) t.isLt⟩ k j).trans ?_
  unfold edge tile
  rw [if_neg (by show ¬ t.val = 0; omega)]
  refine congrArg (fun r => xc (inK m c) r j) (Fin.ext ?_)
  show (t.val - 1) * 512 + (504 + k.val) = (t.val * 512 + k.val - 8) % 8192
  have := k.isLt
  omega

set_option maxHeartbeats 1000000 in
/-- A point leaves, of each of the nine results, the rows of its tile. -/
theorem outs_at (p : Fin 512) (j : Fin 1024) :
    (outsAt0 m c t.val t.isLt).1 (ix2 p j) = after (inK m c) (row (tile t) p) j
      ∧ (outsAt0 m c t.val t.isLt).2.1 (ix2 p j) = z (inK m c) (row (tile t) p) j
      ∧ (outsAt0 m c t.val t.isLt).2.2.1 (ix2 p j) = ya (inK m c) (row (tile t) p) j
      ∧ (outsAt0 m c t.val t.isLt).2.2.2.1 (ix2 p j) = yc (inK m c) (row (tile t) p) j
      ∧ (outsAt0 m c t.val t.isLt).2.2.2.2.1 (ix2 p j) = conv (inK m c) (row (tile t) p) j
      ∧ (outsAt0 m c t.val t.isLt).2.2.2.2.2.1 (ix2 p j) = gated (inK m c) (row (tile t) p) j
      ∧ (outsAt0 m c t.val t.isLt).2.2.2.2.2.2.1 (ix2 p j) = merged (inK m c) (row (tile t) p) j
      ∧ (outsAt0 m c t.val t.isLt).2.2.2.2.2.2.2.1 (ix2 p j) = h (inK m c) (row (tile t) p) j
      ∧ (outsAt0 m c t.val t.isLt).2.2.2.2.2.2.2.2.1 (ix2 j p) = h (inK m c) (row (tile t) p) j := by
  have ex := tile_xc (inK m c) (tile t) _ _ (blk4 m c t) (blk2 m c t)
  have e0 := fun X he => tile_tap0 (inK m c) (tile t) _ _ X _ (blk4 m c t) (blk2 m c t) he
    (fun j => tap_at m c t j 0 inb_S8x1024_S1x1024_0_0 0 0 rfl rfl)
  have e1 := fun X he => tile_tap1 (inK m c) (tile t) _ _ X _ (blk4 m c t) (blk2 m c t) he
    (fun j => tap_at m c t j 1 inb_S8x1024_S1x1024_1_0 1 1 rfl rfl)
  have e2 := fun j => tap_at m c t j 2 inb_S8x1024_S1x1024_2_0 2 2 rfl rfl
  have ecv := fun X he => tile_conv (inK m c) (tile t) _ _ _ _ ex (e0 X he) (e1 X he) e2
  have egt := fun X he => tile_gated (inK m c) (tile t) _ _ _ _ _ ex (e0 X he) (e1 X he) e2 (blk3 m c t)
  have eyc := fun X he => tile_yc (inK m c) (tile t) _ _ _ _ _ _ ex (e0 X he) (e1 X he) e2 (blk3 m c t) (fun k j => blk11 m c t j k)
  have eya := tile_ya (inK m c) (tile t) _ _ (blk1 m c t) (fun k j => blk10 m c t j k)
  have ega := tile_ga (inK m c) (tile t) _ _ _ (blk1 m c t) (fun k j => blk10 m c t j k) (blk5 m c t)
  have egc := tile_gc (inK m c) (tile t) _ (blk6 m c t)
  have emg := fun X he => tile_merged (inK m c) (tile t) _ _ _ (eyc X he) ega egc
  have ez := fun X he => tile_z (inK m c) (tile t) _ _ _ _ (eyc X he) ega egc (fun k j => blk12 m c t j k)
  have eaf := fun X he => tile_after (inK m c) (tile t) _ _ _ _ _ _ (eyc X he) ega egc (fun k j => blk12 m c t j k) (blk0 m c t) (gate_at m c t)
  have eh := fun X he => tile_h (inK m c) (tile t) _ _ _ _ _ _ _ _ _ (eyc X he) ega egc (fun k j => blk12 m c t j k) (blk0 m c t) (gate_at m c t)
    (gain_at m c t) (scale_at m c t) (shift_at m c t)
  by_cases hp : t.val % 16 = 0
  · have he := first_at m c t hp
    refine ⟨?_, ?_, ?_, ?_, ?_, ?_, ?_, ?_, ?_⟩
    all_goals rw [outsAt0_A m c t hp]; frame_out
    all_goals try simp (disch := decide) only [↓ View.readCov_skip, ↓ View.readCov_fill]
    · exact eaf _ he p j
    · exact ez _ he p j
    · exact eya p j
    · exact eyc _ he p j
    · exact ecv _ he p j
    · exact egt _ he p j
    · exact emg _ he p j
    · exact store_h _ _ _ (eh _ he) p j
    · exact store_ht _ _ _ (eh _ he) p j
  · have he := prev_at m c t hp
    refine ⟨?_, ?_, ?_, ?_, ?_, ?_, ?_, ?_, ?_⟩
    all_goals rw [outsAt0_B m c t hp]; frame_out
    all_goals try simp only [read_unread_whole]
    · exact eaf _ he p j
    · exact ez _ he p j
    · exact eya p j
    · exact eyc _ he p j
    · exact ecv _ he p j
    · exact egt _ he p j
    · exact emg _ he p j
    · exact store_h _ _ _ (eh _ he) p j
    · exact store_ht _ _ _ (eh _ he) p j

/-- The stream after the block. -/
theorem final13 : (dats m 0 c).arrAt 13 cfg0.N = fun i => after (inK m c) (i 0) (i 1) := by
  refine (dats m 0 c).arrAt_eq_of_covers 13 _ (by decide +kernel) fun t hf y => ?_
  blk_simp
  rw [after0_13]
  idx_vars y
  refine (outs_at m c t _ _).1.trans (congrArg₂ (after (inK m c)) (Fin.ext ?_) (Fin.ext ?_))
  · simp only [row, Cert.Mix.row, tile]
    blk_simp [idx t]
  · blk_simp [idx t]

/-- The block's output. -/
theorem final14 : (dats m 0 c).arrAt 14 cfg0.N = fun i => z (inK m c) (i 0) (i 1) := by
  refine (dats m 0 c).arrAt_eq_of_covers 14 _ (by decide +kernel) fun t hf y => ?_
  blk_simp
  rw [after0_14]
  idx_vars y
  refine (outs_at m c t _ _).2.1.trans (congrArg₂ (z (inK m c)) (Fin.ext ?_) (Fin.ext ?_))
  · simp only [row, Cert.Mix.row, tile]
    blk_simp [idx t]
  · blk_simp [idx t]

/-- The attention branch. -/
theorem final15 : (dats m 0 c).arrAt 15 cfg0.N = fun i => ya (inK m c) (i 0) (i 1) := by
  refine (dats m 0 c).arrAt_eq_of_covers 15 _ (by decide +kernel) fun t hf y => ?_
  blk_simp
  rw [after0_15]
  idx_vars y
  refine (outs_at m c t _ _).2.2.1.trans (congrArg₂ (ya (inK m c)) (Fin.ext ?_) (Fin.ext ?_))
  · simp only [row, Cert.Mix.row, tile]
    blk_simp [idx t]
  · blk_simp [idx t]

/-- The convolution branch. -/
theorem final16 : (dats m 0 c).arrAt 16 cfg0.N = fun i => yc (inK m c) (i 0) (i 1) := by
  refine (dats m 0 c).arrAt_eq_of_covers 16 _ (by decide +kernel) fun t hf y => ?_
  blk_simp
  rw [after0_16]
  idx_vars y
  refine (outs_at m c t _ _).2.2.2.1.trans (congrArg₂ (yc (inK m c)) (Fin.ext ?_) (Fin.ext ?_))
  · simp only [row, Cert.Mix.row, tile]
    blk_simp [idx t]
  · blk_simp [idx t]

/-- The convolution. -/
theorem final17 : (dats m 0 c).arrAt 17 cfg0.N = fun i => conv (inK m c) (i 0) (i 1) := by
  refine (dats m 0 c).arrAt_eq_of_covers 17 _ (by decide +kernel) fun t hf y => ?_
  blk_simp
  rw [after0_17]
  idx_vars y
  refine (outs_at m c t _ _).2.2.2.2.1.trans (congrArg₂ (conv (inK m c)) (Fin.ext ?_) (Fin.ext ?_))
  · simp only [row, Cert.Mix.row, tile]
    blk_simp [idx t]
  · blk_simp [idx t]

/-- The gated convolution. -/
theorem final18 : (dats m 0 c).arrAt 18 cfg0.N = fun i => gated (inK m c) (i 0) (i 1) := by
  refine (dats m 0 c).arrAt_eq_of_covers 18 _ (by decide +kernel) fun t hf y => ?_
  blk_simp
  rw [after0_18]
  idx_vars y
  refine (outs_at m c t _ _).2.2.2.2.2.1.trans (congrArg₂ (gated (inK m c)) (Fin.ext ?_) (Fin.ext ?_))
  · simp only [row, Cert.Mix.row, tile]
    blk_simp [idx t]
  · blk_simp [idx t]

/-- The merged branches. -/
theorem final19 : (dats m 0 c).arrAt 19 cfg0.N = fun i => merged (inK m c) (i 0) (i 1) := by
  refine (dats m 0 c).arrAt_eq_of_covers 19 _ (by decide +kernel) fun t hf y => ?_
  blk_simp
  rw [after0_19]
  idx_vars y
  refine (outs_at m c t _ _).2.2.2.2.2.2.1.trans (congrArg₂ (merged (inK m c)) (Fin.ext ?_) (Fin.ext ?_))
  · simp only [row, Cert.Mix.row, tile]
    blk_simp [idx t]
  · blk_simp [idx t]

/-- The modulated norm. -/
theorem final20 : (dats m 0 c).arrAt 20 cfg0.N = fun i => h (inK m c) (i 0) (i 1) := by
  refine (dats m 0 c).arrAt_eq_of_covers 20 _ (by decide +kernel) fun t hf y => ?_
  blk_simp
  rw [after0_20]
  idx_vars y
  refine (outs_at m c t _ _).2.2.2.2.2.2.2.1.trans (congrArg₂ (h (inK m c)) (Fin.ext ?_) (Fin.ext ?_))
  · simp only [row, Cert.Mix.row, tile]
    blk_simp [idx t]
  · blk_simp [idx t]

/-- The modulated norm transposed. -/
theorem final21 : (dats m 0 c).arrAt 21 cfg0.N = fun i => h (inK m c) (i 1) (i 0) := by
  refine (dats m 0 c).arrAt_eq_of_covers 21 _ (by decide +kernel) fun t hf y => ?_
  blk_simp
  rw [after0_21]
  idx_vars y
  refine (outs_at m c t _ _).2.2.2.2.2.2.2.2.trans (congrArg₂ (h (inK m c)) (Fin.ext ?_) (Fin.ext ?_))
  · simp only [row, Cert.Mix.row, tile]
    blk_simp [idx t]
  · blk_simp [idx t]

end Cert.MixFwd

end
-- ==== Proof.MixFwdClaim.lean ====
/-
  The claims about the mixing block's forward call.
-/
module

public import proofs.«01_k».proof.Defs
public import proofs.«01_k».proof.Proof.Gen.Kernel12.Frame
public import proofs.«01_k».proof.Proof.Gen.Reference12Ideal.Read
public import proofs.«01_k».proof.Proof.MixFwdPoint

@[expose] public section

set_option maxRecDepth 16384

noncomputable section

namespace Cert.MixFwd

open Idealize.ShloMosaic Idealize.ShloMosaic.TcCoe
open Cert.Reference12Ideal.Read

/-- The kernel as written runs and leaves its arguments as they were. -/
theorem frame : Cert.quiescent_Kernel12 (hKernel12 := Cert.Kernel12.Gen.facts) := fun m ρ _ => Cert.Kernel12.Gen.frame m ρ

/-- The kernel over the reals runs and leaves its arguments as they were. -/
theorem frameIdeal : Cert.quiescent_Kernel12Ideal (hKernel12Ideal := Cert.Kernel12Ideal.Gen.facts) :=
  fun m ρ _ => Cert.Kernel12Ideal.Gen.frame m ρ

/-- The reference runs and leaves its arguments as they were. -/
theorem frameRef : Cert.quiescent_Reference12Ideal (hReference12Ideal := Cert.Reference12Ideal.Gen.facts) := by
  intro m g _
  exact (θ_run Cert.Reference12Ideal.defs _ _).mono (fun r h => ⟨fun c => (h c).2.2.2.2.2.2.2.2.2,
    Idealize.ShloMosaic.sem_eq_zero_of_no_sems (by decide) r.2⟩) (Cert.Reference12Ideal.Value.run m g)

section
variable (x0 : FVec Ideal Cert.Kernel12Ideal.S8192x1024 .f32) (x1 : FVec Ideal Cert.Kernel12Ideal.S8192x512 .f32)
  (x2 : FVec Ideal Cert.Kernel12Ideal.S8192x5120 .f32) (x3 x5 : FVec Ideal Cert.Kernel12Ideal.S3x1024 .f32)
  (x6 : FVec Ideal Cert.Kernel12Ideal.S1x1024 .f32) (x7 : FVec Ideal Cert.Kernel12Ideal.S3x1024 .f32)
  (x8 : FVec Ideal Cert.Kernel12Ideal.S512x1024 .f32) (x9 x10 : FVec Ideal Cert.Kernel12Ideal.S1024x1024 .f32)
  (r : Fin 8192) (j : Fin 1024)

/-- The reference's input of the convolution. -/
theorem ref_xc : val_main_v6 (F := Ideal) x2 (ix2 r j) = xc (inOf x0 x1 x2 x3 x5 x6 x7 x8 x9 x10) r j := by
  pointwise [val_main_v6, val_main_v2, val_main_v0]
  rfl

/-- That input two rows up. -/
theorem ref_prev2 : val_main_v9 (F := Ideal) x2 (ix2 r j) = prev (inOf x0 x1 x2 x3 x5 x6 x7 x8 x9 x10) 2 r j := by
  pointwise [val_main_v9, val_main_v8, val_main_v7, val_main_cst]
  unfold prev
  by_cases h : 2 ≤ r.val
  · rw [if_pos h, dif_neg (by omega)]
    exact ref_xc x0 x1 x2 x3 x5 x6 x7 x8 x9 x10 _ j
  · rw [if_neg h, dif_pos (by omega)]

/-- That input one row up. -/
theorem ref_prev1 : val_main_v15 (F := Ideal) x2 (ix2 r j) = prev (inOf x0 x1 x2 x3 x5 x6 x7 x8 x9 x10) 1 r j := by
  pointwise [val_main_v15, val_main_v8, val_main_v7, val_main_cst]
  unfold prev
  by_cases h : 1 ≤ r.val
  · rw [if_pos h, dif_neg (by omega)]
    refine (ref_xc x0 x1 x2 x3 x5 x6 x7 x8 x9 x10 _ j).trans (congrArg (fun q => xc _ q j) (Fin.ext ?_))
    show 1 + r.val - 2 = r.val - 1
    omega
  · rw [if_neg h, dif_pos (by omega)]

/-- That input in its own row. -/
theorem ref_prev0 : val_main_v22 (F := Ideal) x2 (ix2 r j) = xc (inOf x0 x1 x2 x3 x5 x6 x7 x8 x9 x10) r j := by
  pointwise [val_main_v22, val_main_v8]
  refine (ref_xc x0 x1 x2 x3 x5 x6 x7 x8 x9 x10 _ j).trans (congrArg (fun q => xc _ q j) (Fin.ext ?_))
  show _ = r.val
  omega

/-- The reference's convolution. -/
theorem ref_conv : val_main_v28 (F := Ideal) x2 x7 (ix2 r j) = conv (inOf x0 x1 x2 x3 x5 x6 x7 x8 x9 x10) r j := by
  pointwise [val_main_v28, val_main_v27, val_main_v26, val_main_v25, val_main_v24, val_main_v23, val_main_v21, val_main_v20, val_main_v19, val_main_v18,
    val_main_v17, val_main_v16, val_main_v14, val_main_v13, val_main_v12, val_main_v11, val_main_v10, ref_prev0 x0 x1 x2 x3 x5 x6 x7 x8 x9 x10,
    ref_prev1 x0 x1 x2 x3 x5 x6 x7 x8 x9 x10, ref_prev2 x0 x1 x2 x3 x5 x6 x7 x8 x9 x10]
  rfl

/-- The reference's gated convolution. -/
theorem ref_gated : val_main_v29 (F := Ideal) x2 x7 (ix2 r j) = gated (inOf x0 x1 x2 x3 x5 x6 x7 x8 x9 x10) r j := by
  pointwise [val_main_v29, val_main_v1, ref_conv x0 x1 x2 x3 x5 x6 x7 x8 x9 x10]
  rfl

/-- The reference's attention branch. -/
theorem ref_ya : val_main_v5 (F := Ideal) x1 x8 (ix2 r j) = ya (inOf x0 x1 x2 x3 x5 x6 x7 x8 x9 x10) r j := by
  pointwise [val_main_v5]
  rfl

/-- The reference's convolution branch. -/
theorem ref_yc : val_main_v30 (F := Ideal) x2 x7 x9 (ix2 r j) = yc (inOf x0 x1 x2 x3 x5 x6 x7 x8 x9 x10) r j := by
  pointwise [val_main_v30, ref_gated x0 x1 x2 x3 x5 x6 x7 x8 x9 x10]
  rfl

/-- The reference's merged branches. -/
theorem ref_merged : val_main_v45 (F := Ideal) x1 x2 x7 x8 x9 (ix2 r j) = merged (inOf x0 x1 x2 x3 x5 x6 x7 x8 x9 x10) r j := by
  pointwise [val_main_v45, val_main_v44, val_main_v43, val_main_v42, val_main_v41, val_main_v40, val_main_v39, val_main_v38, val_main_v37, val_main_v36,
    val_main_v35, val_main_v34, val_main_v33, val_main_v32, val_main_v31, val_main_v3, val_main_v4, val_main_cst_0, val_main_cst_1, val_main_cst_2,
    val_main_cst_3, ref_ya x0 x1 x2 x3 x5 x6 x7 x8 x9 x10, ref_yc x0 x1 x2 x3 x5 x6 x7 x8 x9 x10]
  unfold merged Ideal.logistic
  rfl

/-- The reference's output of the block. -/
theorem ref_z : val_main_v46 (F := Ideal) x1 x2 x7 x8 x9 x10 (ix2 r j) = z (inOf x0 x1 x2 x3 x5 x6 x7 x8 x9 x10) r j := by
  pointwise [val_main_v46, ref_merged x0 x1 x2 x3 x5 x6 x7 x8 x9 x10]
  rfl

/-- The reference's stream after the block. -/
theorem ref_after : val_main_v50 (F := Ideal) x0 x1 x2 x3 x7 x8 x9 x10 (ix2 r j) = after (inOf x0 x1 x2 x3 x5 x6 x7 x8 x9 x10) r j := by
  pointwise [val_main_v50, val_main_v49, val_main_v48, val_main_v47, ref_z x0 x1 x2 x3 x5 x6 x7 x8 x9 x10]
  rfl

/-- The reference's modulated norm. -/
theorem ref_h : val_main_v70 (F := Ideal) x0 x1 x2 x3 x5 x6 x7 x8 x9 x10 (ix2 r j) = h (inOf x0 x1 x2 x3 x5 x6 x7 x8 x9 x10) r j := by
  pointwise [val_main_v70, val_main_v69, val_main_v68, val_main_v67, val_main_v66, val_main_v65, val_main_v64, val_main_v63, val_main_v62, val_main_v61,
    val_main_v60, val_main_v59, val_main_v58, val_main_v57, val_main_v56, val_main_v55, val_main_v54, val_main_v53, val_main_v52, val_main_v51,
    val_main_cst_4, val_main_cst_5, val_main_cst_6, val_main_cst_7, ref_after x0 x1 x2 x3 x5 x6 x7 x8 x9 x10]
  rfl

end

set_option maxHeartbeats 1000000 in
/-- The kernel's nine results are the reference's. -/
theorem value : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · run_from Cert.Reference12Ideal.Value.run m' g'
    · rw [(hagree c).2.2.1]
      refine (Cert.Reference12Ideal.Read.val_main_v50_eq (F := Ideal) _ _ _ _ _ _ _ _).trans (Eq.trans ?_ (final13 m c).symm)
      funext i
      idx_vars i
      exact ref_after _ _ _ _ _ _ _ _ _ _ _ _
    · rw [(hagree c).2.2.1]
      refine (Cert.Reference12Ideal.Read.val_main_v71_eq (F := Ideal) _ _ _ _ _ _).trans (Eq.trans ?_ (final14 m c).symm)
      funext i
      idx_vars i
      pointwise [val_main_v71]
      exact ref_z _ _ _ _ _ _ _ _ _ _ _ _
    · refine (Cert.Reference12Ideal.Read.val_main_v72_eq (F := Ideal) _ _).trans (Eq.trans ?_ (final15 m c).symm)
      funext i
      idx_vars i
      pointwise [val_main_v72]
      exact ref_ya _ _ _ _ _ _ _ _ _ _ _ _
    · rw [(hagree c).2.2.1]
      refine (Cert.Reference12Ideal.Read.val_main_v73_eq (F := Ideal) _ _ _).trans (Eq.trans ?_ (final16 m c).symm)
      funext i
      idx_vars i
      pointwise [val_main_v73]
      exact ref_yc _ _ _ _ _ _ _ _ _ _ _ _
    · rw [(hagree c).2.2.1]
      refine (Cert.Reference12Ideal.Read.val_main_v74_eq (F := Ideal) _ _).trans (Eq.trans ?_ (final17 m c).symm)
      funext i
      idx_vars i
      pointwise [val_main_v74]
      exact ref_conv _ _ _ _ _ _ _ _ _ _ _ _
    · rw [(hagree c).2.2.1]
      refine (Cert.Reference12Ideal.Read.val_main_v75_eq (F := Ideal) _ _).trans (Eq.trans ?_ (final18 m c).symm)
      funext i
      idx_vars i
      pointwise [val_main_v75]
      exact ref_gated _ _ _ _ _ _ _ _ _ _ _ _
    · rw [(hagree c).2.2.1]
      refine (Cert.Reference12Ideal.Read.val_main_v76_eq (F := Ideal) _ _ _ _ _).trans (Eq.trans ?_ (final19 m c).symm)
      funext i
      idx_vars i
      pointwise [val_main_v76]
      exact ref_merged _ _ _ _ _ _ _ _ _ _ _ _
    · obtain ⟨h0, h1, h2, h3, -, h5, h6, h7, h8, h9, h10⟩ := hagree c
      rw [Cert.Reference12Ideal.Read.val_main_v77_eq, h0, h1, h2, h3, h5, h6, h7, h8, h9, h10]
      refine Eq.trans ?_ (final20 m c).symm
      funext i
      idx_vars i
      pointwise [val_main_v77]
      exact ref_h _ _ _ _ _ _ _ _ _ _ _ _
    · obtain ⟨h0, h1, h2, h3, -, h5, h6, h7, h8, h9, h10⟩ := hagree c
      rw [Cert.Reference12Ideal.Read.val_main_v79_eq, h0, h1, h2, h3, h5, h6, h7, h8, h9, h10]
      refine Eq.trans ?_ (final21 m c).symm
      funext i
      idx_vars i
      pointwise [val_main_v79, val_main_v78]
      exact ref_h _ _ _ _ _ _ _ _ _ _ _ _

end Cert.MixFwd
-- ==== Proof.NormLast.lean ====
/-
  The kernel's call for the last norm's gradient, tile by tile: the loss's gradient formed from the target, the stream's
  gradient at the tile's rows, and the modulation's gradients, one row each, summed from tile to tile.
-/
module

public import proofs.«01_k».proof.Proof.Gen.Kernel13Ideal.Value
public import proofs.«01_k».proof.Proof.Norm
public import proofs.«01_k».proof.Proof.MixPoint
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.NormLast

open Idealize.ShloMosaic Idealize.ShloMosaic.TcCoe
open Cert.Kernel13Ideal Cert.Kernel13Ideal.Gen
open Cert.Norm (In inv xh dn dx stat stats half set_gain sum_mul_real)

/-- What the loss's mean over a row makes of an error, as the kernel writes it: one over the row's length. -/
abbrev over : EReal := Ideal.ofBits .f32 981467136#32

/-- One half of a sum is the sum of the halves. -/
theorem half_sum {n : ℕ} (f : Fin n → EReal) : half * ∑ k, f k = ∑ k, half * f k := by
  have e : half = ((1 / 2 : ℝ) : EReal) := Cert.Mix.ofBits_half
  rw [e, mul_comm, ← sum_mul_real f (1 / 2) (by norm_num)]
  exact Finset.sum_congr rfl fun k _ => mul_comm _ _

section Tile

variable (I : In) (R : Fin 512 → Fin 8192) (X DH DXO : FVec Ideal S512x1024 .f32) (SC GN : FVec Ideal S1x1024 .f32)

/-- The inverse root mean square of a tile's row. -/
theorem tile_inv (hx : ∀ p j, X (ix2 p j) = I.x (R p) j) (p : Fin 512) : k0_pay4 (F := Ideal) X (ix2 p 0) = inv (I.x (R p)) := by
  pointwise [k0_pay4, hx]
  rfl

/-- A tile of the normalised stream. -/
theorem tile_xh (hx : ∀ p j, X (ix2 p j) = I.x (R p) j) (p : Fin 512) (j : Fin 1024) : k0_pay5 (F := Ideal) X (ix2 p j) = xh I (R p) j := by
  pointwise [k0_pay5, hx, tile_inv I R X hx]
  rfl

/-- A tile of the gained norm's gradient. -/
theorem tile_dn (hd : ∀ p j, DH (ix2 p j) = I.dh (R p) j) (hs : ∀ j, SC (ix2 0 j) = I.sc j) (p : Fin 512) (j : Fin 1024) :
    k0_pay7 (F := Ideal) DH SC (ix2 p j) = dn I (R p) j := by
  pointwise [k0_pay7, hd, hs]
  rfl

/-- A tile of the stream's gradient. -/
theorem tile_dx (hx : ∀ p j, X (ix2 p j) = I.x (R p) j) (hd : ∀ p j, DH (ix2 p j) = I.dh (R p) j)
    (ho : ∀ p j, DXO (ix2 p j) = I.dxo (R p) j) (hg : ∀ j, GN (ix2 0 j) = I.gn j) (hs : ∀ j, SC (ix2 0 j) = I.sc j)
    (p : Fin 512) (j : Fin 1024) :
    k0_pay9 (F := Ideal) DXO (k0_pay4 X) (k0_pay5 X) (k0_pay7 DH SC) (k0_pay8 GN) (ix2 p j) = dx I (R p) j := by
  pointwise [k0_pay9, k0_pay8, k0_pay6, ho, hg, tile_inv I R X hx, tile_xh I R X hx, tile_dn I R DH SC hd hs]
  rfl

/-- The shift's gradient, with a tile's part. -/
theorem tile_0 (A : FVec Ideal S1x1024 .f32) (hd : ∀ p j, DH (ix2 p j) = I.dh (R p) j) (j : Fin 1024) :
    k0_pay10 DH A (ix2 0 j) = A (ix2 0 j) + ∑ p, stat I 0 (R p) j := by
  pointwise [k0_pay10, hd]
  rfl

/-- The scale's gradient, with a tile's part. -/
theorem tile_1 (A : FVec Ideal S1x1024 .f32) (hx : ∀ p j, X (ix2 p j) = I.x (R p) j) (hd : ∀ p j, DH (ix2 p j) = I.dh (R p) j)
    (hg : ∀ j, GN (ix2 0 j) = I.gn j) (j : Fin 1024) :
    k0_pay11 DH (k0_pay5 X) (k0_pay6 GN) A (ix2 0 j) = A (ix2 0 j) + ∑ p, stat I 1 (R p) j := by
  pointwise [k0_pay11, k0_pay6, hd, hg, tile_xh I R X hx]
  rfl

/-- The gate's gradient, with a tile's part: the half comes in after the tile's rows are summed. -/
theorem tile_2 (Y : FVec Ideal S512x1024 .f32) (A : FVec Ideal S1x1024 .f32) (hy : ∀ p j, half * Y (ix2 p j) = I.y (R p) j)
    (ho : ∀ p j, DXO (ix2 p j) = I.dxo (R p) j) (j : Fin 1024) :
    k0_pay12 DXO A Y (ix2 0 j) = A (ix2 0 j) + ∑ p, stat I 2 (R p) j := by
  pointwise [k0_pay12, ho]
  refine congrArg (A (ix2 0 j) + ·) ((half_sum _).trans (Finset.sum_congr rfl fun p _ => ?_))
  rw [← mul_assoc, hy]
  rfl

/-- The gain's gradient, with a tile's part. -/
theorem tile_3 (A : FVec Ideal S1x1024 .f32) (hx : ∀ p j, X (ix2 p j) = I.x (R p) j) (hd : ∀ p j, DH (ix2 p j) = I.dh (R p) j)
    (hs : ∀ j, SC (ix2 0 j) = I.sc j) (j : Fin 1024) :
    k0_pay1 (k0_pay5 X) (k0_pay7 DH SC) A (ix2 0 j) = A (ix2 0 j) + ∑ p, stat I 3 (R p) j := by
  pointwise [k0_pay1, tile_xh I R X hx, tile_dn I R DH SC hd hs]
  rfl

end Tile

variable (m : (ℓ : Loc nD τ sig) → Buf (Elt Ideal) ℓ) (c : Dev nD)

/-- The call's inputs at the program's arguments. The gradient of the stream after the sub-layer is the loss's: the error of
    that stream against the target, over the row's length. The sub-layer's output counts with the residual's half. -/
def inOf (x0 x1 x2 x3 : FVec Ideal S8192x1024 .f32) (x4 : FVec Ideal S3x1024 .f32) (x5 : FVec Ideal S1x1024 .f32) : In where
  dh r j := x0 (ix2 r j)
  x r j := x1 (ix2 r j)
  dxo r j := (x1 (ix2 r j) + half * x4 (ix2 2 j) * x3 (ix2 r j) - x2 (ix2 r j)) * over
  y r j := half * x3 (ix2 r j)
  sc j := x4 (ix2 1 j)
  gn j := x5 (ix2 0 j)
  gt j := x4 (ix2 2 j)

/-- The inputs at the kernel program's arguments. -/
def inK : In :=
  inOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Which blocks point `t` reads and which it writes. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] :=
  (by decide +kernel : ∀ t : Fin grid0.N, _)

/-- Row 1 of the modulation the call is handed is the scale. -/
theorem V_scale (j : Fin 1024) : V m c main_v4 (ix2 (1 : Fin 8) j) = (inK m c).sc j := by
  entry_read
  exact (Cert.Mix.set1 _ _ (by rfl) _ _ _ (by decide)).trans (Cert.Mix.set3 _ _ (by rfl) _ (1 : Fin 8) (1 : Fin 3) j rfl)

/-- Row 2 is the gate. -/
theorem V_gate (j : Fin 1024) : V m c main_v4 (ix2 (2 : Fin 8) j) = (inK m c).gt j := by
  entry_read
  exact (Cert.Mix.set1 _ _ (by rfl) _ _ _ (by decide)).trans (Cert.Mix.set3 _ _ (by rfl) _ (2 : Fin 8) (2 : Fin 3) j rfl)

/-- Row 3 is the gain. -/
theorem V_gain (j : Fin 1024) : V m c main_v4 (ix2 (3 : Fin 8) j) = (inK m c).gn j := by
  entry_read
  exact set_gain _ _ (by rfl) _ _

variable (t : Fin cfg0.N)

/-- Row `p` of point `t`'s tile. -/
def row (t : Fin cfg0.N) (p : Fin 512) : Fin 8192 := ⟨t.val * 512 + p.val, by have := t.isLt; have : cfg0.N = 16 := N_0; omega⟩

/-- The point's block of the modulated norm's gradient. -/
theorem blk0 (p : Fin 512) (j : Fin 1024) : iblk m c 0 t (ix2 p j) = (inK m c).dh (row t p) j := by
  pointwise [inK, inOf, row]
  blk_point [iblk, V, idx t]

/-- The point's block of the stream. -/
theorem blk1 (p : Fin 512) (j : Fin 1024) : iblk m c 1 t (ix2 p j) = (inK m c).x (row t p) j := by
  pointwise [inK, inOf, row]
  blk_point [iblk, V, idx t]

/-- The point's block of the target. -/
theorem blk3 (p : Fin 512) (j : Fin 1024) : iblk m c 3 t (ix2 p j) = m ((c : Thread nD τ).loc main_arg2) (ix2 (row t p) j) := by
  pointwise [row]
  blk_point [iblk, V, idx t]

/-- The point's block of the sub-layer's output. -/
theorem blk4 (p : Fin 512) (j : Fin 1024) : iblk m c 4 t (ix2 p j) = m ((c : Thread nD τ).loc main_arg3) (ix2 (row t p) j) := by
  pointwise [row]
  blk_point [iblk, V, idx t]

/-- … which counts with the residual's half. -/
theorem y_at (p : Fin 512) (j : Fin 1024) : half * iblk m c 4 t (ix2 p j) = (inK m c).y (row t p) j :=
  congrArg (half * ·) (blk4 m c t p j)

/-- The scale as the point loads it. -/
theorem scale_at (j : Fin 1024) :
    View.ld (iblk m c 2 t) (Rect.unit ![1, 0] ![1, 1024] inb_S8x1024_S1x1024_1_0) (ix2 (0 : Fin 1) j) = (inK m c).sc j := by
  refine (Cert.Mix.ld_row 1 _ (iblk m c 2 t) 1 rfl j).trans (Eq.trans ?_ (V_scale m c j))
  blk_simp [iblk, idx t]
  generalize V m c main_v4 = X
  blk_ext [idx t]

/-- The gate as the point loads it. -/
theorem gate_at (j : Fin 1024) :
    View.ld (iblk m c 2 t) (Rect.unit ![2, 0] ![1, 1024] inb_S8x1024_S1x1024_2_0) (ix2 (0 : Fin 1) j) = (inK m c).gt j := by
  refine (Cert.Mix.ld_row 2 _ (iblk m c 2 t) 2 rfl j).trans (Eq.trans ?_ (V_gate m c j))
  blk_simp [iblk, idx t]
  generalize V m c main_v4 = X
  blk_ext [idx t]

/-- The gain as the point loads it. -/
theorem gain_at (j : Fin 1024) :
    View.ld (iblk m c 2 t) (Rect.unit ![3, 0] ![1, 1024] inb_S8x1024_S1x1024_3_0) (ix2 (0 : Fin 1) j) = (inK m c).gn j := by
  refine (Cert.Mix.ld_row 3 _ (iblk m c 2 t) 3 rfl j).trans (Eq.trans ?_ (V_gain m c j))
  blk_simp [iblk, idx t]
  generalize V m c main_v4 = X
  blk_ext [idx t]

/-- A tile of the loss's gradient. -/
theorem tile_dxo (X T Y : FVec Ideal S512x1024 .f32) (G : FVec Ideal S1x1024 .f32) (hx : ∀ p j, X (ix2 p j) = (inK m c).x (row t p) j)
    (ht : ∀ p j, T (ix2 p j) = m ((c : Thread nD τ).loc main_arg2) (ix2 (row t p) j))
    (hy : ∀ p j, Y (ix2 p j) = m ((c : Thread nD τ).loc main_arg3) (ix2 (row t p) j)) (hg : ∀ j, G (ix2 0 j) = (inK m c).gt j)
    (p : Fin 512) (j : Fin 1024) : k0_pay3 (F := Ideal) X T G Y (ix2 p j) = (inK m c).dxo (row t p) j := by
  pointwise [k0_pay3, hx, ht, hy, hg]
  rfl

/-- The loss's gradient as the point forms it. -/
theorem dxo_at (p : Fin 512) (j : Fin 1024) :
    k0_pay3 (F := Ideal) (iblk m c 1 t) (iblk m c 3 t)
      (View.ld (iblk m c 2 t) (Rect.unit ![2, 0] ![1, 1024] inb_S8x1024_S1x1024_2_0)) (iblk m c 4 t) (ix2 p j)
      = (inK m c).dxo (row t p) j :=
  tile_dxo m c t _ _ _ _ (blk1 m c t) (blk3 m c t) (blk4 m c t) (gate_at m c t) p j

/-- The point leaves its tile of the stream's gradient. -/
theorem dx_at (p : Fin 512) (j : Fin 1024) : (outsAt0 m c t.val t.isLt).1 (ix2 p j) = dx (inK m c) (row t p) j := by
  have e := tile_dx (inK m c) (row t) _ _ _ _ _ (blk1 m c t) (blk0 m c t) (dxo_at m c t) (gain_at m c t) (scale_at m c t) p j
  by_cases h : t.val % 16 = 0
  · rw [outsAt0_A m c t h]; frame_out
    exact e
  · rw [outsAt0_B m c t h]; frame_out
    exact e

/-- What a point adds to the modulation's gradients. -/
def part (k : Fin 8) (j : Fin 1024) : EReal := ∑ p : Fin 512, stat (inK m c) k.val (row t p) j

/-- The zero fill of those gradients. -/
theorem zero_at (k : Fin 8) (j : Fin 1024) : k0_pay2 (F := Ideal) (ix2 k j) = 0 := by
  pointwise [k0_pay2]

/-- A point adds nothing to the rows after the fourth. -/
theorem part_rest (k : Fin 8) (j : Fin 1024) (h : 3 < k.val) : part m c t k j = 0 := by
  unfold part stat
  simp only [if_neg (show k.val ≠ 3 by omega), if_neg (show k.val ≠ 2 by omega), if_neg (show k.val ≠ 1 by omega),
    if_neg (show k.val ≠ 0 by omega)]
  exact Finset.sum_const_zero

/-- The first point clears the gradients and adds its part. -/
theorem first (h : t.val % 16 = 0) (k : Fin 8) (j : Fin 1024) :
    (outsAt0 m c t.val t.isLt).2 (ix2 k j) = 0 + part m c t k j := by
  rw [outsAt0_A m c t h]; frame_out
  simp (disch := decide) only [↓ View.readCov_skip, ↓ View.readCov_fill]
  refine (Cert.Mix.canon_row 3 _ _ _ k j).trans ?_
  by_cases h3 : k.val = 3
  · rw [if_pos h3]
    unfold part
    rw [h3]
    exact (tile_3 (inK m c) (row t) _ _ _ _ (blk1 m c t) (blk0 m c t) (scale_at m c t) j).trans
      (congrArg (· + _) ((Cert.Mix.ld_row 3 _ _ k h3 j).trans (zero_at k j)))
  rw [if_neg h3]
  refine (Cert.Mix.canon_row 2 _ _ _ k j).trans ?_
  by_cases h2 : k.val = 2
  · rw [if_pos h2]
    unfold part
    rw [h2]
    exact (tile_2 (inK m c) (row t) _ _ _ (y_at m c t) (dxo_at m c t) j).trans
      (congrArg (· + _) ((Cert.Mix.ld_row 2 _ _ k h2 j).trans (zero_at k j)))
  rw [if_neg h2]
  refine (Cert.Mix.canon_row 1 _ _ _ k j).trans ?_
  by_cases h1 : k.val = 1
  · rw [if_pos h1]
    unfold part
    rw [h1]
    exact (tile_1 (inK m c) (row t) _ _ _ _ (blk1 m c t) (blk0 m c t) (gain_at m c t) j).trans
      (congrArg (· + _) ((Cert.Mix.ld_row 1 _ _ k h1 j).trans (zero_at k j)))
  rw [if_neg h1]
  refine (Cert.Mix.canon_row 0 _ _ _ k j).trans ?_
  by_cases h0 : k.val = 0
  · rw [if_pos h0]
    unfold part
    rw [h0]
    exact (tile_0 (inK m c) (row t) _ _ (blk0 m c t) j).trans
      (congrArg (· + _) ((Cert.Mix.ld_row 0 _ _ k h0 j).trans (zero_at k j)))
  rw [if_neg h0, part_rest m c t k j (by omega), View.canon_cons_unit_lit _ _ _ (by decide), zero_at, zero_add]

/-- Every later point adds its part to what the point before left. -/
theorem step (h : ¬ t.val % 16 = 0) (k : Fin 8) (j : Fin 1024) :
    (outsAt0 m c t.val t.isLt).2 (ix2 k j)
      = (outsAt0 m c (t.val - 1) (Nat.lt_of_le_of_lt (Nat.sub_le _ _) t.isLt)).2 (ix2 k j) + part m c t k j := by
  rw [outsAt0_B m c t h]; frame_out
  refine (Cert.Mix.read_row _ _ 3 _ _ _ k j).trans ?_
  by_cases h3 : k.val = 3
  · rw [if_pos h3]
    unfold part
    rw [h3]
    exact (tile_3 (inK m c) (row t) _ _ _ _ (blk1 m c t) (blk0 m c t) (scale_at m c t) j).trans
      (congrArg (· + _) (Cert.Mix.ld_row 3 _ _ k h3 j))
  rw [if_neg h3]
  refine (Cert.Mix.read_row _ _ 2 _ _ _ k j).trans ?_
  by_cases h2 : k.val = 2
  · rw [if_pos h2]
    unfold part
    rw [h2]
    exact (tile_2 (inK m c) (row t) _ _ _ (y_at m c t) (dxo_at m c t) j).trans
      (congrArg (· + _) (Cert.Mix.ld_row 2 _ _ k h2 j))
  rw [if_neg h2]
  refine (Cert.Mix.read_row _ _ 1 _ _ _ k j).trans ?_
  by_cases h1 : k.val = 1
  · rw [if_pos h1]
    unfold part
    rw [h1]
    exact (tile_1 (inK m c) (row t) _ _ _ _ (blk1 m c t) (blk0 m c t) (gain_at m c t) j).trans
      (congrArg (· + _) (Cert.Mix.ld_row 1 _ _ k h1 j))
  rw [if_neg h1]
  refine (Cert.Mix.read_row _ _ 0 _ _ _ k j).trans ?_
  by_cases h0 : k.val = 0
  · rw [if_pos h0]
    unfold part
    rw [h0]
    exact (tile_0 (inK m c) (row t) _ _ (blk0 m c t) j).trans
      (congrArg (· + _) (Cert.Mix.ld_row 0 _ _ k h0 j))
  rw [if_neg h0, part_rest m c t k j (by omega), add_zero]
  exact congrFun (Memref.IsWhole.read_unread _ _) _

/-- The stream's gradient. -/
theorem final5 : (dats m 0 c).arrAt 5 cfg0.N = fun i => dx (inK m c) (i 0) (i 1) := by
  refine (dats m 0 c).arrAt_eq_of_covers 5 _ (by decide +kernel) fun t hf y => ?_
  blk_simp
  rw [after0_5]
  idx_vars y
  refine (dx_at m c t _ _).trans (congrArg₂ (dx (inK m c)) (Fin.ext ?_) (Fin.ext ?_))
  · unfold row
    blk_simp [idx t]
  · blk_simp [idx t]

/-- The modulation's gradients. -/
theorem final6 : (dats m 0 c).arrAt 6 cfg0.N = fun i => stats (inK m c) (i 0) (i 1) := by
  refine (dats m 0 c).arrAt_eq_of_after_last 6 t0_15 (by decide +kernel) _ fun j => ?_
  blk_simp
  idx_vars j
  rw [after0_6, Pipeline.eq_sum_fin_of_reset_step_apply_last (fun n h => (outsAt0 m c n h).2) 16 (fun _ => 0) (fun p y => part m c p (y 0) (y 1))
    (fun t h j => by idx_vars j; exact first m c t h _ _) (fun t h j => by idx_vars j; exact step m c t h _ _) (le_of_eq N_0) t0_15 rfl _, zero_add]
  show (∑ t : Fin cfg0.N, part m c t j0 j1) = stats (inK m c) j0 j1
  unfold part stats
  exact Fin.sum_mul_add_congr fun s p hl => rfl

end Cert.NormLast

end
-- ==== Proof.NormLastClaim.lean ====
/-
  The claims about the call for the last norm's gradient, with the loss's.
-/
module

public import proofs.«01_k».proof.Defs
public import proofs.«01_k».proof.Proof.Gen.Kernel13.Frame
public import proofs.«01_k».proof.Proof.Gen.Reference13Ideal.Read
public import proofs.«01_k».proof.Proof.NormLast

@[expose] public section

set_option maxRecDepth 16384

noncomputable section

namespace Cert.NormLast

open Idealize.ShloMosaic Idealize.ShloMosaic.TcCoe
open Cert.Reference13Ideal.Read
open Cert.Norm (inv xh dn dx stat stats half ms da dx_eq len len_eq mhalf)

/-- The kernel as written runs and leaves its arguments as they were. -/
theorem frame : Cert.quiescent_Kernel13 (hKernel13 := Cert.Kernel13.Gen.facts) := fun m ρ _ => Cert.Kernel13.Gen.frame m ρ

/-- The kernel over the reals runs and leaves its arguments as they were. -/
theorem frameIdeal : Cert.quiescent_Kernel13Ideal (hKernel13Ideal := Cert.Kernel13Ideal.Gen.facts) :=
  fun m ρ _ => Cert.Kernel13Ideal.Gen.frame m ρ

/-- The reference runs and leaves its arguments as they were. -/
theorem frameRef : Cert.quiescent_Reference13Ideal (hReference13Ideal := Cert.Reference13Ideal.Gen.facts) := by
  intro m g _
  exact (θ_run Cert.Reference13Ideal.defs _ _).mono (fun r h => ⟨fun c => (h c).2.2,
    Idealize.ShloMosaic.sem_eq_zero_of_no_sems (by decide) r.2⟩) (Cert.Reference13Ideal.Value.run m g)

/-- Two, from the square's derivative, as the reference writes it. -/
abbrev two : EReal := Ideal.ofBits .f32 1073741824#32

/-- Two is that. -/
theorem two_eq : two = ((2 : ℝ) : EReal) := by
  simp [two, Ideal.ofBits, Ideal.ieee]
  norm_cast
  norm_num

/-- The kernel's factor is one over the row's length. -/
theorem over_eq : over = ((1 / 1024 : ℝ) : EReal) := by
  simp only [over, Ideal.ofBits, Ideal.ieee]
  refine congrArg Real.toEReal ?_
  rw [if_neg (by decide)]
  simp
  norm_num

/-- The rules of differentiation give a half, over the row's length, times twice the error: the kernel's factor times it. -/
theorem err_eq (e : EReal) : Ideal.div (half * 1) len * (two * e) = e * over := by
  have h : half = ((1 / 2 : ℝ) : EReal) := Cert.Mix.ofBits_half
  rw [len_eq, Ideal.div_coe (by norm_num), h, two_eq, over_eq, mul_one, ← mul_assoc, mul_comm e]
  refine congrArg (· * e) ?_
  norm_cast
  norm_num

section
variable (x0 x1 x2 x3 : FVec Ideal Cert.Kernel13Ideal.S8192x1024 .f32) (x4 : FVec Ideal Cert.Kernel13Ideal.S3x1024 .f32)
  (x5 : FVec Ideal Cert.Kernel13Ideal.S1x1024 .f32) (r : Fin 8192) (j : Fin 1024)

/-- The reference's mean square. -/
theorem ref_ms : val_main_v9 (F := Ideal) x1 (ix2 r 0) = ms ((inOf x0 x1 x2 x3 x4 x5).x r) := by
  pointwise [val_main_v9, val_main_v8, val_main_v7, val_main_v6, val_main_v5, val_main_v4, val_main_v3, val_main_cst_1, val_main_cst_0, val_main_cst]
  rfl

/-- The reference's inverse root mean square. -/
theorem ref_inv : val_main_v10 (F := Ideal) x1 (ix2 r 0) = inv ((inOf x0 x1 x2 x3 x4 x5).x r) := by
  pointwise [val_main_v10, ref_ms x0 x1 x2 x3 x4 x5]
  rfl

/-- The reference's normalised stream. -/
theorem ref_xh : val_main_v15 (F := Ideal) x1 (ix2 r j) = xh (inOf x0 x1 x2 x3 x4 x5) r j := by
  pointwise [val_main_v15, val_main_v14, ref_inv x0 x1 x2 x3 x4 x5]
  rfl

/-- The reference's gradient of the loss. -/
theorem ref_dxo : val_main_v43 (F := Ideal) x1 x2 x3 x4 (ix2 r j) = (inOf x0 x1 x2 x3 x4 x5).dxo r j := by
  refine Eq.trans ?_ (err_eq _)
  pointwise [val_main_v43, val_main_v42, val_main_v41, val_main_v40, val_main_cst_12, val_main_v39, val_main_v38, val_main_cst_11, val_main_cst_10,
    val_main_v32, val_main_v31, val_main_cst_5, val_main_v29, val_main_v28, val_main_v27, val_main_v26, val_main_v25, val_main_v24,
    val_main_cst_4, val_main_v2]

/-- The reference's gradient of the gained norm. -/
theorem ref_dn : val_main_v56 (F := Ideal) x0 x4 (ix2 r j) = dn (inOf x0 x1 x2 x3 x4 x5) r j := by
  pointwise [val_main_v56, val_main_v49, val_main_v55, val_main_v19, val_main_v18, val_main_cst_3, val_main_v1]
  rfl

/-- The reference's gradient of the normalised stream. -/
theorem ref_da : val_main_v61 (F := Ideal) x0 x4 x5 (ix2 r j) = da (inOf x0 x1 x2 x3 x4 x5) r j := by
  pointwise [val_main_v61, val_main_v60, ref_dn x0 x1 x2 x3 x4 x5]
  rfl

/-- The reference's gradient of the squares. -/
theorem ref_w : val_main_v71 (F := Ideal) x0 x1 x4 x5 (ix1 r)
    = Ideal.div ((∑ k, (inOf x0 x1 x2 x3 x4 x5).x r k * da (inOf x0 x1 x2 x3 x4 x5) r k)
        * (mhalf * Ideal.div (inv ((inOf x0 x1 x2 x3 x4 x5).x r)) (ms ((inOf x0 x1 x2 x3 x4 x5).x r)))) len := by
  pointwise [val_main_v71, val_main_cst_20, val_main_v70, val_main_v69, val_main_cst_19, val_main_v68, val_main_v64, val_main_v63, val_main_cst_18,
    val_main_v62, val_main_v13, val_main_v12, val_main_cst_2, val_main_v11]
  rw [Fintype.sum_unique]
  simp only [ref_da x0 x1 x2 x3 x4 x5, show (default : Fin 1) = 0 from rfl, ref_inv x0 x1 x2 x3 x4 x5, ref_ms x0 x1 x2 x3 x4 x5]
  rfl

/-- The reference's gradient of the stream. -/
theorem ref_dx : val_main_v76 (F := Ideal) x0 x1 x2 x3 x4 x5 (ix2 r j) = dx (inOf x0 x1 x2 x3 x4 x5) r j := by
  refine Eq.trans ?_ (dx_eq (inOf x0 x1 x2 x3 x4 x5) r j)
  rw [← ref_w x0 x1 x2 x3 x4 x5]
  pointwise [val_main_v76, val_main_v75, val_main_v74, val_main_v73, val_main_v72, val_main_v67, val_main_v66, val_main_v65,
    ref_da x0 x1 x2 x3 x4 x5, ref_inv x0 x1 x2 x3 x4 x5, ref_dxo x0 x1 x2 x3 x4 x5]
  rfl

/-- The reference's gradients of the modulation and the gain. -/
theorem ref_stats (k : Fin 8) : val_main_v78 (F := Ideal) x0 x1 x2 x3 x4 x5 (ix2 k j) = stats (inOf x0 x1 x2 x3 x4 x5) k j := by
  pointwise [val_main_v78]
  unfold stats stat
  have hk := k.isLt
  obtain h | h | h | h | h : k.val = 0 ∨ k.val = 1 ∨ k.val = 2 ∨ k.val = 3 ∨ 3 < k.val := by omega
  · simp only [h]
    pointwise [val_main_v51, val_main_v50, val_main_cst_15]
    rfl
  · simp only [h]
    pointwise [val_main_v54, val_main_v53, val_main_cst_16, val_main_v52, val_main_v49, val_main_v17, val_main_v16, ref_xh x0 x1 x2 x3 x4 x5]
    exact Finset.sum_congr rfl fun r _ => mul_comm _ _
  · simp only [h]
    pointwise [val_main_v48, val_main_v47, val_main_cst_14, val_main_v46, val_main_v45, val_main_cst_13, val_main_v44, ref_dxo x0 x1 x2 x3 x4 x5]
    exact (half_sum _).trans (Finset.sum_congr rfl fun r _ => (congrArg (half * ·) (mul_comm _ _)).trans (mul_assoc _ _ _).symm)
  · simp only [h]
    pointwise [val_main_v59, val_main_v58, val_main_cst_17, val_main_v57, ref_xh x0 x1 x2 x3 x4 x5, ref_dn x0 x1 x2 x3 x4 x5]
    exact Finset.sum_congr rfl fun r _ => mul_comm _ _
  · simp only [show ¬ k.val = 0 by omega, show ¬ k.val = 1 by omega, show ¬ k.val = 2 by omega, show ¬ k.val = 3 by omega, if_false]
    rw [dif_neg (by omega), dif_neg (by omega), dif_neg (by omega), dif_neg (by omega)]
    pointwise [val_main_v77, val_main_cst_21]
    exact Finset.sum_const_zero.symm

end

/-- The kernel's two results are the reference's. -/
theorem value : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · run_from Cert.Reference13Ideal.Value.run m' g'
    · obtain ⟨h0, h1, h2, h3, h4, h5⟩ := hagree c
      rw [Cert.Reference13Ideal.Read.val_main_v76_eq, h0, h1, h2, h3, h4, h5]
      refine Eq.trans ?_ (final5 m c).symm
      funext i
      idx_vars i
      exact ref_dx _ _ _ _ _ _ _ _
    · obtain ⟨h0, h1, h2, h3, h4, h5⟩ := hagree c
      rw [h4, h5]
      refine (Cert.Reference13Ideal.Read.val_main_v78_eq (F := Ideal) _ _ _ _ _ _).trans (Eq.trans ?_ (final6 m c).symm)
      funext i
      idx_vars i
      exact ref_stats _ _ _ _ _ _ _ _

end Cert.NormLast

end
-- ==== Proof.NormFwd.lean ====
/-
  The kernel's call for an adaLN norm, tile by tile: the stream after the sub-layer before, and its modulated norm, also
  transposed.
-/
module

public import proofs.«01_k».proof.Proof.Gen.Kernel14Ideal.Value
public import proofs.«01_k».proof.Proof.Norm
public import proofs.«01_k».proof.Proof.MixPoint
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.NormFwd

open Idealize.ShloMosaic Idealize.ShloMosaic.TcCoe
open Cert.Kernel14Ideal Cert.Kernel14Ideal.Gen
open Cert.Norm (half inv)

/-- What the call is given: the stream, the output of the sub-layer before, that sub-layer's gate, and the rows of the
    norm's modulation. -/
structure In where
  /-- the stream before the sub-layer -/
  x : Fin 8192 → Fin 1024 → EReal
  /-- the sub-layer's output -/
  y : Fin 8192 → Fin 1024 → EReal
  /-- the sub-layer's residual gate -/
  gt : Fin 1024 → EReal
  /-- the modulation's shift -/
  sh : Fin 1024 → EReal
  /-- the modulation's scale -/
  sc : Fin 1024 → EReal
  /-- the norm's gain -/
  gn : Fin 1024 → EReal

section Spec
variable (I : In)

/-- The stream after the sub-layer. -/
def after (r : Fin 8192) (j : Fin 1024) : EReal := I.x r j + half * I.gt j * I.y r j
/-- Its modulated norm. -/
def h (r : Fin 8192) (j : Fin 1024) : EReal := after I r j * inv (after I r) * I.gn j * (1 + I.sc j) + I.sh j
end Spec

section Tile

variable (I : In) (R : Fin 512 → Fin 8192) (X Y : FVec Ideal S512x1024 .f32) (GT GN SC SH : FVec Ideal S1x1024 .f32)

/-- A tile of the stream after the sub-layer. -/
theorem tile_after (hx : ∀ p j, X (ix2 p j) = I.x (R p) j) (hy : ∀ p j, Y (ix2 p j) = I.y (R p) j) (hg : ∀ j, GT (ix2 0 j) = I.gt j)
    (p : Fin 512) (j : Fin 1024) : k0_pay2 (F := Ideal) X GT Y (ix2 p j) = after I (R p) j := by
  pointwise [k0_pay2, hx, hy, hg]
  rfl

/-- A tile of the modulated norm. -/
theorem tile_h (hx : ∀ p j, X (ix2 p j) = I.x (R p) j) (hy : ∀ p j, Y (ix2 p j) = I.y (R p) j) (hg : ∀ j, GT (ix2 0 j) = I.gt j)
    (hn : ∀ j, GN (ix2 0 j) = I.gn j) (hs : ∀ j, SC (ix2 0 j) = I.sc j) (hh : ∀ j, SH (ix2 0 j) = I.sh j) (p : Fin 512) (j : Fin 1024) :
    k0_pay3 (F := Ideal) X GT Y GN SC SH (ix2 p j) = h I (R p) j := by
  pointwise [k0_pay3, tile_after I R X Y GT hx hy hg, hn, hs, hh]
  rfl

/-- The modulated norm, stored as it is. -/
theorem store_h (f : Fin 512 → Fin 1024 → EReal) (e : ∀ p j, k0_pay3 (F := Ideal) X GT Y GN SC SH (ix2 p j) = f p j)
    (p : Fin 512) (j : Fin 1024) : k0_pay4 (F := Ideal) X GT Y GN SC SH (ix2 p j) = f p j := by
  pointwise [k0_pay4, e]

/-- The modulated norm, stored transposed. -/
theorem store_ht (H : FVec Ideal S512x1024 .f32) (f : Fin 512 → Fin 1024 → EReal) (e : ∀ p j, H (ix2 p j) = f p j)
    (p : Fin 512) (j : Fin 1024) : k0_pay1 (F := Ideal) H (ix2 j p) = f p j := by
  pointwise [k0_pay1, e]

end Tile

variable (m : (ℓ : Loc nD τ sig) → Buf (Elt Ideal) ℓ) (c : Dev nD)

/-- The call's inputs at the program's arguments. -/
def inOf (x0 x1 : FVec Ideal S8192x1024 .f32) (x2 x3 : FVec Ideal S3x1024 .f32) (x4 : FVec Ideal S1x1024 .f32) : In where
  x r j := x0 (ix2 r j)
  y r j := x1 (ix2 r j)
  gt j := x2 (ix2 2 j)
  sh j := x3 (ix2 0 j)
  sc j := x3 (ix2 1 j)
  gn j := x4 (ix2 0 j)

/-- The inputs at the kernel program's arguments. -/
def inK : In :=
  inOf (m ((c : Thread nD τ).loc main_arg0)) (m ((c : Thread nD τ).loc main_arg1)) (m ((c : Thread nD τ).loc main_arg2))
    (m ((c : Thread nD τ).loc main_arg3)) (m ((c : Thread nD τ).loc main_arg4))

/-- Which blocks point `t` reads and which it writes. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, t.val] :=
  (by decide +kernel : ∀ t : Fin grid0.N, _)

/-- Row 2 of the modulation before is its gate. -/
theorem V_gate (j : Fin 1024) : V m c main_v2 (ix2 (2 : Fin 8) j) = (inK m c).gt j := by
  entry_read
  exact Cert.Mix.set3 _ _ (by rfl) _ (2 : Fin 8) (2 : Fin 3) j rfl

/-- Row 0 of the norm's modulation is the shift. -/
theorem V_shift (j : Fin 1024) : V m c main_v7 (ix2 (0 : Fin 8) j) = (inK m c).sh j := by
  entry_read
  exact (Cert.Mix.set1 _ _ (by rfl) _ _ _ (by decide)).trans (Cert.Mix.set3 _ _ (by rfl) _ (0 : Fin 8) (0 : Fin 3) j rfl)

/-- Row 1 is the scale. -/
theorem V_scale (j : Fin 1024) : V m c main_v7 (ix2 (1 : Fin 8) j) = (inK m c).sc j := by
  entry_read
  exact (Cert.Mix.set1 _ _ (by rfl) _ _ _ (by decide)).trans (Cert.Mix.set3 _ _ (by rfl) _ (1 : Fin 8) (1 : Fin 3) j rfl)

/-- Row 3 is the gain. -/
theorem V_gain (j : Fin 1024) : V m c main_v7 (ix2 (3 : Fin 8) j) = (inK m c).gn j := by
  entry_read
  exact Cert.Norm.set_gain _ _ (by rfl) _ _

variable (t : Fin cfg0.N)

/-- Row `p` of point `t`'s tile. -/
def row (t : Fin cfg0.N) (p : Fin 512) : Fin 8192 := ⟨t.val * 512 + p.val, by have := t.isLt; have : cfg0.N = 16 := N_0; omega⟩

/-- The point's block of the stream. -/
theorem blk0 (p : Fin 512) (j : Fin 1024) : iblk m c 0 t (ix2 p j) = (inK m c).x (row t p) j := by
  pointwise [inK, inOf, row]
  blk_point [iblk, V, idx t]

/-- The point's block of the sub-layer's output. -/
theorem blk1 (p : Fin 512) (j : Fin 1024) : iblk m c 1 t (ix2 p j) = (inK m c).y (row t p) j := by
  pointwise [inK, inOf, row]
  blk_point [iblk, V, idx t]

/-- The gate before as the point loads it. -/
theorem gate_at (j : Fin 1024) :
    View.ld (iblk m c 2 t) (Rect.unit ![2, 0] ![1, 1024] inb_S8x1024_S1x1024_2_0) (ix2 (0 : Fin 1) j) = (inK m c).gt j := by
  refine (Cert.Mix.ld_row 2 _ (iblk m c 2 t) 2 rfl j).trans (Eq.trans ?_ (V_gate m c j))
  blk_simp [iblk, idx t]
  generalize V m c main_v2 = X
  blk_ext [idx t]

/-- The shift as the point loads it. -/
theorem shift_at (j : Fin 1024) :
    View.ld (iblk m c 3 t) (Rect.unit ![0, 0] ![1, 1024] inb_S8x1024_S1x1024_0_0) (ix2 (0 : Fin 1) j) = (inK m c).sh j := by
  refine (Cert.Mix.ld_row 0 _ (iblk m c 3 t) 0 rfl j).trans (Eq.trans ?_ (V_shift m c j))
  blk_simp [iblk, idx t]
  generalize V m c main_v7 = X
  blk_ext [idx t]

/-- The scale as the point loads it. -/
theorem scale_at (j : Fin 1024) :
    View.ld (iblk m c 3 t) (Rect.unit ![1, 0] ![1, 1024] inb_S8x1024_S1x1024_1_0) (ix2 (0 : Fin 1) j) = (inK m c).sc j := by
  refine (Cert.Mix.ld_row 1 _ (iblk m c 3 t) 1 rfl j).trans (Eq.trans ?_ (V_scale m c j))
  blk_simp [iblk, idx t]
  generalize V m c main_v7 = X
  blk_ext [idx t]

/-- The gain as the point loads it. -/
theorem gain_at (j : Fin 1024) :
    View.ld (iblk m c 3 t) (Rect.unit ![3, 0] ![1, 1024] inb_S8x1024_S1x1024_3_0) (ix2 (0 : Fin 1) j) = (inK m c).gn j := by
  refine (Cert.Mix.ld_row 3 _ (iblk m c 3 t) 3 rfl j).trans (Eq.trans ?_ (V_gain m c j))
  blk_simp [iblk, idx t]
  generalize V m c main_v7 = X
  blk_ext [idx t]

/-- The point leaves its tile of the stream after the sub-layer. -/
theorem after_at (p : Fin 512) (j : Fin 1024) :
    out0_4 (iblk m c 0 t) (iblk m c 1 t) (iblk m c 2 t) (iblk m c 3 t) (ix2 p j) = after (inK m c) (row t p) j := by
  frame_out
  exact tile_after (inK m c) (row t) _ _ _ (blk0 m c t) (blk1 m c t) (gate_at m c t) p j

/-- The point leaves its tile of the modulated norm. -/
theorem h_at (p : Fin 512) (j : Fin 1024) :
    out0_5 (iblk m c 0 t) (iblk m c 1 t) (iblk m c 2 t) (iblk m c 3 t) (ix2 p j) = h (inK m c) (row t p) j := by
  frame_out
  exact store_h _ _ _ _ _ _ _ (tile_h (inK m c) (row t) _ _ _ _ _ _ (blk0 m c t) (blk1 m c t) (gate_at m c t) (gain_at m c t)
    (scale_at m c t) (shift_at m c t)) p j

/-- The point leaves that tile transposed. -/
theorem ht_at (p : Fin 512) (j : Fin 1024) :
    out0_6 (iblk m c 0 t) (iblk m c 1 t) (iblk m c 2 t) (iblk m c 3 t) (ix2 j p) = h (inK m c) (row t p) j := by
  frame_out
  exact store_ht _ _ (tile_h (inK m c) (row t) _ _ _ _ _ _ (blk0 m c t) (blk1 m c t) (gate_at m c t) (gain_at m c t)
    (scale_at m c t) (shift_at m c t)) p j

/-- The stream after the sub-layer. -/
theorem final4 : (dats m 0 c).arrAt 4 cfg0.N = fun i => after (inK m c) (i 0) (i 1) := by
  refine (dats m 0 c).arrAt_eq_of_covers 4 _ (by decide +kernel) fun t hf y => ?_
  blk_simp
  rw [after0_4]
  idx_vars y
  refine (after_at m c t _ _).trans (congrArg₂ (after (inK m c)) (Fin.ext ?_) (Fin.ext ?_))
  · unfold row
    blk_simp [idx t]
  · blk_simp [idx t]

/-- The modulated norm. -/
theorem final5 : (dats m 0 c).arrAt 5 cfg0.N = fun i => h (inK m c) (i 0) (i 1) := by
  refine (dats m 0 c).arrAt_eq_of_covers 5 _ (by decide +kernel) fun t hf y => ?_
  blk_simp
  rw [after0_5]
  idx_vars y
  refine (h_at m c t _ _).trans (congrArg₂ (h (inK m c)) (Fin.ext ?_) (Fin.ext ?_))
  · unfold row
    blk_simp [idx t]
  · blk_simp [idx t]

/-- The modulated norm transposed. -/
theorem final6 : (dats m 0 c).arrAt 6 cfg0.N = fun i => h (inK m c) (i 1) (i 0) := by
  refine (dats m 0 c).arrAt_eq_of_covers 6 _ (by decide +kernel) fun t hf y => ?_
  blk_simp
  rw [after0_6]
  idx_vars y
  refine (ht_at m c t _ _).trans (congrArg₂ (h (inK m c)) (Fin.ext ?_) (Fin.ext ?_))
  · unfold row
    blk_simp [idx t]
  · blk_simp [idx t]

end Cert.NormFwd

end
-- ==== Proof.NormFwdClaim.lean ====
/-
  The claims about the call for an adaLN norm.
-/
module

public import proofs.«01_k».proof.Defs
public import proofs.«01_k».proof.Proof.Gen.Kernel14.Frame
public import proofs.«01_k».proof.Proof.Gen.Reference14Ideal.Read
public import proofs.«01_k».proof.Proof.NormFwd

@[expose] public section

set_option maxRecDepth 16384

noncomputable section

namespace Cert.NormFwd

open Idealize.ShloMosaic Idealize.ShloMosaic.TcCoe
open Cert.Reference14Ideal.Read

/-- The kernel as written runs and leaves its arguments as they were. -/
theorem frame : Cert.quiescent_Kernel14 (hKernel14 := Cert.Kernel14.Gen.facts) := fun m ρ _ => Cert.Kernel14.Gen.frame m ρ

/-- The kernel over the reals runs and leaves its arguments as they were. -/
theorem frameIdeal : Cert.quiescent_Kernel14Ideal (hKernel14Ideal := Cert.Kernel14Ideal.Gen.facts) :=
  fun m ρ _ => Cert.Kernel14Ideal.Gen.frame m ρ

/-- The reference runs and leaves its arguments as they were. -/
theorem frameRef : Cert.quiescent_Reference14Ideal (hReference14Ideal := Cert.Reference14Ideal.Gen.facts) := by
  intro m g _
  exact (θ_run Cert.Reference14Ideal.defs _ _).mono (fun r h => ⟨fun c => (h c).2.2.2,
    Idealize.ShloMosaic.sem_eq_zero_of_no_sems (by decide) r.2⟩) (Cert.Reference14Ideal.Value.run m g)

section
variable (x0 x1 : FVec Ideal Cert.Kernel14Ideal.S8192x1024 .f32) (x2 x3 : FVec Ideal Cert.Kernel14Ideal.S3x1024 .f32)
  (x4 : FVec Ideal Cert.Kernel14Ideal.S1x1024 .f32) (r : Fin 8192) (j : Fin 1024)

/-- The reference's stream after the sub-layer. -/
theorem ref_after : val_main_v5 (F := Ideal) x0 x1 x2 (ix2 r j) = after (inOf x0 x1 x2 x3 x4) r j := by
  pointwise [val_main_v5, val_main_v4, val_main_v3, val_main_v2, val_main_v1, val_main_cst, val_main_v0]
  rfl

/-- The reference's inverse root mean square. -/
theorem ref_inv : val_main_v13 (F := Ideal) x0 x1 x2 (ix2 r 0) = Cert.Norm.inv (after (inOf x0 x1 x2 x3 x4) r) := by
  pointwise [val_main_v13, val_main_v12, val_main_v11, val_main_v10, val_main_v9, val_main_v8, val_main_v7, val_main_v6, val_main_cst_0,
    val_main_cst_1, val_main_cst_2, ref_after x0 x1 x2 x3 x4]
  rfl

/-- The reference's modulated norm. -/
theorem ref_h : val_main_v25 (F := Ideal) x0 x1 x2 x3 x4 (ix2 r j) = h (inOf x0 x1 x2 x3 x4) r j := by
  pointwise [val_main_v25, val_main_v24, val_main_v23, val_main_v22, val_main_v21, val_main_v20, val_main_v19, val_main_cst_3, val_main_v18,
    val_main_v17, val_main_v16, val_main_v15, val_main_v14, ref_inv x0 x1 x2 x3 x4, ref_after x0 x1 x2 x3 x4]
  rfl

end

/-- The kernel's three results are the reference's. -/
theorem value : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · run_from Cert.Reference14Ideal.Value.run m' g'
    · refine (Cert.Reference14Ideal.Read.val_main_v5_eq (F := Ideal) _ _ _).trans (Eq.trans ?_ (final4 m c).symm)
      funext i
      idx_vars i
      exact ref_after _ _ _ _ _ _ _
    · refine (Cert.Reference14Ideal.Read.val_main_v26_eq (F := Ideal) _ _ _ _ _).trans (Eq.trans ?_ (final5 m c).symm)
      funext i
      idx_vars i
      pointwise [val_main_v26]
      exact ref_h _ _ _ _ _ _ _
    · refine (Cert.Reference14Ideal.Read.val_main_v28_eq (F := Ideal) _ _ _ _ _).trans (Eq.trans ?_ (final6 m c).symm)
      funext i
      idx_vars i
      pointwise [val_main_v28, val_main_v27]
      exact ref_h _ _ _ _ _ _ _

end Cert.NormFwd

end
-- ==== Proof.LossGrad.lean ====
/-
  The kernel's call for the loss, tile by tile: the loss's gradient to the last sub-layer's output, and the sum of the squared errors
  in eight rows.
-/
module

public import proofs.«01_k».proof.Proof.Gen.Kernel15Ideal.Value
public import proofs.«01_k».proof.Proof.NormLast
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.LossGrad

open Idealize.ShloMosaic Idealize.ShloMosaic.TcCoe
open Cert.Kernel15Ideal Cert.Kernel15Ideal.Gen
open Cert.Norm (half)
open Cert.NormLast (over)

/-- What the call is given: the stream, the last sub-layer's output, the target, and the sub-layer's gate. -/
structure In where
  /-- the stream before the sub-layer -/
  x : Fin 8192 → Fin 1024 → EReal
  /-- the sub-layer's output -/
  y : Fin 8192 → Fin 1024 → EReal
  /-- the target -/
  tg : Fin 8192 → Fin 1024 → EReal
  /-- the sub-layer's residual gate -/
  gt : Fin 1024 → EReal

section Spec
variable (I : In)

/-- The error of the stream after the sub-layer. -/
def err (r : Fin 8192) (j : Fin 1024) : EReal := I.x r j + half * I.gt j * I.y r j - I.tg r j
/-- The loss's gradient to the sub-layer's output. -/
def dy (r : Fin 8192) (j : Fin 1024) : EReal := half * I.gt j * (err I r j * over)
/-- Row `k` of the `n`-th eight rows. -/
def at8 (n : Fin 1024) (k : Fin 8) : Fin 8192 := ⟨n.val * 8 + k.val, by omega⟩
/-- The square of the error there. -/
def sq (n : Fin 1024) (k : Fin 8) (j : Fin 1024) : EReal := err I (at8 n k) j * err I (at8 n k) j
/-- The sum of the squared errors, kept in eight rows: row `k` is that of the rows `k` modulo eight. -/
def loss (k : Fin 8) (j : Fin 1024) : EReal := ∑ n, sq I n k j
end Spec

section Tile

variable (I : In) (R : Fin 512 → Fin 8192) (G : FVec Ideal S1x1024 .f32) (X Y T : FVec Ideal S512x1024 .f32)

/-- A tile of the error. -/
theorem tile_err (hg : ∀ j, G (ix2 0 j) = I.gt j) (hx : ∀ p j, X (ix2 p j) = I.x (R p) j) (hy : ∀ p j, Y (ix2 p j) = I.y (R p) j)
    (ht : ∀ p j, T (ix2 p j) = I.tg (R p) j) (p : Fin 512) (j : Fin 1024) : k0_pay3 (F := Ideal) G X Y T (ix2 p j) = err I (R p) j := by
  pointwise [k0_pay3, k0_pay2, hg, hx, hy, ht]
  rfl

/-- A tile of the gradient. -/
theorem tile_dy (hg : ∀ j, G (ix2 0 j) = I.gt j) (hx : ∀ p j, X (ix2 p j) = I.x (R p) j) (hy : ∀ p j, Y (ix2 p j) = I.y (R p) j)
    (ht : ∀ p j, T (ix2 p j) = I.tg (R p) j) (p : Fin 512) (j : Fin 1024) : k0_pay4 (F := Ideal) G X Y T (ix2 p j) = dy I (R p) j := by
  pointwise [k0_pay4, k0_pay2, hg, tile_err I R G X Y T hg hx hy ht]
  rfl

/-- Row `k` of the `q`-th eight rows of a tile. -/
def in8 (q : Fin 64) (k : Fin 8) : Fin 512 := ⟨q.val * 8 + k.val, by omega⟩

/-- What a tile adds to the sum of the squared errors. -/
theorem tile_sq (hg : ∀ j, G (ix2 0 j) = I.gt j) (hx : ∀ p j, X (ix2 p j) = I.x (R p) j) (hy : ∀ p j, Y (ix2 p j) = I.y (R p) j)
    (ht : ∀ p j, T (ix2 p j) = I.tg (R p) j) (A : FVec Ideal S8x1024 .f32) (k : Fin 8) (j : Fin 1024) :
    k0_pay5 (F := Ideal) G X Y T A (ix2 k j) = A (ix2 k j) + ∑ q : Fin 64, err I (R (in8 q k)) j * err I (R (in8 q k)) j := by
  pointwise [k0_pay5]
  refine congrArg (A (ix2 k j) + ·) (Finset.sum_congr rfl fun q _ => ?_)
  rw [← tile_err I R G X Y T hg hx hy ht]
  rfl

end Tile

variable (m : (ℓ : Loc nD τ sig) → Buf (Elt Ideal) ℓ) (c : Dev nD)

/-- The call's inputs at the program's arguments. -/
def inOf (x0 x1 x2 : FVec Ideal S8192x1024 .f32) (x3 : FVec Ideal S3x1024 .f32) : In where
  x r j := x0 (ix2 r j)
  y r j := x1 (ix2 r j)
  tg r j := x2 (ix2 r j)
  gt j := x3 (ix2 2 j)

/-- The inputs at the kernel program's arguments. -/
def inK : In :=
  inOf (m ((c : Thread nD τ).loc main_arg0)) (m ((c : Thread nD τ).loc main_arg1)) (m ((c : Thread nD τ).loc main_arg2))
    (m ((c : Thread nD τ).loc main_arg3))

/-- Which blocks point `t` reads and which it writes. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- Row 2 of the modulation is the gate. -/
theorem V_gate (j : Fin 1024) : V m c main_v2 (ix2 (2 : Fin 8) j) = (inK m c).gt j := by
  entry_read
  exact Cert.Mix.set3 _ _ (by rfl) _ (2 : Fin 8) (2 : Fin 3) j rfl

variable (t : Fin cfg0.N)

/-- Row `p` of point `t`'s tile. -/
def row (t : Fin cfg0.N) (p : Fin 512) : Fin 8192 := ⟨t.val * 512 + p.val, by have := t.isLt; have : cfg0.N = 16 := N_0; omega⟩

/-- The point's block of the stream. -/
theorem blk0 (p : Fin 512) (j : Fin 1024) : iblk m c 0 t (ix2 p j) = (inK m c).x (row t p) j := by
  pointwise [inK, inOf, row]
  blk_point [iblk, V, idx t]

/-- The point's block of the sub-layer's output. -/
theorem blk1 (p : Fin 512) (j : Fin 1024) : iblk m c 1 t (ix2 p j) = (inK m c).y (row t p) j := by
  pointwise [inK, inOf, row]
  blk_point [iblk, V, idx t]

/-- The point's block of the target. -/
theorem blk3 (p : Fin 512) (j : Fin 1024) : iblk m c 3 t (ix2 p j) = (inK m c).tg (row t p) j := by
  pointwise [inK, inOf, row]
  blk_point [iblk, V, idx t]

/-- The gate as the point loads it. -/
theorem gate_at (j : Fin 1024) :
    View.ld (iblk m c 2 t) (Rect.unit ![2, 0] ![1, 1024] inb_S8x1024_S1x1024_2_0) (ix2 (0 : Fin 1) j) = (inK m c).gt j := by
  refine (Cert.Mix.ld_row 2 _ (iblk m c 2 t) 2 rfl j).trans (Eq.trans ?_ (V_gate m c j))
  blk_simp [iblk, idx t]
  generalize V m c main_v2 = X
  blk_ext [idx t]

/-- The point leaves its tile of the gradient. -/
theorem dy_at (p : Fin 512) (j : Fin 1024) : (outsAt0 m c t.val t.isLt).1 (ix2 p j) = dy (inK m c) (row t p) j := by
  have e := tile_dy (inK m c) (row t) _ _ _ _ (gate_at m c t) (blk0 m c t) (blk1 m c t) (blk3 m c t) p j
  by_cases h : t.val % 16 = 0
  · rw [outsAt0_A m c t h]; frame_out
    exact e
  · rw [outsAt0_B m c t h]; frame_out
    exact e

/-- What a point adds to the sum of the squared errors. -/
def part (k : Fin 8) (j : Fin 1024) : EReal :=
  ∑ q : Fin 64, err (inK m c) (row t (in8 q k)) j * err (inK m c) (row t (in8 q k)) j

/-- The zero fill of that sum. -/
theorem zero_at (k : Fin 8) (j : Fin 1024) : k0_pay1 (F := Ideal) (ix2 k j) = 0 := by
  pointwise [k0_pay1]

/-- The first point clears the sum and adds its part. -/
theorem first (h : t.val % 16 = 0) (k : Fin 8) (j : Fin 1024) :
    (outsAt0 m c t.val t.isLt).2 (ix2 k j) = 0 + part m c t k j := by
  rw [outsAt0_A m c t h]; frame_out
  exact (tile_sq (inK m c) (row t) _ _ _ _ (gate_at m c t) (blk0 m c t) (blk1 m c t) (blk3 m c t) _ k j).trans
    (congrArg (· + _) (zero_at k j))

/-- Every later point adds its part to what the point before left. -/
theorem step (h : ¬ t.val % 16 = 0) (k : Fin 8) (j : Fin 1024) :
    (outsAt0 m c t.val t.isLt).2 (ix2 k j)
      = (outsAt0 m c (t.val - 1) (Nat.lt_of_le_of_lt (Nat.sub_le _ _) t.isLt)).2 (ix2 k j) + part m c t k j := by
  rw [outsAt0_B m c t h]; frame_out
  exact tile_sq (inK m c) (row t) _ _ _ _ (gate_at m c t) (blk0 m c t) (blk1 m c t) (blk3 m c t) _ k j

/-- The gradient. -/
theorem final4 : (dats m 0 c).arrAt 4 cfg0.N = fun i => dy (inK m c) (i 0) (i 1) := by
  refine (dats m 0 c).arrAt_eq_of_covers 4 _ (by decide +kernel) fun t hf y => ?_
  blk_simp
  rw [after0_4]
  idx_vars y
  refine (dy_at m c t _ _).trans (congrArg₂ (dy (inK m c)) (Fin.ext ?_) (Fin.ext ?_))
  · unfold row
    blk_simp [idx t]
  · blk_simp [idx t]

/-- A point's rows, eight at a time, are rows of the whole. -/
theorem row_at8 (q : Fin 64) (k : Fin 8) (n : Fin 1024) (h : n.val = t.val * 64 + q.val) : row t (in8 q k) = at8 n k := by
  refine Fin.ext ?_
  simp only [row, in8, at8, h]
  omega

/-- The sum of the squared errors. -/
theorem final5 : (dats m 0 c).arrAt 5 cfg0.N = fun i => loss (inK m c) (i 0) (i 1) := by
  refine (dats m 0 c).arrAt_eq_of_after_last 5 t0_15 (by decide +kernel) _ fun j => ?_
  blk_simp
  idx_vars j
  rw [after0_5, Pipeline.eq_sum_fin_of_reset_step_apply_last (fun n h => (outsAt0 m c n h).2) 16 (fun _ => 0) (fun p y => part m c p (y 0) (y 1))
    (fun t h j => by idx_vars j; exact first m c t h _ _) (fun t h j => by idx_vars j; exact step m c t h _ _) (le_of_eq N_0) t0_15 rfl _, zero_add]
  show (∑ t : Fin cfg0.N, part m c t j0 j1) = loss (inK m c) j0 j1
  unfold part loss sq
  exact Fin.sum_mul_add_congr fun t q hl => by rw [row_at8 t q j0 ⟨_, hl⟩ rfl]

end Cert.LossGrad

end
-- ==== Proof.LossGradClaim.lean ====
/-
  The claims about the call for the loss.
-/
module

public import proofs.«01_k».proof.Defs
public import proofs.«01_k».proof.Proof.Gen.Kernel15.Frame
public import proofs.«01_k».proof.Proof.Gen.Reference15Ideal.Read
public import proofs.«01_k».proof.Proof.LossGrad
public import proofs.«01_k».proof.Proof.NormLastClaim

@[expose] public section

set_option maxRecDepth 16384

noncomputable section

namespace Cert.LossGrad

open Idealize.ShloMosaic Idealize.ShloMosaic.TcCoe
open Cert.Reference15Ideal.Read
open Cert.Norm (half)

/-- The kernel as written runs and leaves its arguments as they were. -/
theorem frame : Cert.quiescent_Kernel15 (hKernel15 := Cert.Kernel15.Gen.facts) := fun m ρ _ => Cert.Kernel15.Gen.frame m ρ

/-- The kernel over the reals runs and leaves its arguments as they were. -/
theorem frameIdeal : Cert.quiescent_Kernel15Ideal (hKernel15Ideal := Cert.Kernel15Ideal.Gen.facts) :=
  fun m ρ _ => Cert.Kernel15Ideal.Gen.frame m ρ

/-- The reference runs and leaves its arguments as they were. -/
theorem frameRef : Cert.quiescent_Reference15Ideal (hReference15Ideal := Cert.Reference15Ideal.Gen.facts) := by
  intro m g _
  exact (θ_run Cert.Reference15Ideal.defs _ _).mono (fun r h => ⟨fun c => (h c).2.2,
    Idealize.ShloMosaic.sem_eq_zero_of_no_sems (by decide) r.2⟩) (Cert.Reference15Ideal.Value.run m g)

section
variable (x0 x1 x2 : FVec Ideal Cert.Kernel15Ideal.S8192x1024 .f32) (x3 : FVec Ideal Cert.Kernel15Ideal.S3x1024 .f32) (r : Fin 8192)
  (j : Fin 1024)

/-- The reference's error, where the rules of differentiation take it. -/
theorem ref_err : val_main_v6 (F := Ideal) x0 x1 x2 x3 (ix2 r j) = err (inOf x0 x1 x2 x3) r j := by
  pointwise [val_main_v6, val_main_v5, val_main_v4, val_main_v3, val_main_v2, val_main_v1, val_main_cst, val_main_v0]
  rfl

/-- The reference's error, where the sum of the squares takes it. -/
theorem ref_err' : val_main_v30 (F := Ideal) x0 x1 x2 x3 (ix2 r j) = err (inOf x0 x1 x2 x3) r j := by
  pointwise [val_main_v30, val_main_v29, val_main_v28, val_main_v27, val_main_v26, val_main_v25, val_main_cst_8, val_main_v24]
  rfl

/-- The reference's gradient. -/
theorem ref_dy : val_main_v23 (F := Ideal) x0 x1 x2 x3 (ix2 r j) = dy (inOf x0 x1 x2 x3) r j := by
  unfold dy
  rw [← Cert.NormLast.err_eq]
  pointwise [val_main_v23, val_main_v22, val_main_v21, val_main_v20, val_main_v19, val_main_v18, val_main_v17, val_main_cst_7,
    val_main_v16, val_main_v15, val_main_cst_5, val_main_cst_6, val_main_v9, val_main_v8, val_main_cst_0, val_main_v2, val_main_v1, val_main_cst,
    val_main_v0, ref_err x0 x1 x2 x3]
  rfl

/-- The reference's sum of the squared errors. -/
theorem ref_loss (k : Fin 8) : val_main_v33 (F := Ideal) x0 x1 x2 x3 (ix2 k j) = loss (inOf x0 x1 x2 x3) k j := by
  pointwise [val_main_v33, val_main_cst_9]
  unfold loss sq
  refine Finset.sum_congr rfl fun n _ => ?_
  rw [← ref_err' x0 x1 x2 x3]
  pointwise [val_main_v32, val_main_v31]
  rfl

end

/-- The kernel's two results are the reference's. -/
theorem value : Cert.algebraic_Kernel15Ideal_Reference15Ideal (hKernel15Ideal := Cert.Kernel15Ideal.Gen.facts)
    (hReference15Ideal := Cert.Reference15Ideal.Gen.facts) := by
  pair_intro
  · run_from Cert.Kernel15Ideal.Value.run_blocks m g
  · run_from Cert.Reference15Ideal.Value.run m' g'
    · refine (Cert.Reference15Ideal.Read.val_main_v23_eq (F := Ideal) _ _ _ _).trans (Eq.trans ?_ (final4 m c).symm)
      funext i
      idx_vars i
      exact ref_dy _ _ _ _ _ _
    · refine (Cert.Reference15Ideal.Read.val_main_v33_eq (F := Ideal) _ _ _ _).trans (Eq.trans ?_ (final5 m c).symm)
      funext i
      idx_vars i
      exact ref_loss _ _ _ _ _ _

end Cert.LossGrad

end
-- ==== Proof.AdamSpec.lean ====
/-
  One step of AdamW on one entry: the new moments and the change of the weight.
-/
module

public import Idealize.ShloMosaic.PureOps.Ideal

@[expose] public section

noncomputable section

namespace Cert.Adam

open Idealize.ShloMosaic

/-- The first moment's decay. -/
abbrev b1 : EReal := Ideal.ofBits .f32 1063675494#32
/-- The gradient's weight in the first moment. -/
abbrev a1 : EReal := Ideal.ofBits .f32 1036831949#32
/-- The second moment's decay. -/
abbrev b2 : EReal := Ideal.ofBits .f32 1065336439#32
/-- The squared gradient's weight in the second moment. -/
abbrev a2 : EReal := Ideal.ofBits .f32 981668463#32
/-- The first moment's bias correction. -/
abbrev c1 : EReal := Ideal.ofBits .f32 1059503362#32
/-- The second moment's bias correction. -/
abbrev c2 : EReal := Ideal.ofBits .f32 1008933580#32
/-- The denominator's summand. -/
abbrev eps : EReal := Ideal.ofBits .f32 841731191#32
/-- The weight decay. -/
abbrev wd : EReal := Ideal.ofBits .f32 1008981770#32
/-- The learning rate, negative. -/
abbrev nlr : EReal := Ideal.ofBits .f32 3129152111#32

/-- The new first moment. -/
def mom (g m : EReal) : EReal := b1 * m + a1 * g
/-- The new second moment. -/
def var (g v : EReal) : EReal := b2 * v + a2 * (g * g)
/-- The change of the weight. -/
def delta (w g m v : EReal) : EReal :=
  nlr * (Ideal.div (Ideal.div (mom g m) c1) (Ideal.sqrt (Ideal.div (var g v) c2) + eps) + wd * w)

end Cert.Adam

end
-- ==== Proof.AdamW.lean ====
/-
  The kernel's AdamW call on one weight's share, tile by tile.
-/
module

public import proofs.«01_k».proof.Proof.Gen.Kernel16Ideal.Value
public import proofs.«01_k».proof.Proof.AdamSpec
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.AdamW

open Idealize.ShloMosaic Idealize.ShloMosaic.TcCoe
open Cert.Kernel16Ideal Cert.Kernel16Ideal.Gen
open Cert.Adam (mom var delta)

section Tile
variable (G W M V : FVec Ideal S352x1024 .f32) (g w mm v : Fin 352 → Fin 1024 → EReal)

/-- A tile of the first moment. -/
theorem tile_m (hg : ∀ p j, G (ix2 p j) = g p j) (hm : ∀ p j, M (ix2 p j) = mm p j) (p : Fin 352) (j : Fin 1024) :
    k0_pay1 (F := Ideal) G M (ix2 p j) = mom (g p j) (mm p j) := by
  pointwise [k0_pay1, hg, hm]
  rfl

/-- A tile of the second moment. -/
theorem tile_v (hg : ∀ p j, G (ix2 p j) = g p j) (hv : ∀ p j, V (ix2 p j) = v p j) (p : Fin 352) (j : Fin 1024) :
    k0_pay2 (F := Ideal) G V (ix2 p j) = var (g p j) (v p j) := by
  pointwise [k0_pay2, hg, hv]
  rfl

/-- A tile of the weight's change. -/
theorem tile_d (hg : ∀ p j, G (ix2 p j) = g p j) (hw : ∀ p j, W (ix2 p j) = w p j) (hm : ∀ p j, M (ix2 p j) = mm p j)
    (hv : ∀ p j, V (ix2 p j) = v p j) (p : Fin 352) (j : Fin 1024) :
    k0_pay3 (F := Ideal) G W M V (ix2 p j) = delta (w p j) (g p j) (mm p j) (v p j) := by
  pointwise [k0_pay3, tile_m G M g mm hg hm, tile_v G V g v hg hv, hw]
  rfl

end Tile

variable (m : (ℓ : Loc nD τ sig) → Buf (Elt Ideal) ℓ) (c : Dev nD)

/-- The program's weight. -/
def wK (r : Fin 704) (j : Fin 1024) : EReal := m ((c : Thread nD τ).loc main_arg0) (ix2 r j)
/-- Its gradient. -/
def gK (r : Fin 704) (j : Fin 1024) : EReal := m ((c : Thread nD τ).loc main_arg1) (ix2 r j)
/-- Its first moment. -/
def mK (r : Fin 704) (j : Fin 1024) : EReal := m ((c : Thread nD τ).loc main_arg2) (ix2 r j)
/-- Its second moment. -/
def vK (r : Fin 704) (j : Fin 1024) : EReal := m ((c : Thread nD τ).loc main_arg3) (ix2 r j)

/-- Which blocks point `t` reads and which it writes. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

variable (t : Fin cfg0.N)

/-- Row `p` of point `t`'s tile. -/
def row (t : Fin cfg0.N) (p : Fin 352) : Fin 704 := ⟨t.val * 352 + p.val, by have := t.isLt; have : cfg0.N = 2 := N_0; omega⟩

/-- The point's block of the weight. -/
theorem blk0 (p : Fin 352) (j : Fin 1024) : iblk m c 0 t (ix2 p j) = wK m c (row t p) j := by
  pointwise [wK, row]
  blk_point [iblk, V, idx t]

/-- The point's block of the gradient. -/
theorem blk1 (p : Fin 352) (j : Fin 1024) : iblk m c 1 t (ix2 p j) = gK m c (row t p) j := by
  pointwise [gK, row]
  blk_point [iblk, V, idx t]

/-- The point's block of the first moment. -/
theorem blk2 (p : Fin 352) (j : Fin 1024) : iblk m c 2 t (ix2 p j) = mK m c (row t p) j := by
  pointwise [mK, row]
  blk_point [iblk, V, idx t]

/-- The point's block of the second moment. -/
theorem blk3 (p : Fin 352) (j : Fin 1024) : iblk m c 3 t (ix2 p j) = vK m c (row t p) j := by
  pointwise [vK, row]
  blk_point [iblk, V, idx t]

/-- The point passes its tile of the gradient on. -/
theorem g_at (p : Fin 352) (j : Fin 1024) : out0_4 (iblk m c 0 t) (iblk m c 1 t) (iblk m c 2 t) (iblk m c 3 t) (ix2 p j) = gK m c (row t p) j := by
  frame_out
  exact blk1 m c t p j

/-- The point leaves its tile of the weight's change. -/
theorem d_at (p : Fin 352) (j : Fin 1024) : out0_5 (iblk m c 0 t) (iblk m c 1 t) (iblk m c 2 t) (iblk m c 3 t) (ix2 p j)
    = delta (wK m c (row t p) j) (gK m c (row t p) j) (mK m c (row t p) j) (vK m c (row t p) j) := by
  frame_out
  exact tile_d _ _ _ _ _ _ _ _ (blk1 m c t) (blk0 m c t) (blk2 m c t) (blk3 m c t) p j

/-- The point leaves its tile of the first moment. -/
theorem m_at (p : Fin 352) (j : Fin 1024) : out0_6 (iblk m c 0 t) (iblk m c 1 t) (iblk m c 2 t) (iblk m c 3 t) (ix2 p j) = mom (gK m c (row t p) j) (mK m c (row t p) j) := by
  frame_out
  exact tile_m _ _ _ _ (blk1 m c t) (blk2 m c t) p j

/-- The point leaves its tile of the second moment. -/
theorem v_at (p : Fin 352) (j : Fin 1024) : out0_7 (iblk m c 0 t) (iblk m c 1 t) (iblk m c 2 t) (iblk m c 3 t) (ix2 p j) = var (gK m c (row t p) j) (vK m c (row t p) j) := by
  frame_out
  exact tile_v _ _ _ _ (blk1 m c t) (blk3 m c t) p j

/-- The gradient passed on. -/
theorem final4 : (dats m 0 c).arrAt 4 cfg0.N = m ((c : Thread nD τ).loc main_arg1) := by
  refine (dats m 0 c).arrAt_eq_of_covers 4 _ (by decide +kernel) fun t hf y => ?_
  blk_simp
  rw [after0_4]
  idx_vars y
  refine (g_at m c t _ _).trans (congrArg (m ((c : Thread nD τ).loc main_arg1)) ?_)
  unfold row
  blk_ext [idx t]

/-- The weight's change. -/
theorem final5 : (dats m 0 c).arrAt 5 cfg0.N = fun i => delta (wK m c (i 0) (i 1)) (gK m c (i 0) (i 1)) (mK m c (i 0) (i 1)) (vK m c (i 0) (i 1)) := by
  refine (dats m 0 c).arrAt_eq_of_covers 5 _ (by decide +kernel) fun t hf y => ?_
  blk_simp
  rw [after0_5]
  idx_vars y
  refine (d_at m c t _ _).trans (congrArg₂ (fun r j => delta (wK m c r j) (gK m c r j) (mK m c r j) (vK m c r j)) (Fin.ext ?_) (Fin.ext ?_))
  · unfold row
    blk_simp [idx t]
  · blk_simp [idx t]

/-- The first moment. -/
theorem final6 : (dats m 0 c).arrAt 6 cfg0.N = fun i => mom (gK m c (i 0) (i 1)) (mK m c (i 0) (i 1)) := by
  refine (dats m 0 c).arrAt_eq_of_covers 6 _ (by decide +kernel) fun t hf y => ?_
  blk_simp
  rw [after0_6]
  idx_vars y
  refine (m_at m c t _ _).trans (congrArg₂ (fun r j => mom (gK m c r j) (mK m c r j)) (Fin.ext ?_) (Fin.ext ?_))
  · unfold row
    blk_simp [idx t]
  · blk_simp [idx t]

/-- The second moment. -/
theorem final7 : (dats m 0 c).arrAt 7 cfg0.N = fun i => var (gK m c (i 0) (i 1)) (vK m c (i 0) (i 1)) := by
  refine (dats m 0 c).arrAt_eq_of_covers 7 _ (by decide +kernel) fun t hf y => ?_
  blk_simp
  rw [after0_7]
  idx_vars y
  refine (v_at m c t _ _).trans (congrArg₂ (fun r j => var (gK m c r j) (vK m c r j)) (Fin.ext ?_) (Fin.ext ?_))
  · unfold row
    blk_simp [idx t]
  · blk_simp [idx t]

end Cert.AdamW

end
-- ==== Proof.AdamWClaim.lean ====
/-
  The claims about the AdamW call on one weight's share.
-/
module

public import proofs.«01_k».proof.Defs
public import proofs.«01_k».proof.Proof.Gen.Kernel16.Frame
public import proofs.«01_k».proof.Proof.Gen.Reference16Ideal.Read
public import proofs.«01_k».proof.Proof.AdamW

@[expose] public section

set_option maxRecDepth 16384

noncomputable section

namespace Cert.AdamW

open Idealize.ShloMosaic Idealize.ShloMosaic.TcCoe
open Cert.Reference16Ideal.Read
open Cert.Adam (mom var delta)

/-- The kernel as written runs and leaves its arguments as they were. -/
theorem frame : Cert.quiescent_Kernel16 (hKernel16 := Cert.Kernel16.Gen.facts) := fun m ρ _ => Cert.Kernel16.Gen.frame m ρ

/-- The kernel over the reals runs and leaves its arguments as they were. -/
theorem frameIdeal : Cert.quiescent_Kernel16Ideal (hKernel16Ideal := Cert.Kernel16Ideal.Gen.facts) :=
  fun m ρ _ => Cert.Kernel16Ideal.Gen.frame m ρ

/-- The reference runs and leaves its arguments as they were. -/
theorem frameRef : Cert.quiescent_Reference16Ideal (hReference16Ideal := Cert.Reference16Ideal.Gen.facts) := by
  intro m g _
  exact (θ_run Cert.Reference16Ideal.defs _ _).mono (fun r h => ⟨fun c => (h c).2.2.2.2,
    Idealize.ShloMosaic.sem_eq_zero_of_no_sems (by decide) r.2⟩) (Cert.Reference16Ideal.Value.run m g)

section
variable (x0 x1 x2 x3 : FVec Ideal Cert.Kernel16Ideal.S704x1024 .f32) (r : Fin 704) (j : Fin 1024)

/-- The reference's first moment. -/
theorem ref_m : val_main_v4 (F := Ideal) x1 x2 (ix2 r j) = mom (x1 (ix2 r j)) (x2 (ix2 r j)) := by
  pointwise [val_main_v4, val_main_v3, val_main_v2, val_main_v1, val_main_v0, val_main_cst, val_main_cst_0]
  rfl

/-- The reference's second moment. -/
theorem ref_v : val_main_v10 (F := Ideal) x1 x3 (ix2 r j) = var (x1 (ix2 r j)) (x3 (ix2 r j)) := by
  pointwise [val_main_v10, val_main_v9, val_main_v8, val_main_v7, val_main_v6, val_main_v5, val_main_cst_1, val_main_cst_2]
  rfl

/-- The reference's change of the weight. -/
theorem ref_d : val_main_v23 (F := Ideal) x0 x1 x2 x3 (ix2 r j)
    = delta (x0 (ix2 r j)) (x1 (ix2 r j)) (x2 (ix2 r j)) (x3 (ix2 r j)) := by
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7,
    ref_m x1 x2, ref_v x1 x3]
  rfl

end

/-- The kernel's four results are the reference's. -/
theorem value : Cert.algebraic_Kernel16Ideal_Reference16Ideal (hKernel16Ideal := Cert.Kernel16Ideal.Gen.facts)
    (hReference16Ideal := Cert.Reference16Ideal.Gen.facts) := by
  pair_intro
  · run_from Cert.Kernel16Ideal.Value.run_blocks m g
  · run_from Cert.Reference16Ideal.Value.run m' g'
    · exact (final4 m c).symm
    · refine (Cert.Reference16Ideal.Read.val_main_v23_eq (F := Ideal) _ _ _ _).trans (Eq.trans ?_ (final5 m c).symm)
      funext i
      idx_vars i
      exact ref_d _ _ _ _ _ _
    · refine (Cert.Reference16Ideal.Read.val_main_v4_eq (F := Ideal) _ _).trans (Eq.trans ?_ (final6 m c).symm)
      funext i
      idx_vars i
      exact ref_m _ _ _ _
    · refine (Cert.Reference16Ideal.Read.val_main_v10_eq (F := Ideal) _ _).trans (Eq.trans ?_ (final7 m c).symm)
      funext i
      idx_vars i
      exact ref_v _ _ _ _

end Cert.AdamW

end
-- ==== Proof.AdaFwd.lean ====
/-
  The kernel's call for a chip's columns of the modulation, tile by tile.
-/
module

public import proofs.«01_k».proof.Proof.Gen.Kernel17Ideal.Value
public import proofs.«01_k».proof.Proof.MixSpec
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.AdaFwd

open Idealize.ShloMosaic Idealize.ShloMosaic.TcCoe
open Cert.Kernel17Ideal Cert.Kernel17Ideal.Gen

/-- The conditioning's activation. -/
def act (c : Fin 8 → Fin 1024 → EReal) (b : Fin 8) (k : Fin 1024) : EReal := c b k * Ideal.logistic (c b k)

/-- The modulation, at one entry: the activation against a column of the weight, and the column's bias. -/
def mod (c : Fin 8 → Fin 1024 → EReal) (w : Fin 1024 → Fin 2304 → EReal) (s : Fin 2304 → EReal) (b : Fin 8) (j : Fin 2304) : EReal :=
  (∑ k, act c b k * w k j) + s j

/-- A tile of the modulation. -/
theorem tile (C : FVec Ideal S8x1024 .f32) (W : FVec Ideal S1024x128 .f32) (B : FVec Ideal S1x128 .f32) (f : Fin 8 → Fin 1024 → EReal)
    (w : Fin 1024 → Fin 2304 → EReal) (s : Fin 2304 → EReal) (J : Fin 128 → Fin 2304) (hc : ∀ b k, C (ix2 b k) = f b k)
    (hw : ∀ k q, W (ix2 k q) = w k (J q)) (hb : ∀ q, B (ix2 0 q) = s (J q)) (b : Fin 8) (q : Fin 128) :
    k0_pay1 (F := Ideal) C W B (ix2 b q) = mod f w s b (J q) := by
  pointwise [k0_pay1, hc, hw, hb]
  simp only [Cert.Mix.half_tanh]
  rfl

variable (m : (ℓ : Loc nD τ sig) → Buf (Elt Ideal) ℓ) (c : Dev nD)

/-- The program's conditioning. -/
def cK (b : Fin 8) (k : Fin 1024) : EReal := m ((c : Thread nD τ).loc main_arg0) (ix2 b k)
/-- Its weight. -/
def wK (k : Fin 1024) (j : Fin 2304) : EReal := m ((c : Thread nD τ).loc main_arg1) (ix2 k j)
/-- Its bias. -/
def sK (j : Fin 2304) : EReal := m ((c : Thread nD τ).loc main_arg2) (ix2 0 j)

/-- Which blocks point `t` reads and which it writes. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

variable (t : Fin cfg0.N)

/-- Column `q` of point `t`'s tile. -/
def col (t : Fin cfg0.N) (q : Fin 128) : Fin 2304 := ⟨t.val * 128 + q.val, by have := t.isLt; have : cfg0.N = 18 := N_0; omega⟩

/-- The point's block of the conditioning, which is all of it. -/
theorem blk0 (b : Fin 8) (k : Fin 1024) : iblk m c 0 t (ix2 b k) = cK m c b k := by
  pointwise [cK]
  blk_point [iblk, V, idx t]

/-- The point's block of the weight. -/
theorem blk1 (k : Fin 1024) (q : Fin 128) : iblk m c 1 t (ix2 k q) = wK m c k (col t q) := by
  pointwise [wK, col]
  blk_point [iblk, V, idx t]

/-- The point's block of the bias. -/
theorem blk2 (q : Fin 128) : iblk m c 2 t (ix2 (0 : Fin 1) q) = sK m c (col t q) := by
  pointwise [sK, col]
  blk_point [iblk, V, idx t]

/-- The point leaves its tile of the modulation. -/
theorem mod_at (b : Fin 8) (q : Fin 128) :
    out0_3 (iblk m c 0 t) (iblk m c 1 t) (iblk m c 2 t) (ix2 b q) = mod (cK m c) (wK m c) (sK m c) b (col t q) := by
  frame_out
  exact tile _ _ _ _ _ _ (col t) (blk0 m c t) (blk1 m c t) (blk2 m c t) b q

/-- The modulation. -/
theorem final3 : (dats m 0 c).arrAt 3 cfg0.N = fun i => mod (cK m c) (wK m c) (sK m c) (i 0) (i 1) := by
  refine (dats m 0 c).arrAt_eq_of_covers 3 _ (by decide +kernel) fun t hf y => ?_
  blk_simp
  rw [after0_3]
  idx_vars y
  refine (mod_at m c t _ _).trans (congrArg₂ (mod (cK m c) (wK m c) (sK m c)) (Fin.ext ?_) (Fin.ext ?_))
  · blk_simp [idx t]
  · unfold col
    blk_simp [idx t]

end Cert.AdaFwd

end
-- ==== Proof.AdaFwdClaim.lean ====
/-
  The claims about the call for a chip's columns of the modulation.
-/
module

public import proofs.«01_k».proof.Defs
public import proofs.«01_k».proof.Proof.Gen.Kernel17.Frame
public import proofs.«01_k».proof.Proof.Gen.Reference17Ideal.Read
public import proofs.«01_k».proof.Proof.AdaFwd

@[expose] public section

set_option maxRecDepth 16384

noncomputable section

namespace Cert.AdaFwd

open Idealize.ShloMosaic Idealize.ShloMosaic.TcCoe
open Cert.Reference17Ideal.Read

/-- The kernel as written runs and leaves its arguments as they were. -/
theorem frame : Cert.quiescent_Kernel17 (hKernel17 := Cert.Kernel17.Gen.facts) := fun m ρ _ => Cert.Kernel17.Gen.frame m ρ

/-- The kernel over the reals runs and leaves its arguments as they were. -/
theorem frameIdeal : Cert.quiescent_Kernel17Ideal (hKernel17Ideal := Cert.Kernel17Ideal.Gen.facts) :=
  fun m ρ _ => Cert.Kernel17Ideal.Gen.frame m ρ

/-- The reference runs and leaves its arguments as they were. -/
theorem frameRef : Cert.quiescent_Reference17Ideal (hReference17Ideal := Cert.Reference17Ideal.Gen.facts) := by
  intro m g _
  exact (θ_run Cert.Reference17Ideal.defs _ _).mono (fun r h => ⟨fun c => (h c).2,
    Idealize.ShloMosaic.sem_eq_zero_of_no_sems (by decide) r.2⟩) (Cert.Reference17Ideal.Value.run m g)

section
variable (x0 : FVec Ideal Cert.Kernel17Ideal.S8x1024 .f32) (x1 : FVec Ideal Cert.Kernel17Ideal.S1024x2304 .f32)
  (x2 : FVec Ideal Cert.Kernel17Ideal.S1x2304 .f32) (b : Fin 8)

/-- The reference's activation. -/
theorem ref_act (k : Fin 1024) : val_main_v0 (F := Ideal) x0 (ix2 b k) = act (fun b k => x0 (ix2 b k)) b k := by
  unfold act
  pointwise [val_main_v0, val_main_call0_v5, val_main_call0_v4, val_main_call0_v3, val_main_call0_v2, val_main_call0_v1, val_main_call0_v0,
    val_main_call0_cst, val_main_call0_cst_0, Ideal.logistic]

/-- The reference's modulation. -/
theorem ref_mod (j : Fin 2304) : val_main_v3 (F := Ideal) x0 x1 x2 (ix2 b j)
    = mod (fun b k => x0 (ix2 b k)) (fun k j => x1 (ix2 k j)) (fun j => x2 (ix2 0 j)) b j := by
  unfold mod
  pointwise [val_main_v3, val_main_v2, val_main_v1, ref_act x0]

end

/-- The kernel's result is the reference's. -/
theorem value : Cert.algebraic_Kernel17Ideal_Reference17Ideal (hKernel17Ideal := Cert.Kernel17Ideal.Gen.facts)
    (hReference17Ideal := Cert.Reference17Ideal.Gen.facts) := by
  pair_intro
  · run_from Cert.Kernel17Ideal.Value.run_blocks m g
  · run_from Cert.Reference17Ideal.Value.run m' g'
    · refine (Cert.Reference17Ideal.Read.val_main_v3_eq (F := Ideal) _ _ _).trans (Eq.trans ?_ (final3 m c).symm)
      funext i
      idx_vars i
      exact ref_mod _ _ _ _ _

end Cert.AdaFwd

end
-- ==== Proof.AdaBwd.lean ====
/-
  The kernel's call for the gradient of a chip's columns of the modulation's weight and their AdamW step, tile by tile.
-/
module

public import proofs.«01_k».proof.Proof.Gen.Kernel18Ideal.Value
public import proofs.«01_k».proof.Proof.AdamSpec
public import proofs.«01_k».proof.Proof.MixSpec
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.AdaBwd

open Idealize.ShloMosaic Idealize.ShloMosaic.TcCoe
open Cert.Kernel18Ideal Cert.Kernel18Ideal.Gen
open Cert.Adam (mom var delta)

/-- The weight's gradient, at one entry: the conditioning's activation against the modulation's gradient, over the sequences. -/
def grad (c : Fin 8 → Fin 1024 → EReal) (d : Fin 8 → Fin 2304 → EReal) (i : Fin 1024) (j : Fin 2304) : EReal :=
  ∑ b, c b i * Ideal.logistic (c b i) * d b j

section Tile
variable (C : FVec Ideal S8x1024 .f32) (D : FVec Ideal S8x128 .f32) (W M V : FVec Ideal S1024x128 .f32) (f : Fin 8 → Fin 1024 → EReal)
  (d : Fin 8 → Fin 2304 → EReal) (w mm v : Fin 1024 → Fin 2304 → EReal) (J : Fin 128 → Fin 2304)

/-- A tile of the gradient. -/
theorem tile_g (hc : ∀ b k, C (ix2 b k) = f b k) (hd : ∀ b q, D (ix2 b q) = d b (J q)) (i : Fin 1024) (q : Fin 128) :
    k0_pay2 (F := Ideal) C D (ix2 i q) = grad f d i (J q) := by
  pointwise [k0_pay2, hc, hd]
  simp only [Cert.Mix.half_tanh]
  rfl

/-- A tile of the first moment. -/
theorem tile_m (hc : ∀ b k, C (ix2 b k) = f b k) (hd : ∀ b q, D (ix2 b q) = d b (J q)) (hm : ∀ i q, M (ix2 i q) = mm i (J q))
    (i : Fin 1024) (q : Fin 128) : k0_pay3 (F := Ideal) C D M (ix2 i q) = mom (grad f d i (J q)) (mm i (J q)) := by
  pointwise [k0_pay3, tile_g C D f d J hc hd, hm]
  rfl

/-- A tile of the second moment. -/
theorem tile_v (hc : ∀ b k, C (ix2 b k) = f b k) (hd : ∀ b q, D (ix2 b q) = d b (J q)) (hv : ∀ i q, V (ix2 i q) = v i (J q))
    (i : Fin 1024) (q : Fin 128) : k0_pay4 (F := Ideal) C D V (ix2 i q) = var (grad f d i (J q)) (v i (J q)) := by
  pointwise [k0_pay4, tile_g C D f d J hc hd, hv]
  rfl

/-- A tile of the weight's change. -/
theorem tile_d (hc : ∀ b k, C (ix2 b k) = f b k) (hd : ∀ b q, D (ix2 b q) = d b (J q)) (hw : ∀ i q, W (ix2 i q) = w i (J q))
    (hm : ∀ i q, M (ix2 i q) = mm i (J q)) (hv : ∀ i q, V (ix2 i q) = v i (J q)) (i : Fin 1024) (q : Fin 128) :
    k0_pay1 (F := Ideal) W (k0_pay5 C D M V) (Scalar.ofBits .f32 0x3C23D70A#32) (ix2 i q)
      = delta (w i (J q)) (grad f d i (J q)) (mm i (J q)) (v i (J q)) := by
  pointwise [k0_pay1, k0_pay5, tile_m C D M f d mm J hc hd hm, tile_v C D V f d v J hc hd hv, hw]
  rfl

end Tile

variable (m : (ℓ : Loc nD τ sig) → Buf (Elt Ideal) ℓ) (c : Dev nD)

/-- The program's conditioning. -/
def cK (b : Fin 8) (k : Fin 1024) : EReal := m ((c : Thread nD τ).loc main_arg0) (ix2 b k)
/-- The modulation's gradient. -/
def dK (b : Fin 8) (j : Fin 2304) : EReal := m ((c : Thread nD τ).loc main_arg1) (ix2 b j)
/-- The weight. -/
def wK (i : Fin 1024) (j : Fin 2304) : EReal := m ((c : Thread nD τ).loc main_arg2) (ix2 i j)
/-- Its first moment. -/
def mK (i : Fin 1024) (j : Fin 2304) : EReal := m ((c : Thread nD τ).loc main_arg3) (ix2 i j)
/-- Its second moment. -/
def vK (i : Fin 1024) (j : Fin 2304) : EReal := m ((c : Thread nD τ).loc main_arg4) (ix2 i j)
/-- Its gradient. -/
def gK : Fin 1024 → Fin 2304 → EReal := grad (cK m c) (dK m c)

/-- Which blocks point `t` reads and which it writes. -/
theorem idx : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

variable (t : Fin cfg0.N)

/-- Column `q` of point `t`'s tile. -/
def col (t : Fin cfg0.N) (q : Fin 128) : Fin 2304 := ⟨t.val * 128 + q.val, by have := t.isLt; have : cfg0.N = 18 := N_0; omega⟩

/-- The point's block of the conditioning, which is all of it. -/
theorem blk0 (b : Fin 8) (k : Fin 1024) : iblk m c 0 t (ix2 b k) = cK m c b k := by
  pointwise [cK]
  blk_point [iblk, V, idx t]

/-- The point's block of the modulation's gradient. -/
theorem blk1 (b : Fin 8) (q : Fin 128) : iblk m c 1 t (ix2 b q) = dK m c b (col t q) := by
  pointwise [dK, col]
  blk_point [iblk, V, idx t]

/-- The point's block of the weight. -/
theorem blk2 (i : Fin 1024) (q : Fin 128) : iblk m c 2 t (ix2 i q) = wK m c i (col t q) := by
  pointwise [wK, col]
  blk_point [iblk, V, idx t]

/-- The point's block of the first moment. -/
theorem blk3 (i : Fin 1024) (q : Fin 128) : iblk m c 3 t (ix2 i q) = mK m c i (col t q) := by
  pointwise [mK, col]
  blk_point [iblk, V, idx t]

/-- The point's block of the second moment. -/
theorem blk4 (i : Fin 1024) (q : Fin 128) : iblk m c 4 t (ix2 i q) = vK m c i (col t q) := by
  pointwise [vK, col]
  blk_point [iblk, V, idx t]

/-- The point leaves its tile of the gradient. -/
theorem g_at (i : Fin 1024) (q : Fin 128) : out0_5 (iblk m c 0 t) (iblk m c 1 t) (iblk m c 2 t) (iblk m c 3 t) (iblk m c 4 t) (ix2 i q) = gK m c i (col t q) := by
  frame_out
  exact tile_g _ _ _ _ (col t) (blk0 m c t) (blk1 m c t) i q

/-- The point leaves its tile of the weight's change. -/
theorem d_at (i : Fin 1024) (q : Fin 128) : out0_6 (iblk m c 0 t) (iblk m c 1 t) (iblk m c 2 t) (iblk m c 3 t) (iblk m c 4 t) (ix2 i q)
    = delta (wK m c i (col t q)) (gK m c i (col t q)) (mK m c i (col t q)) (vK m c i (col t q)) := by
  frame_out
  exact tile_d _ _ _ _ _ _ _ _ _ _ (col t) (blk0 m c t) (blk1 m c t) (blk2 m c t) (blk3 m c t) (blk4 m c t) i q

/-- The point leaves its tile of the first moment. -/
theorem m_at (i : Fin 1024) (q : Fin 128) : out0_7 (iblk m c 0 t) (iblk m c 1 t) (iblk m c 2 t) (iblk m c 3 t) (iblk m c 4 t) (ix2 i q)
    = mom (gK m c i (col t q)) (mK m c i (col t q)) := by
  frame_out
  exact tile_m _ _ _ _ _ _ (col t) (blk0 m c t) (blk1 m c t) (blk3 m c t) i q

/-- The point leaves its tile of the second moment. -/
theorem v_at (i : Fin 1024) (q : Fin 128) : out0_8 (iblk m c 0 t) (iblk m c 1 t) (iblk m c 2 t) (iblk m c 3 t) (iblk m c 4 t) (ix2 i q)
    = var (gK m c i (col t q)) (vK m c i (col t q)) := by
  frame_out
  exact tile_v _ _ _ _ _ _ (col t) (blk0 m c t) (blk1 m c t) (blk4 m c t) i q

/-- The gradient. -/
theorem final5 : (dats m 0 c).arrAt 5 cfg0.N = fun i => gK m c (i 0) (i 1) := by
  refine (dats m 0 c).arrAt_eq_of_covers 5 _ (by decide +kernel) fun t hf y => ?_
  blk_simp
  rw [after0_5]
  idx_vars y
  refine (g_at m c t _ _).trans (congrArg₂ (gK m c) (Fin.ext ?_) (Fin.ext ?_))
  · blk_simp [idx t]
  · unfold col
    blk_simp [idx t]

/-- The weight's change. -/
theorem final6 : (dats m 0 c).arrAt 6 cfg0.N = fun i => delta (wK m c (i 0) (i 1)) (gK m c (i 0) (i 1)) (mK m c (i 0) (i 1)) (vK m c (i 0) (i 1)) := by
  refine (dats m 0 c).arrAt_eq_of_covers 6 _ (by decide +kernel) fun t hf y => ?_
  blk_simp
  rw [after0_6]
  idx_vars y
  refine (d_at m c t _ _).trans (congrArg₂ (fun r j => delta (wK m c r j) (gK m c r j) (mK m c r j) (vK m c r j)) (Fin.ext ?_) (Fin.ext ?_))
  · blk_simp [idx t]
  · unfold col
    blk_simp [idx t]

/-- The first moment. -/
theorem final7 : (dats m 0 c).arrAt 7 cfg0.N = fun i => mom (gK m c (i 0) (i 1)) (mK m c (i 0) (i 1)) := by
  refine (dats m 0 c).arrAt_eq_of_covers 7 _ (by decide +kernel) fun t hf y => ?_
  blk_simp
  rw [after0_7]
  idx_vars y
  refine (m_at m c t _ _).trans (congrArg₂ (fun r j => mom (gK m c r j) (mK m c r j)) (Fin.ext ?_) (Fin.ext ?_))
  · blk_simp [idx t]
  · unfold col
    blk_simp [idx t]

/-- The second moment. -/
theorem final8 : (dats m 0 c).arrAt 8 cfg0.N = fun i => var (gK m c (i 0) (i 1)) (vK m c (i 0) (i 1)) := by
  refine (dats m 0 c).arrAt_eq_of_covers 8 _ (by decide +kernel) fun t hf y => ?_
  blk_simp
  rw [after0_8]
  idx_vars y
  refine (v_at m c t _ _).trans (congrArg₂ (fun r j => var (gK m c r j) (vK m c r j)) (Fin.ext ?_) (Fin.ext ?_))
  · blk_simp [idx t]
  · unfold col
    blk_simp [idx t]

end Cert.AdaBwd

end
-- ==== Proof.AdaBwdClaim.lean ====
/-
  The claims about the call for the modulation's weight's gradient and AdamW step.
-/
module

public import proofs.«01_k».proof.Defs
public import proofs.«01_k».proof.Proof.Gen.Kernel18.Frame
public import proofs.«01_k».proof.Proof.Gen.Reference18Ideal.Read
public import proofs.«01_k».proof.Proof.AdaBwd

@[expose] public section

set_option maxRecDepth 16384

noncomputable section

namespace Cert.AdaBwd

open Idealize.ShloMosaic Idealize.ShloMosaic.TcCoe
open Cert.Reference18Ideal.Read
open Cert.Adam (mom var delta)

/-- The kernel as written runs and leaves its arguments as they were. -/
theorem frame : Cert.quiescent_Kernel18 (hKernel18 := Cert.Kernel18.Gen.facts) := fun m ρ _ => Cert.Kernel18.Gen.frame m ρ

/-- The kernel over the reals runs and leaves its arguments as they were. -/
theorem frameIdeal : Cert.quiescent_Kernel18Ideal (hKernel18Ideal := Cert.Kernel18Ideal.Gen.facts) :=
  fun m ρ _ => Cert.Kernel18Ideal.Gen.frame m ρ

/-- The reference runs and leaves its arguments as they were. -/
theorem frameRef : Cert.quiescent_Reference18Ideal (hReference18Ideal := Cert.Reference18Ideal.Gen.facts) := by
  intro m g _
  exact (θ_run Cert.Reference18Ideal.defs _ _).mono (fun r h => ⟨fun c => (h c).2.2.2.2,
    Idealize.ShloMosaic.sem_eq_zero_of_no_sems (by decide) r.2⟩) (Cert.Reference18Ideal.Value.run m g)

section
variable (x0 : FVec Ideal Cert.Kernel18Ideal.S8x1024 .f32) (x1 : FVec Ideal Cert.Kernel18Ideal.S8x2304 .f32)
  (x2 x3 x4 : FVec Ideal Cert.Kernel18Ideal.S1024x2304 .f32)

/-- The gradient at the reference's arguments. -/
def gR (i : Fin 1024) (j : Fin 2304) : EReal := grad (fun b k => x0 (ix2 b k)) (fun b j => x1 (ix2 b j)) i j

/-- The reference's activation. -/
theorem ref_act (b : Fin 8) (k : Fin 1024) : val_main_v0 (F := Ideal) x0 (ix2 b k) = x0 (ix2 b k) * Ideal.logistic (x0 (ix2 b k)) := by
  pointwise [val_main_v0, val_main_call0_v5, val_main_call0_v4, val_main_call0_v3, val_main_call0_v2, val_main_call0_v1, val_main_call0_v0,
    val_main_call0_cst, val_main_call0_cst_0, Ideal.logistic]

variable (i : Fin 1024) (j : Fin 2304)

/-- The reference's gradient. -/
theorem ref_g : val_main_v3 (F := Ideal) x0 x1 (ix2 i j) = gR x0 x1 i j := by
  pointwise [val_main_v3, val_main_v2, ref_act x0]
  exact Finset.sum_congr rfl fun b _ => mul_comm _ _

/-- The reference's first moment. -/
theorem ref_m : val_main_v8 (F := Ideal) x0 x1 x3 (ix2 i j) = mom (gR x0 x1 i j) (x3 (ix2 i j)) := by
  pointwise [val_main_v8, val_main_v7, val_main_v6, val_main_v5, val_main_v4, val_main_cst, val_main_cst_0, ref_g x0 x1]
  rfl

/-- The reference's second moment. -/
theorem ref_v : val_main_v14 (F := Ideal) x0 x1 x4 (ix2 i j) = var (gR x0 x1 i j) (x4 (ix2 i j)) := by
  pointwise [val_main_v14, val_main_v13, val_main_v12, val_main_v11, val_main_v10, val_main_v9, val_main_cst_1, val_main_cst_2, ref_g x0 x1]
  rfl

/-- The reference's change of the weight. -/
theorem ref_d : val_main_v27 (F := Ideal) x0 x1 x2 x3 x4 (ix2 i j)
    = delta (x2 (ix2 i j)) (gR x0 x1 i j) (x3 (ix2 i j)) (x4 (ix2 i j)) := by
  pointwise [val_main_v27, val_main_v26, val_main_v25, val_main_v24, val_main_v23, val_main_v22, val_main_v21, val_main_v20, val_main_v19,
    val_main_v18, val_main_v17, val_main_v16, val_main_v15, val_main_cst_3, val_main_cst_4, val_main_cst_5, val_main_cst_6, val_main_cst_7,
    ref_m x0 x1 x3, ref_v x0 x1 x4]
  rfl

end

/-- The kernel's four results are the reference's. -/
theorem value : Cert.algebraic_Kernel18Ideal_Reference18Ideal (hKernel18Ideal := Cert.Kernel18Ideal.Gen.facts)
    (hReference18Ideal := Cert.Reference18Ideal.Gen.facts) := by
  pair_intro
  · run_from Cert.Kernel18Ideal.Value.run_blocks m g
  · run_from Cert.Reference18Ideal.Value.run m' g'
    · refine (Cert.Reference18Ideal.Read.val_main_v3_eq (F := Ideal) _ _).trans (Eq.trans ?_ (final5 m c).symm)
      funext i
      idx_vars i
      exact ref_g _ _ _ _
    · refine (Cert.Reference18Ideal.Read.val_main_v27_eq (F := Ideal) _ _ _ _ _).trans (Eq.trans ?_ (final6 m c).symm)
      funext i
      idx_vars i
      exact ref_d _ _ _ _ _ _ _
    · refine (Cert.Reference18Ideal.Read.val_main_v8_eq (F := Ideal) _ _ _).trans (Eq.trans ?_ (final7 m c).symm)
      funext i
      idx_vars i
      exact ref_m _ _ _ _ _
    · refine (Cert.Reference18Ideal.Read.val_main_v14_eq (F := Ideal) _ _ _).trans (Eq.trans ?_ (final8 m c).symm)
      funext i
      idx_vars i
      exact ref_v _ _ _ _ _

end Cert.AdaBwd

end
-- ==== Proof.lean ====
/-
  Every claim of the certificate, one call after the other; each call's claims are proved in its own module.
-/
module

public import proofs.«01_k».proof.Defs
public import proofs.«01_k».proof.Proof.MixClaim
public import proofs.«01_k».proof.Proof.FfnBwdClaim
public import proofs.«01_k».proof.Proof.FfnDwInClaim
public import proofs.«01_k».proof.Proof.FfnDwDownClaim
public import proofs.«01_k».proof.Proof.InProjBwdClaim
public import proofs.«01_k».proof.Proof.DwInQkvClaim
public import proofs.«01_k».proof.Proof.DwInRestClaim
public import proofs.«01_k».proof.Proof.DwAttnClaim
public import proofs.«01_k».proof.Proof.DwOutClaim
public import proofs.«01_k».proof.Proof.FfnFwdClaim
public import proofs.«01_k».proof.Proof.NormClaim
public import proofs.«01_k».proof.Proof.MixFwdClaim
public import proofs.«01_k».proof.Proof.NormLastClaim
public import proofs.«01_k».proof.Proof.NormFwdClaim
public import proofs.«01_k».proof.Proof.LossGradClaim
public import proofs.«01_k».proof.Proof.AdamWClaim
public import proofs.«01_k».proof.Proof.AdaFwdClaim
public import proofs.«01_k».proof.Proof.AdaBwdClaim

@[expose] public section

noncomputable section

namespace Cert.Proof

/-- All the claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Pre_ffn_finite.Gen.facts,
    Cert.Mix.frame, Cert.Mix.frameIdeal, Cert.Mix.frameRef,
    Cert.FfnBwd.frame, Cert.FfnBwd.frameIdeal, Cert.FfnBwd.frameIdealPre, Cert.FfnBwd.frameRef, Cert.FfnBwd.frameRefPre,
    Cert.FfnDwIn.frame, Cert.FfnDwIn.frameIdeal, Cert.FfnDwIn.frameRef,
    Cert.FfnDwDown.frame, Cert.FfnDwDown.frameIdeal, Cert.FfnDwDown.frameRef,
    Cert.InProjBwd.frame, Cert.InProjBwd.frameIdeal, Cert.InProjBwd.frameRef,
    Cert.DwInQkv.frame, Cert.DwInQkv.frameIdeal, Cert.DwInQkv.frameRef,
    Cert.DwInRest.frame, Cert.DwInRest.frameIdeal, Cert.DwInRest.frameRef,
    Cert.DwAttn.frame, Cert.DwAttn.frameIdeal, Cert.DwAttn.frameRef,
    Cert.DwOut.frame, Cert.DwOut.frameIdeal, Cert.DwOut.frameRef,
    Cert.FfnFwd.frame, Cert.FfnFwd.frameIdeal, Cert.FfnFwd.frameRef,
    Cert.Norm.frame, Cert.Norm.frameIdeal, Cert.Norm.frameRef,
    Cert.MixFwd.frame, Cert.MixFwd.frameIdeal, Cert.MixFwd.frameRef,
    Cert.NormLast.frame, Cert.NormLast.frameIdeal, Cert.NormLast.frameRef,
    Cert.NormFwd.frame, Cert.NormFwd.frameIdeal, Cert.NormFwd.frameRef,
    Cert.LossGrad.frame, Cert.LossGrad.frameIdeal, Cert.LossGrad.frameRef,
    Cert.AdamW.frame, Cert.AdamW.frameIdeal, Cert.AdamW.frameRef,
    Cert.AdaFwd.frame, Cert.AdaFwd.frameIdeal, Cert.AdaFwd.frameRef,
    Cert.AdaBwd.frame, Cert.AdaBwd.frameIdeal, Cert.AdaBwd.frameRef,
    trivial, Cert.Mix.value,
    trivial, Cert.FfnBwd.value,
    trivial, Cert.FfnDwIn.value,
    trivial, Cert.FfnDwDown.value,
    trivial, Cert.InProjBwd.value,
    trivial, Cert.DwInQkv.value,
    trivial, Cert.DwInRest.value,
    trivial, Cert.DwAttn.value,
    trivial, Cert.DwOut.value,
    trivial, Cert.FfnFwd.value,
    trivial, Cert.Norm.value,
    trivial, Cert.MixFwd.value,
    trivial, Cert.NormLast.value,
    trivial, Cert.NormFwd.value,
    trivial, Cert.LossGrad.value,
    trivial, Cert.AdamW.value,
    trivial, Cert.AdaFwd.value,
    trivial, Cert.AdaBwd.value⟩

end Cert.Proof

end
